-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixRefIdeal (m : (ℓ : Loc Cert.PremixRefIdeal.nD Cert.PremixRefIdeal.τ Cert.PremixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4)
      ∧ r.2.mem ((c.tc : Thread Cert.Premix.nD Cert.Premix.τ).loc Cert.Premix.main_arg5) = m ((c.tc : Thread Cert.Premix.nD Cert.Premix.τ).loc Cert.Premix.main_arg5)
      ∧ r.2.mem ((c.tc : Thread Cert.Premix.nD Cert.Premix.τ).loc Cert.Premix.main_arg6) = m ((c.tc : Thread Cert.Premix.nD Cert.Premix.τ).loc Cert.Premix.main_arg6)
      ∧ r.2.mem ((c.tc : Thread Cert.Premix.nD Cert.Premix.τ).loc Cert.Premix.main_arg7) = m ((c.tc : Thread Cert.Premix.nD Cert.Premix.τ).loc Cert.Premix.main_arg7)
      ∧ r.2.mem ((c.tc : Thread Cert.Premix.nD Cert.Premix.τ).loc Cert.Premix.main_arg8) = m ((c.tc : Thread Cert.Premix.nD Cert.Premix.τ).loc Cert.Premix.main_arg8)
      ∧ r.2.mem ((c.tc : Thread Cert.Premix.nD Cert.Premix.τ).loc Cert.Premix.main_arg9) = m ((c.tc : Thread Cert.Premix.nD Cert.Premix.τ).loc Cert.Premix.main_arg9)
      ∧ r.2.mem ((c.tc : Thread Cert.Premix.nD Cert.Premix.τ).loc Cert.Premix.main_arg10) = m ((c.tc : Thread Cert.Premix.nD Cert.Premix.τ).loc Cert.Premix.main_arg10)
      ∧ r.2.mem ((c.tc : Thread Cert.Premix.nD Cert.Premix.τ).loc Cert.Premix.main_arg11) = m ((c.tc : Thread Cert.Premix.nD Cert.Premix.τ).loc Cert.Premix.main_arg11))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
      ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
      ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
      ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
      ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
      ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
      ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
      ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11))
      ∧ r.2.sem = fun _ => 0)

def quiescent_PremixRefIdeal [hPremixRefIdeal : Cert.PremixRefIdeal.Facts] : Prop :=
  ∀ (m : (ℓ : Loc Cert.PremixRefIdeal.nD Cert.PremixRefIdeal.τ Cert.PremixRefIdeal.sig) → Buf (Elt Ideal) ℓ) (g : Dev Cert.PremixRefIdeal.nD → PrngReg), Pre_PremixRefIdeal m →
    θ_run (Cert.PremixRefIdeal.defs (F := Ideal)) (onTc (τ := Cert.PremixRefIdeal.τ) (Cert.PremixRefIdeal.main (F := Ideal))) ⟨m, fun _ => 0, g⟩ (fun r => (∀ c : Dev Cert.PremixRefIdeal.nD,
      r.2.mem ((c.tc : Thread Cert.PremixRefIdeal.nD Cert.PremixRefIdeal.τ).loc Cert.PremixRefIdeal.main_arg0) = m ((c.tc : Thread Cert.PremixRefIdeal.nD Cert.PremixRefIdeal.τ).loc Cert.PremixRefIdeal.main_arg0)
      ∧ r.2.mem ((c.tc : Thread Cert.PremixRefIdeal.nD Cert.PremixRefIdeal.τ).loc Cert.PremixRefIdeal.main_arg1) = m ((c.tc : Thread Cert.PremixRefIdeal.nD Cert.PremixRefIdeal.τ).loc Cert.PremixRefIdeal.main_arg1)
      ∧ r.2.mem ((c.tc : Thread Cert.PremixRefIdeal.nD Cert.PremixRefIdeal.τ).loc Cert.PremixRefIdeal.main_arg2) = m ((c.tc : Thread Cert.PremixRefIdeal.nD Cert.PremixRefIdeal.τ).loc Cert.PremixRefIdeal.main_arg2)
      ∧ r.2.mem ((c.tc : Thread Cert.PremixRefIdeal.nD Cert.PremixRefIdeal.τ).loc Cert.PremixRefIdeal.main_arg3) = m ((c.tc : Thread Cert.PremixRefIdeal.nD Cert.PremixRefIdeal.τ).loc Cert.PremixRefIdeal.main_arg3)
      ∧ r.2.mem ((c.tc : Thread Cert.PremixRefIdeal.nD Cert.PremixRefIdeal.τ).loc Cert.PremixRefIdeal.main_arg4) = m ((c.tc : Thread Cert.PremixRefIdeal.nD Cert.PremixRefIdeal.τ).loc Cert.PremixRefIdeal.main_arg4)
      ∧ r.2.mem ((c.tc : Thread Cert.PremixRefIdeal.nD Cert.PremixRefIdeal.τ).loc Cert.PremixRefIdeal.main_arg5) = m ((c.tc : Thread Cert.PremixRefIdeal.nD Cert.PremixRefIdeal.τ).loc Cert.PremixRefIdeal.main_arg5)
      ∧ r.2.mem ((c.tc : Thread Cert.PremixRefIdeal.nD Cert.PremixRefIdeal.τ).loc Cert.PremixRefIdeal.main_arg6) = m ((c.tc : Thread Cert.PremixRefIdeal.nD Cert.PremixRefIdeal.τ).loc Cert.PremixRefIdeal.main_arg6)
      ∧ r.2.mem ((c.tc : Thread Cert.PremixRefIdeal.nD Cert.PremixRefIdeal.τ).loc Cert.PremixRefIdeal.main_arg7) = m ((c.tc : Thread Cert.PremixRefIdeal.nD Cert.PremixRefIdeal.τ).loc Cert.PremixRefIdeal.main_arg7)
      ∧ r.2.mem ((c.tc : Thread Cert.PremixRefIdeal.nD Cert.PremixRefIdeal.τ).loc Cert.PremixRefIdeal.main_arg8) = m ((c.tc : Thread Cert.PremixRefIdeal.nD Cert.PremixRefIdeal.τ).loc Cert.PremixRefIdeal.main_arg8)
      ∧ r.2.mem ((c.tc : Thread Cert.PremixRefIdeal.nD Cert.PremixRefIdeal.τ).loc Cert.PremixRefIdeal.main_arg9) = m ((c.tc : Thread Cert.PremixRefIdeal.nD Cert.PremixRefIdeal.τ).loc Cert.PremixRefIdeal.main_arg9)
      ∧ r.2.mem ((c.tc : Thread Cert.PremixRefIdeal.nD Cert.PremixRefIdeal.τ).loc Cert.PremixRefIdeal.main_arg10) = m ((c.tc : Thread Cert.PremixRefIdeal.nD Cert.PremixRefIdeal.τ).loc Cert.PremixRefIdeal.main_arg10)
      ∧ r.2.mem ((c.tc : Thread Cert.PremixRefIdeal.nD Cert.PremixRefIdeal.τ).loc Cert.PremixRefIdeal.main_arg11) = m ((c.tc : Thread Cert.PremixRefIdeal.nD Cert.PremixRefIdeal.τ).loc Cert.PremixRefIdeal.main_arg11))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v318) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v4)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v4) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v39) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_Premix_PremixIdeal : Prop :=
  True

def algebraic_PremixIdeal_PremixRefIdeal [hPremixIdeal : Cert.PremixIdeal.Facts] [hPremixRefIdeal : Cert.PremixRefIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixRefIdeal.nD Cert.PremixRefIdeal.τ Cert.PremixRefIdeal.sig) → Buf (Elt Ideal) ℓ) (g' : Dev Cert.PremixRefIdeal.nD → PrngReg), Pre_PremixIdeal m →
    (∀ c : Dev Cert.PremixIdeal.nD,
      m' ((c.tc : Thread Cert.PremixRefIdeal.nD Cert.PremixRefIdeal.τ).loc Cert.PremixRefIdeal.main_arg0) = m ((c.tc : Thread Cert.PremixIdeal.nD Cert.PremixIdeal.τ).loc Cert.PremixIdeal.main_arg0)
      ∧ m' ((c.tc : Thread Cert.PremixRefIdeal.nD Cert.PremixRefIdeal.τ).loc Cert.PremixRefIdeal.main_arg1) = m ((c.tc : Thread Cert.PremixIdeal.nD Cert.PremixIdeal.τ).loc Cert.PremixIdeal.main_arg1)
      ∧ m' ((c.tc : Thread Cert.PremixRefIdeal.nD Cert.PremixRefIdeal.τ).loc Cert.PremixRefIdeal.main_arg2) = m ((c.tc : Thread Cert.PremixIdeal.nD Cert.PremixIdeal.τ).loc Cert.PremixIdeal.main_arg2)
      ∧ m' ((c.tc : Thread Cert.PremixRefIdeal.nD Cert.PremixRefIdeal.τ).loc Cert.PremixRefIdeal.main_arg3) = m ((c.tc : Thread Cert.PremixIdeal.nD Cert.PremixIdeal.τ).loc Cert.PremixIdeal.main_arg3)
      ∧ m' ((c.tc : Thread Cert.PremixRefIdeal.nD Cert.PremixRefIdeal.τ).loc Cert.PremixRefIdeal.main_arg4) = m ((c.tc : Thread Cert.PremixIdeal.nD Cert.PremixIdeal.τ).loc Cert.PremixIdeal.main_arg4)
      ∧ m' ((c.tc : Thread Cert.PremixRefIdeal.nD Cert.PremixRefIdeal.τ).loc Cert.PremixRefIdeal.main_arg5) = m ((c.tc : Thread Cert.PremixIdeal.nD Cert.PremixIdeal.τ).loc Cert.PremixIdeal.main_arg5)
      ∧ m' ((c.tc : Thread Cert.PremixRefIdeal.nD Cert.PremixRefIdeal.τ).loc Cert.PremixRefIdeal.main_arg6) = m ((c.tc : Thread Cert.PremixIdeal.nD Cert.PremixIdeal.τ).loc Cert.PremixIdeal.main_arg6)
      ∧ m' ((c.tc : Thread Cert.PremixRefIdeal.nD Cert.PremixRefIdeal.τ).loc Cert.PremixRefIdeal.main_arg7) = m ((c.tc : Thread Cert.PremixIdeal.nD Cert.PremixIdeal.τ).loc Cert.PremixIdeal.main_arg7)
      ∧ m' ((c.tc : Thread Cert.PremixRefIdeal.nD Cert.PremixRefIdeal.τ).loc Cert.PremixRefIdeal.main_arg8) = m ((c.tc : Thread Cert.PremixIdeal.nD Cert.PremixIdeal.τ).loc Cert.PremixIdeal.main_arg8)
      ∧ m' ((c.tc : Thread Cert.PremixRefIdeal.nD Cert.PremixRefIdeal.τ).loc Cert.PremixRefIdeal.main_arg9) = m ((c.tc : Thread Cert.PremixIdeal.nD Cert.PremixIdeal.τ).loc Cert.PremixIdeal.main_arg9)
      ∧ m' ((c.tc : Thread Cert.PremixRefIdeal.nD Cert.PremixRefIdeal.τ).loc Cert.PremixRefIdeal.main_arg10) = m ((c.tc : Thread Cert.PremixIdeal.nD Cert.PremixIdeal.τ).loc Cert.PremixIdeal.main_arg10)
      ∧ m' ((c.tc : Thread Cert.PremixRefIdeal.nD Cert.PremixRefIdeal.τ).loc Cert.PremixRefIdeal.main_arg11) = m ((c.tc : Thread Cert.PremixIdeal.nD Cert.PremixIdeal.τ).loc Cert.PremixIdeal.main_arg11)) →
    ∃ (v0 : (c : Dev Cert.PremixIdeal.nD) → Buf (Elt Ideal) ((c.tc : Thread Cert.PremixIdeal.nD Cert.PremixIdeal.τ).loc Cert.PremixIdeal.main_v55_0)) (v1 : (c : Dev Cert.PremixIdeal.nD) → Buf (Elt Ideal) ((c.tc : Thread Cert.PremixIdeal.nD Cert.PremixIdeal.τ).loc Cert.PremixIdeal.main_v55_1)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v55_0) = v0 c
          ∧ r.2.mem ((c.tc : Thread Cert.PremixIdeal.nD Cert.PremixIdeal.τ).loc Cert.PremixIdeal.main_v55_1) = v1 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
          ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
          ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
          ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
          ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
          ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
          ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
          ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11))
      ∧ θ_run (Cert.PremixRefIdeal.defs (F := Ideal)) (onTc (τ := Cert.PremixRefIdeal.τ) (Cert.PremixRefIdeal.main (F := Ideal))) ⟨m', fun _ => 0, g'⟩ (fun r => ∀ c : Dev Cert.PremixRefIdeal.nD,
          r.2.mem ((c.tc : Thread Cert.PremixRefIdeal.nD Cert.PremixRefIdeal.τ).loc Cert.PremixRefIdeal.main_v42) = v0 c
          ∧ r.2.mem ((c.tc : Thread Cert.PremixRefIdeal.nD Cert.PremixRefIdeal.τ).loc Cert.PremixRefIdeal.main_v148) = v1 c
          ∧ r.2.mem ((c.tc : Thread Cert.PremixRefIdeal.nD Cert.PremixRefIdeal.τ).loc Cert.PremixRefIdeal.main_arg0) = m' ((c.tc : Thread Cert.PremixRefIdeal.nD Cert.PremixRefIdeal.τ).loc Cert.PremixRefIdeal.main_arg0)
          ∧ r.2.mem ((c.tc : Thread Cert.PremixRefIdeal.nD Cert.PremixRefIdeal.τ).loc Cert.PremixRefIdeal.main_arg1) = m' ((c.tc : Thread Cert.PremixRefIdeal.nD Cert.PremixRefIdeal.τ).loc Cert.PremixRefIdeal.main_arg1)
          ∧ r.2.mem ((c.tc : Thread Cert.PremixRefIdeal.nD Cert.PremixRefIdeal.τ).loc Cert.PremixRefIdeal.main_arg2) = m' ((c.tc : Thread Cert.PremixRefIdeal.nD Cert.PremixRefIdeal.τ).loc Cert.PremixRefIdeal.main_arg2)
          ∧ r.2.mem ((c.tc : Thread Cert.PremixRefIdeal.nD Cert.PremixRefIdeal.τ).loc Cert.PremixRefIdeal.main_arg3) = m' ((c.tc : Thread Cert.PremixRefIdeal.nD Cert.PremixRefIdeal.τ).loc Cert.PremixRefIdeal.main_arg3)
          ∧ r.2.mem ((c.tc : Thread Cert.PremixRefIdeal.nD Cert.PremixRefIdeal.τ).loc Cert.PremixRefIdeal.main_arg4) = m' ((c.tc : Thread Cert.PremixRefIdeal.nD Cert.PremixRefIdeal.τ).loc Cert.PremixRefIdeal.main_arg4)
          ∧ r.2.mem ((c.tc : Thread Cert.PremixRefIdeal.nD Cert.PremixRefIdeal.τ).loc Cert.PremixRefIdeal.main_arg5) = m' ((c.tc : Thread Cert.PremixRefIdeal.nD Cert.PremixRefIdeal.τ).loc Cert.PremixRefIdeal.main_arg5)
          ∧ r.2.mem ((c.tc : Thread Cert.PremixRefIdeal.nD Cert.PremixRefIdeal.τ).loc Cert.PremixRefIdeal.main_arg6) = m' ((c.tc : Thread Cert.PremixRefIdeal.nD Cert.PremixRefIdeal.τ).loc Cert.PremixRefIdeal.main_arg6)
          ∧ r.2.mem ((c.tc : Thread Cert.PremixRefIdeal.nD Cert.PremixRefIdeal.τ).loc Cert.PremixRefIdeal.main_arg7) = m' ((c.tc : Thread Cert.PremixRefIdeal.nD Cert.PremixRefIdeal.τ).loc Cert.PremixRefIdeal.main_arg7)
          ∧ r.2.mem ((c.tc : Thread Cert.PremixRefIdeal.nD Cert.PremixRefIdeal.τ).loc Cert.PremixRefIdeal.main_arg8) = m' ((c.tc : Thread Cert.PremixRefIdeal.nD Cert.PremixRefIdeal.τ).loc Cert.PremixRefIdeal.main_arg8)
          ∧ r.2.mem ((c.tc : Thread Cert.PremixRefIdeal.nD Cert.PremixRefIdeal.τ).loc Cert.PremixRefIdeal.main_arg9) = m' ((c.tc : Thread Cert.PremixRefIdeal.nD Cert.PremixRefIdeal.τ).loc Cert.PremixRefIdeal.main_arg9)
          ∧ r.2.mem ((c.tc : Thread Cert.PremixRefIdeal.nD Cert.PremixRefIdeal.τ).loc Cert.PremixRefIdeal.main_arg10) = m' ((c.tc : Thread Cert.PremixRefIdeal.nD Cert.PremixRefIdeal.τ).loc Cert.PremixRefIdeal.main_arg10)
          ∧ r.2.mem ((c.tc : Thread Cert.PremixRefIdeal.nD Cert.PremixRefIdeal.τ).loc Cert.PremixRefIdeal.main_arg11) = m' ((c.tc : Thread Cert.PremixRefIdeal.nD Cert.PremixRefIdeal.τ).loc Cert.PremixRefIdeal.main_arg11))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hFfnFirst : Cert.FfnFirst.Facts) (hFfnFirstIdeal : Cert.FfnFirstIdeal.Facts) (hFfnFirstRefIdeal : Cert.FfnFirstRefIdeal.Facts) (hPremix : Cert.Premix.Facts) (hPremixIdeal : Cert.PremixIdeal.Facts) (hPremixRefIdeal : Cert.PremixRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Premix (hPremix := hPremix)
    ∧ quiescent_PremixIdeal (hPremixIdeal := hPremixIdeal)
    ∧ quiescent_PremixRefIdeal (hPremixRefIdeal := hPremixRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Premix_PremixIdeal
    ∧ algebraic_PremixIdeal_PremixRefIdeal (hPremixIdeal := hPremixIdeal) (hPremixRefIdeal := hPremixRefIdeal)
-- ==== Ffn.lean ====
abbrev S2x16384x1024 : Shape := ⟨3, ![2, 16384, 1024]⟩
abbrev S2x2x6x1x1024 : Shape := ⟨5, ![2, 2, 6, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S2x1x1024, .f32⟩
  | .hbm, ⟨9, _⟩ => ⟨S1x1024, .f32⟩
  | .hbm, ⟨10, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg0.toNat, c4_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg0.toNat, c3_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S2x16384x1024 : Shape := ⟨3, ![2, 16384, 1024]⟩
abbrev S2x2x6x1x1024 : Shape := ⟨5, ![2, 2, 6, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x2x1x1x1024 : Shape := ⟨5, ![1, 2, 1, 1, 1024]⟩
abbrev S2x1x1024 : Shape := ⟨3, ![2, 1, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x2x1x1x1024, .f32⟩
  | .hbm, ⟨7, _⟩ => ⟨S2x1x1024, .f32⟩
  | .hbm, ⟨8, _⟩ => ⟨S1x2x1x1x1024, .f32⟩
  | .hbm, ⟨9, _⟩ => ⟨S2x1x1024, .f32⟩
  | .hbm, ⟨10, _⟩ => ⟨S1x2x1x1x1024, .f32⟩
  | .hbm, ⟨11, _⟩ => ⟨S2x1x1024, .f32⟩
  | .hbm, ⟨12, _⟩ => ⟨S1x1024, .f32⟩
  | .hbm, ⟨13, _⟩ => ⟨S1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S1x1024x5632, .f32⟩
  | .hbm, ⟨38, _⟩ => ⟨S1024x5632, .f32⟩
  | .hbm, ⟨39, _⟩ => ⟨S2x16384x5632, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S2x16384x2816, .f32⟩
  | .hbm, ⟨44, _⟩ => ⟨S_, .f32⟩
  | .hbm, ⟨45, _⟩ => ⟨S2x16384x2816, .f32⟩
  | .hbm, ⟨46, _⟩ => ⟨S2x16384x2816, .f32⟩
  | .hbm, ⟨47, _⟩ => ⟨S_, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S1x2816x1024, .f32⟩
  | .hbm, ⟨53, _⟩ => ⟨S2816x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S2x16384x1, .f32⟩
  | .hbm, ⟨69, _⟩ => ⟨S2x16384x1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Merge.lean ====
abbrev S2x16384x1024 : Shape := ⟨3, ![2, 16384, 1024]⟩
abbrev S2x2x6x1x1024 : Shape := ⟨5, ![2, 2, 6, 1, 1024]⟩
abbrev S2x16384x512 : Shape := ⟨3, ![2, 16384, 512]⟩
abbrev S2x1024 : Shape := ⟨2, ![2, 1024]⟩
abbrev S2x31x512 : Shape := ⟨3, ![2, 31, 512]⟩
abbrev S2x512 : Shape := ⟨2, ![2, 512]⟩
abbrev S2x1024x3072 : Shape := ⟨3, ![2, 1024, 3072]⟩
abbrev S2x3072 : Shape := ⟨2, ![2, 3072]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S2x1x512 : Shape := ⟨3, ![2, 1, 512]⟩
abbrev S2x1x3072 : Shape := ⟨3, ![2, 1, 3072]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x512x512 : Shape := ⟨3, ![1, 512, 512]⟩
abbrev S1x31x512 : Shape := ⟨3, ![1, 31, 512]⟩
abbrev S1x1x512 : Shape := ⟨3, ![1, 1, 512]⟩
abbrev S1x1024x3072 : Shape := ⟨3, ![1, 1024, 3072]⟩
abbrev S1x1x3072 : Shape := ⟨3, ![1, 1, 3072]⟩
abbrev S1x1024x1024 : Shape := ⟨3, ![1, 1024, 1024]⟩
abbrev S288x512 : Shape := ⟨2, ![288, 512]⟩
abbrev S7x280x512 : Shape := ⟨3, ![7, 280, 512]⟩
abbrev S32x512 : Shape := ⟨2, ![32, 512]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S1x256x512 : Shape := ⟨3, ![1, 256, 512]⟩
abbrev S256x512 : Shape := ⟨2, ![256, 512]⟩
abbrev S280x512 : Shape := ⟨2, ![280, 512]⟩
abbrev S1x280x512 : Shape := ⟨3, ![1, 280, 512]⟩
abbrev S1x512 : Shape := ⟨2, ![1, 512]⟩
abbrev S256 : Shape := ⟨1, ![256]⟩
abbrev S256x1 : Shape := ⟨2, ![256, 1]⟩

abbrev nBuf : Space → Nat
  | .hbm => 27
  | .vmem => 29
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S2x16384x512, .f32⟩
  | .hbm, ⟨3, _⟩ => ⟨S2x16384x512, .bf16⟩
  | .hbm, ⟨4, _⟩ => ⟨S2x16384x512, .bf16⟩
  | .hbm, ⟨5, _⟩ => ⟨S2x1024, .f32⟩
  | .hbm, ⟨6, _⟩ => ⟨S2x31x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x1024x3072, .f32⟩
  | .hbm, ⟨11, _⟩ => ⟨S2x3072, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S2x1024x1024, .f32⟩
  | .hbm, ⟨16, _⟩ => ⟨S2x1x1024, .f32⟩
  | .hbm, ⟨17, _⟩ => ⟨S2x1x512, .f32⟩
  | .hbm, ⟨18, _⟩ => ⟨S2x1x512, .f32⟩
  | .hbm, ⟨19, _⟩ => ⟨S2x1x512, .f32⟩
  | .hbm, ⟨20, _⟩ => ⟨S2x1024x3072, .bf16⟩
  | .hbm, ⟨21, _⟩ => ⟨S2x1x3072, .f32⟩
  | .hbm, ⟨22, _⟩ => ⟨S2x512x1024, .bf16⟩
  | .hbm, ⟨23, _⟩ => ⟨S2x512x1024, .bf16⟩
  | .hbm, ⟨24, _⟩ => ⟨S2x512x1024, .bf16⟩
  | .hbm, ⟨25, _⟩ => ⟨S2x1024x1024, .bf16⟩
  | .hbm, ⟨26, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x31x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1024x3072, .bf16⟩
  | .local _ .vmem, ⟨20, _⟩ => ⟨S1x1x3072, .f32⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x1024x1024, .bf16⟩
  | .local _ .vmem, ⟨25, _⟩ => ⟨S1x512x1024, .f32⟩
  | .local _ .vmem, ⟨26, _⟩ => ⟨S1x512x1024, .f32⟩
  | .local _ .vmem, ⟨27, _⟩ => ⟨S288x512, .f32⟩
  | .local _ .vmem, ⟨28, _⟩ => ⟨S7x280x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeRefIdeal.lean ====
abbrev S2x16384x1024 : Shape := ⟨3, ![2, 16384, 1024]⟩
abbrev S2x2x6x1x1024 : Shape := ⟨5, ![2, 2, 6, 1, 1024]⟩
abbrev S2x16384x512 : Shape := ⟨3, ![2, 16384, 512]⟩
abbrev S2x1024 : Shape := ⟨2, ![2, 1024]⟩
abbrev S2x31x512 : Shape := ⟨3, ![2, 31, 512]⟩
abbrev S2x512 : Shape := ⟨2, ![2, 512]⟩
abbrev S2x1024x3072 : Shape := ⟨3, ![2, 1024, 3072]⟩
abbrev S2x3072 : Shape := ⟨2, ![2, 3072]⟩
abbrev S2x512x1024 : Shape := ⟨3, ![2, 512, 1024]⟩
abbrev S2x1024x1024 : Shape := ⟨3, ![2, 1024, 1024]⟩
abbrev S1x2x1x1x1024 : Shape := ⟨5, ![1, 2, 1, 1, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S2x16414x512 : Shape := ⟨3, ![2, 16414, 512]⟩
abbrev S1x1x512 : Shape := ⟨3, ![1, 1, 512]⟩
abbrev S1x512x1024 : Shape := ⟨3, ![1, 512, 1024]⟩
abbrev S512x1024 : Shape := ⟨2, ![512, 1024]⟩
abbrev S1x1024x3072 : Shape := ⟨3, ![1, 1024, 3072]⟩
abbrev S1024x3072 : Shape := ⟨2, ![1024, 3072]⟩
abbrev S2x16384x3072 : Shape := ⟨3, ![2, 16384, 3072]⟩
abbrev S1x3072 : Shape := ⟨2, ![1, 3072]⟩
abbrev S3072 : Shape := ⟨1, ![3072]⟩
abbrev S1x1x3072 : Shape := ⟨3, ![1, 1, 3072]⟩
abbrev S1x1024x1024 : Shape := ⟨3, ![1, 1024, 1024]⟩
abbrev S1024x1024 : Shape := ⟨2, ![1024, 1024]⟩

abbrev nBuf : Space → Nat
  | .hbm => 356
  | .vmem => 0
  | .smem => 0
  | _ => 0

abbrev hbmTy0_0 (i : Nat) : BufTy := match i % 128 with
  | 0 => ⟨S2x16384x1024, .f32⟩
  | 1 => ⟨S2x2x6x1x1024, .f32⟩
  | 2 => ⟨S2x16384x512, .f32⟩
  | 3 => ⟨S2x16384x512, .bf16⟩
  | 4 => ⟨S2x16384x512, .bf16⟩
  | 5 => ⟨S2x1024, .f32⟩
  | 6 => ⟨S2x31x512, .f32⟩
  | 7 => ⟨S2x512, .f32⟩
  | 8 => ⟨S2x512, .f32⟩
  | 9 => ⟨S2x512, .f32⟩
  | 10 => ⟨S2x1024x3072, .f32⟩
  | 11 => ⟨S2x3072, .f32⟩
  | 12 => ⟨S2x512x1024, .f32⟩
  | 13 => ⟨S2x512x1024, .f32⟩
  | 14 => ⟨S2x512x1024, .f32⟩
  | 15 => ⟨S2x1024x1024, .f32⟩
  | 16 => ⟨S1x2x1x1x1024, .f32⟩
  | 17 => ⟨S2x1x1024, .f32⟩
  | 18 => ⟨S1x2x1x1x1024, .f32⟩
  | 19 => ⟨S2x1x1024, .f32⟩
  | 20 => ⟨S1x2x1x1x1024, .f32⟩
  | 21 => ⟨S2x1x1024, .f32⟩
  | 22 => ⟨S1x1024, .f32⟩
  | 23 => ⟨S1024, .f32⟩
  | 24 => ⟨S2x16384x1024, .f32⟩
  | 25 => ⟨S_, .f32⟩
  | 26 => ⟨S2x16384, .f32⟩
  | 27 => ⟨S2x16384x1, .f32⟩
  | 28 => ⟨S_, .f32⟩
  | 29 => ⟨S2x16384x1, .f32⟩
  | 30 => ⟨S2x16384x1, .f32⟩
  | 31 => ⟨S_, .f32⟩
  | 32 => ⟨S2x16384x1, .f32⟩
  | 33 => ⟨S2x16384x1, .f32⟩
  | 34 => ⟨S2x16384x1, .f32⟩
  | 35 => ⟨S2x16384x1024, .f32⟩
  | 36 => ⟨S2x16384x1024, .f32⟩
  | 37 => ⟨S1x1x1024, .f32⟩
  | 38 => ⟨S2x16384x1024, .f32⟩
  | 39 => ⟨S2x16384x1024, .f32⟩
  | 40 => ⟨S_, .f32⟩
  | 41 => ⟨S2x1x1024, .f32⟩
  | 42 => ⟨S2x1x1024, .f32⟩
  | 43 => ⟨S2x16384x1024, .f32⟩
  | 44 => ⟨S2x16384x1024, .f32⟩
  | 45 => ⟨S2x16384x1024, .f32⟩
  | 46 => ⟨S2x16384x1024, .f32⟩
  | 47 => ⟨S1x31x512, .f32⟩
  | 48 => ⟨S31x512, .f32⟩
  | 49 => ⟨S1x512, .f32⟩
  | 50 => ⟨S512, .f32⟩
  | 51 => ⟨S_, .i32⟩
  | 52 => ⟨S_, .f32⟩
  | 53 => ⟨S2x16414x512, .f32⟩
  | 54 => ⟨S1x512, .f32⟩
  | 55 => ⟨S512, .f32⟩
  | 56 => ⟨S2x16384x512, .f32⟩
  | 57 => ⟨S1x1x512, .f32⟩
  | 58 => ⟨S2x16384x512, .f32⟩
  | 59 => ⟨S2x16384x512, .f32⟩
  | 60 => ⟨S1x512, .f32⟩
  | 61 => ⟨S512, .f32⟩
  | 62 => ⟨S2x16384x512, .f32⟩
  | 63 => ⟨S1x1x512, .f32⟩
  | 64 => ⟨S2x16384x512, .f32⟩
  | 65 => ⟨S2x16384x512, .f32⟩
  | 66 => ⟨S2x16384x512, .f32⟩
  | 67 => ⟨S1x512, .f32⟩
  | 68 => ⟨S512, .f32⟩
  | 69 => ⟨S2x16384x512, .f32⟩
  | 70 => ⟨S1x1x512, .f32⟩
  | 71 => ⟨S2x16384x512, .f32⟩
  | 72 => ⟨S2x16384x512, .f32⟩
  | 73 => ⟨S2x16384x512, .f32⟩
  | 74 => ⟨S1x512, .f32⟩
  | 75 => ⟨S512, .f32⟩
  | 76 => ⟨S2x16384x512, .f32⟩
  | 77 => ⟨S1x1x512, .f32⟩
  | 78 => ⟨S2x16384x512, .f32⟩
  | 79 => ⟨S2x16384x512, .f32⟩
  | 80 => ⟨S2x16384x512, .f32⟩
  | 81 => ⟨S1x512, .f32⟩
  | 82 => ⟨S512, .f32⟩
  | 83 => ⟨S2x16384x512, .f32⟩
  | 84 => ⟨S1x1x512, .f32⟩
  | 85 => ⟨S2x16384x512, .f32⟩
  | 86 => ⟨S2x16384x512, .f32⟩
  | 87 => ⟨S2x16384x512, .f32⟩
  | 88 => ⟨S1x512, .f32⟩
  | 89 => ⟨S512, .f32⟩
  | 90 => ⟨S2x16384x512, .f32⟩
  | 91 => ⟨S1x1x512, .f32⟩
  | 92 => ⟨S2x16384x512, .f32⟩
  | 93 => ⟨S2x16384x512, .f32⟩
  | 94 => ⟨S2x16384x512, .f32⟩
  | 95 => ⟨S1x512, .f32⟩
  | 96 => ⟨S512, .f32⟩
  | 97 => ⟨S2x16384x512, .f32⟩
  | 98 => ⟨S1x1x512, .f32⟩
  | 99 => ⟨S2x16384x512, .f32⟩
  | 100 => ⟨S2x16384x512, .f32⟩
  | 101 => ⟨S2x16384x512, .f32⟩
  | 102 => ⟨S1x512, .f32⟩
  | 103 => ⟨S512, .f32⟩
  | 104 => ⟨S2x16384x512, .f32⟩
  | 105 => ⟨S1x1x512, .f32⟩
  | 106 => ⟨S2x16384x512, .f32⟩
  | 107 => ⟨S2x16384x512, .f32⟩
  | 108 => ⟨S2x16384x512, .f32⟩
  | 109 => ⟨S1x512, .f32⟩
  | 110 => ⟨S512, .f32⟩
  | 111 => ⟨S2x16384x512, .f32⟩
  | 112 => ⟨S1x1x512, .f32⟩
  | 113 => ⟨S2x16384x512, .f32⟩
  | 114 => ⟨S2x16384x512, .f32⟩
  | 115 => ⟨S2x16384x512, .f32⟩
  | 116 => ⟨S1x512, .f32⟩
  | 117 => ⟨S512, .f32⟩
  | 118 => ⟨S2x16384x512, .f32⟩
  | 119 => ⟨S1x1x512, .f32⟩
  | 120 => ⟨S2x16384x512, .f32⟩
  | 121 => ⟨S2x16384x512, .f32⟩
  | 122 => ⟨S2x16384x512, .f32⟩
  | 123 => ⟨S1x512, .f32⟩
  | 124 => ⟨S512, .f32⟩
  | 125 => ⟨S2x16384x512, .f32⟩
  | 126 => ⟨S1x1x512, .f32⟩
  | 127 => ⟨S2x16384x512, .f32⟩
  | _ => ⟨S2x16384x1024, .f32⟩

abbrev hbmTy0_1 (i : Nat) : BufTy := match i % 128 with
  | 0 => ⟨S2x16384x512, .f32⟩
  | 1 => ⟨S2x16384x512, .f32⟩
  | 2 => ⟨S1x512, .f32⟩
  | 3 => ⟨S512, .f32⟩
  | 4 => ⟨S2x16384x512, .f32⟩
  | 5 => ⟨S1x1x512, .f32⟩
  | 6 => ⟨S2x16384x512, .f32⟩
  | 7 => ⟨S2x16384x512, .f32⟩
  | 8 => ⟨S2x16384x512, .f32⟩
  | 9 => ⟨S1x512, .f32⟩
  | 10 => ⟨S512, .f32⟩
  | 11 => ⟨S2x16384x512, .f32⟩
  | 12 => ⟨S1x1x512, .f32⟩
  | 13 => ⟨S2x16384x512, .f32⟩
  | 14 => ⟨S2x16384x512, .f32⟩
  | 15 => ⟨S2x16384x512, .f32⟩
  | 16 => ⟨S1x512, .f32⟩
  | 17 => ⟨S512, .f32⟩
  | 18 => ⟨S2x16384x512, .f32⟩
  | 19 => ⟨S1x1x512, .f32⟩
  | 20 => ⟨S2x16384x512, .f32⟩
  | 21 => ⟨S2x16384x512, .f32⟩
  | 22 => ⟨S2x16384x512, .f32⟩
  | 23 => ⟨S1x512, .f32⟩
  | 24 => ⟨S512, .f32⟩
  | 25 => ⟨S2x16384x512, .f32⟩
  | 26 => ⟨S1x1x512, .f32⟩
  | 27 => ⟨S2x16384x512, .f32⟩
  | 28 => ⟨S2x16384x512, .f32⟩
  | 29 => ⟨S2x16384x512, .f32⟩
  | 30 => ⟨S1x512, .f32⟩
  | 31 => ⟨S512, .f32⟩
  | 32 => ⟨S2x16384x512, .f32⟩
  | 33 => ⟨S1x1x512, .f32⟩
  | 34 => ⟨S2x16384x512, .f32⟩
  | 35 => ⟨S2x16384x512, .f32⟩
  | 36 => ⟨S2x16384x512, .f32⟩
  | 37 => ⟨S1x512, .f32⟩
  | 38 => ⟨S512, .f32⟩
  | 39 => ⟨S2x16384x512, .f32⟩
  | 40 => ⟨S1x1x512, .f32⟩
  | 41 => ⟨S2x16384x512, .f32⟩
  | 42 => ⟨S2x16384x512, .f32⟩
  | 43 => ⟨S2x16384x512, .f32⟩
  | 44 => ⟨S1x512, .f32⟩
  | 45 => ⟨S512, .f32⟩
  | 46 => ⟨S2x16384x512, .f32⟩
  | 47 => ⟨S1x1x512, .f32⟩
  | 48 => ⟨S2x16384x512, .f32⟩
  | 49 => ⟨S2x16384x512, .f32⟩
  | 50 => ⟨S2x16384x512, .f32⟩
  | 51 => ⟨S1x512, .f32⟩
  | 52 => ⟨S512, .f32⟩
  | 53 => ⟨S2x16384x512, .f32⟩
  | 54 => ⟨S1x1x512, .f32⟩
  | 55 => ⟨S2x16384x512, .f32⟩
  | 56 => ⟨S2x16384x512, .f32⟩
  | 57 => ⟨S2x16384x512, .f32⟩
  | 58 => ⟨S1x512, .f32⟩
  | 59 => ⟨S512, .f32⟩
  | 60 => ⟨S2x16384x512, .f32⟩
  | 61 => ⟨S1x1x512, .f32⟩
  | 62 => ⟨S2x16384x512, .f32⟩
  | 63 => ⟨S2x16384x512, .f32⟩
  | 64 => ⟨S2x16384x512, .f32⟩
  | 65 => ⟨S1x512, .f32⟩
  | 66 => ⟨S512, .f32⟩
  | 67 => ⟨S2x16384x512, .f32⟩
  | 68 => ⟨S1x1x512, .f32⟩
  | 69 => ⟨S2x16384x512, .f32⟩
  | 70 => ⟨S2x16384x512, .f32⟩
  | 71 => ⟨S2x16384x512, .f32⟩
  | 72 => ⟨S1x512, .f32⟩
  | 73 => ⟨S512, .f32⟩
  | 74 => ⟨S2x16384x512, .f32⟩
  | 75 => ⟨S1x1x512, .f32⟩
  | 76 => ⟨S2x16384x512, .f32⟩
  | 77 => ⟨S2x16384x512, .f32⟩
  | 78 => ⟨S2x16384x512, .f32⟩
  | 79 => ⟨S1x512, .f32⟩
  | 80 => ⟨S512, .f32⟩
  | 81 => ⟨S2x16384x512, .f32⟩
  | 82 => ⟨S1x1x512, .f32⟩
  | 83 => ⟨S2x16384x512, .f32⟩
  | 84 => ⟨S2x16384x512, .f32⟩
  | 85 => ⟨S2x16384x512, .f32⟩
  | 86 => ⟨S1x512, .f32⟩
  | 87 => ⟨S512, .f32⟩
  | 88 => ⟨S2x16384x512, .f32⟩
  | 89 => ⟨S1x1x512, .f32⟩
  | 90 => ⟨S2x16384x512, .f32⟩
  | 91 => ⟨S2x16384x512, .f32⟩
  | 92 => ⟨S2x16384x512, .f32⟩
  | 93 => ⟨S1x512, .f32⟩
  | 94 => ⟨S512, .f32⟩
  | 95 => ⟨S2x16384x512, .f32⟩
  | 96 => ⟨S1x1x512, .f32⟩
  | 97 => ⟨S2x16384x512, .f32⟩
  | 98 => ⟨S2x16384x512, .f32⟩
  | 99 => ⟨S2x16384x512, .f32⟩
  | 100 => ⟨S1x512, .f32⟩
  | 101 => ⟨S512, .f32⟩
  | 102 => ⟨S2x16384x512, .f32⟩
  | 103 => ⟨S1x1x512, .f32⟩
  | 104 => ⟨S2x16384x512, .f32⟩
  | 105 => ⟨S2x16384x512, .f32⟩
  | 106 => ⟨S2x16384x512, .f32⟩
  | 107 => ⟨S1x512, .f32⟩
  | 108 => ⟨S512, .f32⟩
  | 109 => ⟨S2x16384x512, .f32⟩
  | 110 => ⟨S1x1x512, .f32⟩
  | 111 => ⟨S2x16384x512, .f32⟩
  | 112 => ⟨S2x16384x512, .f32⟩
  | 113 => ⟨S2x16384x512, .f32⟩
  | 114 => ⟨S1x512, .f32⟩
  | 115 => ⟨S512, .f32⟩
  | 116 => ⟨S2x16384x512, .f32⟩
  | 117 => ⟨S1x1x512, .f32⟩
  | 118 => ⟨S2x16384x512, .f32⟩
  | 119 => ⟨S2x16384x512, .f32⟩
  | 120 => ⟨S2x16384x512, .f32⟩
  | 121 => ⟨S1x512, .f32⟩
  | 122 => ⟨S512, .f32⟩
  | 123 => ⟨S2x16384x512, .f32⟩
  | 124 => ⟨S1x1x512, .f32⟩
  | 125 => ⟨S2x16384x512, .f32⟩
  | 126 => ⟨S2x16384x512, .f32⟩
  | 127 => ⟨S2x16384x512, .f32⟩
  | _ => ⟨S2x16384x1024, .f32⟩

abbrev hbmTy0_2 (i : Nat) : BufTy := match i % 128 with
  | 0 => ⟨S1x512, .f32⟩
  | 1 => ⟨S512, .f32⟩
  | 2 => ⟨S2x16384x512, .f32⟩
  | 3 => ⟨S1x1x512, .f32⟩
  | 4 => ⟨S2x16384x512, .f32⟩
  | 5 => ⟨S2x16384x512, .f32⟩
  | 6 => ⟨S2x16384x512, .f32⟩
  | 7 => ⟨S1x512, .f32⟩
  | 8 => ⟨S512, .f32⟩
  | 9 => ⟨S2x16384x512, .f32⟩
  | 10 => ⟨S1x1x512, .f32⟩
  | 11 => ⟨S2x16384x512, .f32⟩
  | 12 => ⟨S2x16384x512, .f32⟩
  | 13 => ⟨S2x16384x512, .f32⟩
  | 14 => ⟨S1x1x512, .f32⟩
  | 15 => ⟨S2x16384x512, .f32⟩
  | 16 => ⟨S2x16384x512, .f32⟩
  | 17 => ⟨S1x512, .f32⟩
  | 18 => ⟨S512, .f32⟩
  | 19 => ⟨S1x512, .f32⟩
  | 20 => ⟨S512, .f32⟩
  | 21 => ⟨S_, .f32⟩
  | 22 => ⟨S2x16384, .f32⟩
  | 23 => ⟨S2x16384x1, .f32⟩
  | 24 => ⟨S_, .f32⟩
  | 25 => ⟨S2x16384x1, .f32⟩
  | 26 => ⟨S2x16384x1, .f32⟩
  | 27 => ⟨S2x16384x512, .f32⟩
  | 28 => ⟨S2x16384x512, .f32⟩
  | 29 => ⟨S2x16384x512, .f32⟩
  | 30 => ⟨S_, .f32⟩
  | 31 => ⟨S2x16384, .f32⟩
  | 32 => ⟨S2x16384x1, .f32⟩
  | 33 => ⟨S_, .f32⟩
  | 34 => ⟨S2x16384x1, .f32⟩
  | 35 => ⟨S2x16384x1, .f32⟩
  | 36 => ⟨S2x16384x512, .f32⟩
  | 37 => ⟨S2x16384x512, .f32⟩
  | 38 => ⟨S_, .f32⟩
  | 39 => ⟨S2x16384x1, .f32⟩
  | 40 => ⟨S2x16384x1, .f32⟩
  | 41 => ⟨S2x16384x1, .f32⟩
  | 42 => ⟨S2x16384x512, .f32⟩
  | 43 => ⟨S2x16384x512, .f32⟩
  | 44 => ⟨S1x1x512, .f32⟩
  | 45 => ⟨S2x16384x512, .f32⟩
  | 46 => ⟨S2x16384x512, .f32⟩
  | 47 => ⟨S1x1x512, .f32⟩
  | 48 => ⟨S2x16384x512, .f32⟩
  | 49 => ⟨S2x16384x512, .f32⟩
  | 50 => ⟨S2x16384x512, .f32⟩
  | 51 => ⟨S2x16384x512, .f32⟩
  | 52 => ⟨S_, .f32⟩
  | 53 => ⟨S2x16384x512, .f32⟩
  | 54 => ⟨S2x16384x512, .f32⟩
  | 55 => ⟨S_, .f32⟩
  | 56 => ⟨S2x16384x512, .f32⟩
  | 57 => ⟨S2x16384x512, .f32⟩
  | 58 => ⟨S2x16384x512, .f32⟩
  | 59 => ⟨S1x512x1024, .f32⟩
  | 60 => ⟨S512x1024, .f32⟩
  | 61 => ⟨S2x16384x1024, .f32⟩
  | 62 => ⟨S2x16384x512, .f32⟩
  | 63 => ⟨S1x512x1024, .f32⟩
  | 64 => ⟨S512x1024, .f32⟩
  | 65 => ⟨S2x16384x1024, .f32⟩
  | 66 => ⟨S2x16384x512, .f32⟩
  | 67 => ⟨S1x512x1024, .f32⟩
  | 68 => ⟨S512x1024, .f32⟩
  | 69 => ⟨S2x16384x1024, .f32⟩
  | 70 => ⟨S1x1024x3072, .f32⟩
  | 71 => ⟨S1024x3072, .f32⟩
  | 72 => ⟨S2x16384x3072, .f32⟩
  | 73 => ⟨S1x3072, .f32⟩
  | 74 => ⟨S3072, .f32⟩
  | 75 => ⟨S1x1x3072, .f32⟩
  | 76 => ⟨S2x16384x3072, .f32⟩
  | 77 => ⟨S2x16384x3072, .f32⟩
  | 78 => ⟨S2x16384x3072, .f32⟩
  | 79 => ⟨S2x16384x3072, .f32⟩
  | 80 => ⟨S_, .f32⟩
  | 81 => ⟨S2x16384x3072, .f32⟩
  | 82 => ⟨S2x16384x3072, .f32⟩
  | 83 => ⟨S_, .f32⟩
  | 84 => ⟨S2x16384x3072, .f32⟩
  | 85 => ⟨S2x16384x3072, .f32⟩
  | 86 => ⟨S2x16384x1024, .f32⟩
  | 87 => ⟨S2x16384x1024, .f32⟩
  | 88 => ⟨S2x16384x1024, .f32⟩
  | 89 => ⟨S2x16384x1024, .f32⟩
  | 90 => ⟨S2x16384x1024, .f32⟩
  | 91 => ⟨S2x16384x1024, .f32⟩
  | 92 => ⟨S2x16384x1024, .f32⟩
  | 93 => ⟨S2x16384x1024, .f32⟩
  | 94 => ⟨S1x1024x1024, .f32⟩
  | 95 => ⟨S1024x1024, .f32⟩
  | 96 => ⟨S2x16384x1024, .f32⟩
  | 97 => ⟨S2x16384x1024, .f32⟩
  | 98 => ⟨S2x16384x1024, .f32⟩
  | 99 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_call0_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_cst_3 : Ref sig .tc := ⟨.hbm, 277, rfl⟩
abbrev main_v255 : Ref sig .tc := ⟨.hbm, 278, rfl⟩
abbrev main_v256 : Ref sig .tc := ⟨.hbm, 279, rfl⟩
abbrev main_cst_4 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_cst_5 : Ref sig .tc := ⟨.hbm, 286, rfl⟩
abbrev main_v262 : Ref sig .tc := ⟨.hbm, 287, rfl⟩
abbrev main_v263 : Ref sig .tc := ⟨.hbm, 288, rfl⟩
abbrev main_cst_6 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_cst_7 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_call1_v0 : Ref sig .tc := ⟨.hbm, 306, rfl⟩
abbrev main_call1_v1 : Ref sig .tc := ⟨.hbm, 307, rfl⟩
abbrev main_call1_cst : Ref sig .tc := ⟨.hbm, 308, rfl⟩
abbrev main_call1_v2 : Ref sig .tc := ⟨.hbm, 309, rfl⟩
abbrev main_call1_v3 : Ref sig .tc := ⟨.hbm, 310, rfl⟩
abbrev main_call1_cst_0 : Ref sig .tc := ⟨.hbm, 311, rfl⟩
abbrev main_call1_v4 : Ref sig .tc := ⟨.hbm, 312, rfl⟩
abbrev main_call1_v5 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_cst_8 : Ref sig .tc := ⟨.hbm, 336, rfl⟩
abbrev main_v301 : Ref sig .tc := ⟨.hbm, 337, rfl⟩
abbrev main_v302 : Ref sig .tc := ⟨.hbm, 338, rfl⟩
abbrev main_cst_9 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_v317 : Ref sig .tc := ⟨.hbm, 354, rfl⟩
abbrev main_v318 : Ref sig .tc := ⟨.hbm, 355, rfl⟩

abbrev nD : Nat := 1
abbrev τ : Topo := Topo.v7x

variable {F : FTy → Type} [FloatOps F]
-- ==== FfnFirst.lean ====
abbrev S2x16384x1024 : Shape := ⟨3, ![2, 16384, 1024]⟩
abbrev S2x2x6x1x1024 : Shape := ⟨5, ![2, 2, 6, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S2x1x1024, .f32⟩
  | .hbm, ⟨9, _⟩ => ⟨S1x1024, .f32⟩
  | .hbm, ⟨10, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFirstRefIdeal.lean ====
abbrev S2x16384x1024 : Shape := ⟨3, ![2, 16384, 1024]⟩
abbrev S2x2x6x1x1024 : Shape := ⟨5, ![2, 2, 6, 1, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x2x1x1x1024 : Shape := ⟨5, ![1, 2, 1, 1, 1024]⟩
abbrev S2x1x1024 : Shape := ⟨3, ![2, 1, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x2x1x1x1024, .f32⟩
  | .hbm, ⟨7, _⟩ => ⟨S2x1x1024, .f32⟩
  | .hbm, ⟨8, _⟩ => ⟨S1x2x1x1x1024, .f32⟩
  | .hbm, ⟨9, _⟩ => ⟨S2x1x1024, .f32⟩
  | .hbm, ⟨10, _⟩ => ⟨S1x2x1x1x1024, .f32⟩
  | .hbm, ⟨11, _⟩ => ⟨S2x1x1024, .f32⟩
  | .hbm, ⟨12, _⟩ => ⟨S1x1024, .f32⟩
  | .hbm, ⟨13, _⟩ => ⟨S1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S1x1024x5632, .f32⟩
  | .hbm, ⟨38, _⟩ => ⟨S1024x5632, .f32⟩
  | .hbm, ⟨39, _⟩ => ⟨S2x16384x5632, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S2x16384x2816, .f32⟩
  | .hbm, ⟨44, _⟩ => ⟨S_, .f32⟩
  | .hbm, ⟨45, _⟩ => ⟨S2x16384x2816, .f32⟩
  | .hbm, ⟨46, _⟩ => ⟨S2x16384x2816, .f32⟩
  | .hbm, ⟨47, _⟩ => ⟨S_, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S1x2816x1024, .f32⟩
  | .hbm, ⟨53, _⟩ => ⟨S2816x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Premix.lean ====
abbrev S2x16384x1024 : Shape := ⟨3, ![2, 16384, 1024]⟩
abbrev S2x2x6x1x1024 : Shape := ⟨5, ![2, 2, 6, 1, 1024]⟩
abbrev S8x128 : Shape := ⟨2, ![8, 128]⟩
abbrev S2x1024 : Shape := ⟨2, ![2, 1024]⟩
abbrev S2x1024x3352 : Shape := ⟨3, ![2, 1024, 3352]⟩
abbrev S2x4x512 : Shape := ⟨3, ![2, 4, 512]⟩
abbrev S2x512 : Shape := ⟨2, ![2, 512]⟩
abbrev S2x8x64x64 : Shape := ⟨4, ![2, 8, 64, 64]⟩
abbrev S8x8 : Shape := ⟨2, ![8, 8]⟩
abbrev S_ : Shape := ⟨0, ![]⟩
abbrev S2x1024x64 : Shape := ⟨3, ![2, 1024, 64]⟩
abbrev S2x1024x24 : Shape := ⟨3, ![2, 1024, 24]⟩
abbrev S2x1024x2x4x3 : Shape := ⟨5, ![2, 1024, 2, 4, 3]⟩
abbrev S2x1024x2x3x4 : Shape := ⟨5, ![2, 1024, 2, 3, 4]⟩
abbrev S2x1024x2x12 : Shape := ⟨4, ![2, 1024, 2, 12]⟩
abbrev S2x1024x2x16 : Shape := ⟨4, ![2, 1024, 2, 16]⟩
abbrev S2x1024x32 : Shape := ⟨3, ![2, 1024, 32]⟩
abbrev S2x1024x128 : Shape := ⟨3, ![2, 1024, 128]⟩
abbrev S2x1024x1024 : Shape := ⟨3, ![2, 1024, 1024]⟩
abbrev S2x1024x512 : Shape := ⟨3, ![2, 1024, 512]⟩
abbrev S2x1024x3712 : Shape := ⟨3, ![2, 1024, 3712]⟩
abbrev S2x1x1024 : Shape := ⟨3, ![2, 1, 1024]⟩
abbrev S2x1x512 : Shape := ⟨3, ![2, 1, 512]⟩
abbrev S2x8x64x1x64 : Shape := ⟨5, ![2, 8, 64, 1, 64]⟩
abbrev S1x8x1x8x1 : Shape := ⟨5, ![1, 8, 1, 8, 1]⟩
abbrev S2x8x64x8x64 : Shape := ⟨5, ![2, 8, 64, 8, 64]⟩
abbrev S2x512x512 : Shape := ⟨3, ![2, 512, 512]⟩
abbrev S2x16384x512 : Shape := ⟨3, ![2, 16384, 512]⟩
abbrev S2x1024x4096 : Shape := ⟨3, ![2, 1024, 4096]⟩
abbrev S2x2x16384x128 : Shape := ⟨4, ![2, 2, 16384, 128]⟩
abbrev S2x32x128x512 : Shape := ⟨4, ![2, 32, 128, 512]⟩
abbrev S2x128x128x128 : Shape := ⟨4, ![2, 128, 128, 128]⟩
abbrev S2x32x16384 : Shape := ⟨3, ![2, 32, 16384]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x3712 : Shape := ⟨3, ![1, 1024, 3712]⟩
abbrev S1x4x512 : Shape := ⟨3, ![1, 4, 512]⟩
abbrev S1x1x512 : Shape := ⟨3, ![1, 1, 512]⟩
abbrev S1x512x512 : Shape := ⟨3, ![1, 512, 512]⟩
abbrev S1x32x4096 : Shape := ⟨3, ![1, 32, 4096]⟩
abbrev S1x2x512x128 : Shape := ⟨4, ![1, 2, 512, 128]⟩
abbrev S1x1x128x512 : Shape := ⟨4, ![1, 1, 128, 512]⟩
abbrev S1x4x128x128 : Shape := ⟨4, ![1, 4, 128, 128]⟩
abbrev S1x32x512 : Shape := ⟨3, ![1, 32, 512]⟩
abbrev S2x512x128 : Shape := ⟨3, ![2, 512, 128]⟩
abbrev S264x512 : Shape := ⟨2, ![264, 512]⟩
abbrev S8x512 : Shape := ⟨2, ![8, 512]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S512x512 : Shape := ⟨2, ![512, 512]⟩
abbrev S256x512 : Shape := ⟨2, ![256, 512]⟩
abbrev S1x512 : Shape := ⟨2, ![1, 512]⟩
abbrev S1x256x512 : Shape := ⟨3, ![1, 256, 512]⟩
abbrev S1x1024x512 : Shape := ⟨3, ![1, 1024, 512]⟩
abbrev S1024x512 : Shape := ⟨2, ![1024, 512]⟩
abbrev S512x128 : Shape := ⟨2, ![512, 128]⟩
abbrev S1x128 : Shape := ⟨2, ![1, 128]⟩
abbrev S1x512x128 : Shape := ⟨3, ![1, 512, 128]⟩
abbrev S1x1024x256 : Shape := ⟨3, ![1, 1024, 256]⟩
abbrev S1024x256 : Shape := ⟨2, ![1024, 256]⟩
abbrev S512x256 : Shape := ⟨2, ![512, 256]⟩
abbrev S1x32x128 : Shape := ⟨3, ![1, 32, 128]⟩
abbrev S32x128 : Shape := ⟨2, ![32, 128]⟩
abbrev S1x1x512x128 : Shape := ⟨4, ![1, 1, 512, 128]⟩
abbrev S1x1024x384 : Shape := ⟨3, ![1, 1024, 384]⟩
abbrev S1024x384 : Shape := ⟨2, ![1024, 384]⟩
abbrev S512x384 : Shape := ⟨2, ![512, 384]⟩
abbrev S128x512 : Shape := ⟨2, ![128, 512]⟩
abbrev S128x128 : Shape := ⟨2, ![128, 128]⟩
abbrev S1x1x128x128 : Shape := ⟨4, ![1, 1, 128, 128]⟩
abbrev S32x512 : Shape := ⟨2, ![32, 512]⟩

abbrev nBuf : Space → Nat
  | .hbm => 84
  | .vmem => 37
  | .smem => 0
  | _ => 0

abbrev bufTy : (tb : Table) → Fin (tcTables nBuf tb) → BufTy
  | .hbm, ⟨0, _⟩ => ⟨S2x16384x1024, .f32⟩
  | .hbm, ⟨1, _⟩ => ⟨S2x2x6x1x1024, .f32⟩
  | .hbm, ⟨2, _⟩ => ⟨S8x128, .f32⟩
  | .hbm, ⟨3, _⟩ => ⟨S2x1024, .f32⟩
  | .hbm, ⟨4, _⟩ => ⟨S2x1024x3352, .f32⟩
  | .hbm, ⟨5, _⟩ => ⟨S2x4x512, .f32⟩
  | .hbm, ⟨6, _⟩ => ⟨S2x512, .f32⟩
  | .hbm, ⟨7, _⟩ => ⟨S2x8x64x64, .f32⟩
  | .hbm, ⟨8, _⟩ => ⟨S2x512, .f32⟩
  | .hbm, ⟨9, _⟩ => ⟨S2x8x64x64, .f32⟩
  | .hbm, ⟨10, _⟩ => ⟨S2x512, .f32⟩
  | .hbm, ⟨11, _⟩ => ⟨S2x512, .f32⟩
  | .hbm, ⟨12, _⟩ => ⟨S8x8, .f32⟩
  | .hbm, ⟨13, _⟩ => ⟨S8x8, .f32⟩
  | .hbm, ⟨14, _⟩ => ⟨S_, .bf16⟩
  | .hbm, ⟨15, _⟩ => ⟨S2x1024x64, .bf16⟩
  | .hbm, ⟨16, _⟩ => ⟨S2x1024x24, .f32⟩
  | .hbm, ⟨17, _⟩ => ⟨S2x1024x2x4x3, .f32⟩
  | .hbm, ⟨18, _⟩ => ⟨S2x1024x2x3x4, .f32⟩
  | .hbm, ⟨19, _⟩ => ⟨S2x1024x2x12, .f32⟩
  | .hbm, ⟨20, _⟩ => ⟨S_, .i32⟩
  | .hbm, ⟨21, _⟩ => ⟨S_, .f32⟩
  | .hbm, ⟨22, _⟩ => ⟨S2x1024x2x16, .f32⟩
  | .hbm, ⟨23, _⟩ => ⟨S2x1024x32, .f32⟩
  | .hbm, ⟨24, _⟩ => ⟨S_, .i32⟩
  | .hbm, ⟨25, _⟩ => ⟨S_, .f32⟩
  | .hbm, ⟨26, _⟩ => ⟨S2x1024x128, .f32⟩
  | .hbm, ⟨27, _⟩ => ⟨S2x1024x1024, .f32⟩
  | .hbm, ⟨28, _⟩ => ⟨S2x1024x1024, .bf16⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .bf16⟩
  | .hbm, ⟨34, _⟩ => ⟨S2x1024x128, .f32⟩
  | .hbm, ⟨35, _⟩ => ⟨S2x1024x128, .bf16⟩
  | .hbm, ⟨36, _⟩ => ⟨S2x1024x128, .f32⟩
  | .hbm, ⟨37, _⟩ => ⟨S2x1024x128, .bf16⟩
  | .hbm, ⟨38, _⟩ => ⟨S2x1024x128, .f32⟩
  | .hbm, ⟨39, _⟩ => ⟨S2x1024x64, .f32⟩
  | .hbm, ⟨40, _⟩ => ⟨S2x1024x64, .bf16⟩
  | .hbm, ⟨41, _⟩ => ⟨S2x1024x64, .f32⟩
  | .hbm, ⟨42, _⟩ => ⟨S2x1024x64, .bf16⟩
  | .hbm, ⟨43, _⟩ => ⟨S2x1024x128, .f32⟩
  | .hbm, ⟨44, _⟩ => ⟨S2x1024x64, .f32⟩
  | .hbm, ⟨45, _⟩ => ⟨S2x1024x64, .bf16⟩
  | .hbm, ⟨46, _⟩ => ⟨S2x1024x64, .f32⟩
  | .hbm, ⟨47, _⟩ => ⟨S2x1024x64, .bf16⟩
  | .hbm, ⟨48, _⟩ => ⟨S2x1024x128, .f32⟩
  | .hbm, ⟨49, _⟩ => ⟨S2x1024x128, .bf16⟩
  | .hbm, ⟨50, _⟩ => ⟨S2x1024x128, .f32⟩
  | .hbm, ⟨51, _⟩ => ⟨S2x1024x128, .bf16⟩
  | .hbm, ⟨52, _⟩ => ⟨S2x1024x128, .bf16⟩
  | .hbm, ⟨53, _⟩ => ⟨S2x1024x1024, .f32⟩
  | .hbm, ⟨54, _⟩ => ⟨S2x1024x1024, .bf16⟩
  | .hbm, ⟨55, _⟩ => ⟨S2x1024x3712, .bf16⟩
  | .hbm, ⟨56, _⟩ => ⟨S2x1x1024, .f32⟩
  | .hbm, ⟨57, _⟩ => ⟨S2x1x512, .f32⟩
  | .hbm, ⟨58, _⟩ => ⟨S2x8x64x1x64, .f32⟩
  | .hbm, ⟨59, _⟩ => ⟨S1x8x1x8x1, .f32⟩
  | .hbm, ⟨60, _⟩ => ⟨S2x8x64x8x64, .f32⟩
  | .hbm, ⟨61, _⟩ => ⟨S2x8x64x8x64, .f32⟩
  | .hbm, ⟨62, _⟩ => ⟨S2x8x64x8x64, .f32⟩
  | .hbm, ⟨63, _⟩ => ⟨S2x512x512, .f32⟩
  | .hbm, ⟨64, _⟩ => ⟨S2x512x512, .bf16⟩
  | .hbm, ⟨65, _⟩ => ⟨S2x1x512, .f32⟩
  | .hbm, ⟨66, _⟩ => ⟨S2x8x64x1x64, .f32⟩
  | .hbm, ⟨67, _⟩ => ⟨S1x8x1x8x1, .f32⟩
  | .hbm, ⟨68, _⟩ => ⟨S2x8x64x8x64, .f32⟩
  | .hbm, ⟨69, _⟩ => ⟨S2x8x64x8x64, .f32⟩
  | .hbm, ⟨70, _⟩ => ⟨S2x8x64x8x64, .f32⟩
  | .hbm, ⟨71, _⟩ => ⟨S2x512x512, .f32⟩
  | .hbm, ⟨72, _⟩ => ⟨S2x512x512, .bf16⟩
  | .hbm, ⟨73, _⟩ => ⟨S2x1x512, .f32⟩
  | .hbm, ⟨74, _⟩ => ⟨S2x1x512, .f32⟩
  | .hbm, ⟨75, _⟩ => ⟨S2x16384x512, .f32⟩
  | .hbm, ⟨76, _⟩ => ⟨S2x16384x512, .bf16⟩
  | .hbm, ⟨77, _⟩ => ⟨S2x16384x1024, .bf16⟩
  | .hbm, ⟨78, _⟩ => ⟨S2x1024x4096, .bf16⟩
  | .hbm, ⟨79, _⟩ => ⟨S2x2x16384x128, .bf16⟩
  | .hbm, ⟨80, _⟩ => ⟨S2x2x16384x128, .bf16⟩
  | .hbm, ⟨81, _⟩ => ⟨S2x32x128x512, .bf16⟩
  | .hbm, ⟨82, _⟩ => ⟨S2x128x128x128, .bf16⟩
  | .hbm, ⟨83, _⟩ => ⟨S2x32x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x3712, .bf16⟩
  | .local _ .vmem, ⟨8, _⟩ => ⟨S8x128, .f32⟩
  | .local _ .vmem, ⟨9, _⟩ => ⟨S1x4x512, .f32⟩
  | .local _ .vmem, ⟨10, _⟩ => ⟨S1x1x512, .f32⟩
  | .local _ .vmem, ⟨11, _⟩ => ⟨S1x512x512, .bf16⟩
  | .local _ .vmem, ⟨12, _⟩ => ⟨S1x1x512, .f32⟩
  | .local _ .vmem, ⟨13, _⟩ => ⟨S1x512x512, .bf16⟩
  | .local _ .vmem, ⟨14, _⟩ => ⟨S1x1x512, .f32⟩
  | .local _ .vmem, ⟨15, _⟩ => ⟨S1x1x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x32x4096, .bf16⟩
  | .local _ .vmem, ⟨23, _⟩ => ⟨S1x32x4096, .bf16⟩
  | .local _ .vmem, ⟨24, _⟩ => ⟨S1x2x512x128, .bf16⟩
  | .local _ .vmem, ⟨25, _⟩ => ⟨S1x2x512x128, .bf16⟩
  | .local _ .vmem, ⟨26, _⟩ => ⟨S1x2x512x128, .bf16⟩
  | .local _ .vmem, ⟨27, _⟩ => ⟨S1x2x512x128, .bf16⟩
  | .local _ .vmem, ⟨28, _⟩ => ⟨S1x1x128x512, .bf16⟩
  | .local _ .vmem, ⟨29, _⟩ => ⟨S1x1x128x512, .bf16⟩
  | .local _ .vmem, ⟨30, _⟩ => ⟨S1x4x128x128, .bf16⟩
  | .local _ .vmem, ⟨31, _⟩ => ⟨S1x4x128x128, .bf16⟩
  | .local _ .vmem, ⟨32, _⟩ => ⟨S1x32x512, .f32⟩
  | .local _ .vmem, ⟨33, _⟩ => ⟨S1x32x512, .f32⟩
  | .local _ .vmem, ⟨34, _⟩ => ⟨S2x512x128, .f32⟩
  | .local _ .vmem, ⟨35, _⟩ => ⟨S264x512, .f32⟩
  | .local _ .vmem, ⟨36, _⟩ => ⟨S8x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_v55_3 : Ref sig .tc := ⟨.hbm, 78, rfl⟩
abbrev main_v55_4 : Ref sig .tc := ⟨.hbm, 79, rfl⟩
abbrev main_v55_5 : Ref sig .tc := ⟨.hbm, 80, rfl⟩
abbrev main_v55_6 : Ref sig .tc := ⟨.hbm, 81, rfl⟩
abbrev main_v55_7 : Ref sig .tc := ⟨.hbm, 82, rfl⟩
abbrev main_v55_8 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x128x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== PremixRefIdeal.lean ====
abbrev S2x16384x1024 : Shape := ⟨3, ![2, 16384, 1024]⟩
abbrev S2x2x6x1x1024 : Shape := ⟨5, ![2, 2, 6, 1, 1024]⟩
abbrev S8x128 : Shape := ⟨2, ![8, 128]⟩
abbrev S2x1024 : Shape := ⟨2, ![2, 1024]⟩
abbrev S2x1024x3352 : Shape := ⟨3, ![2, 1024, 3352]⟩
abbrev S2x4x512 : Shape := ⟨3, ![2, 4, 512]⟩
abbrev S2x512 : Shape := ⟨2, ![2, 512]⟩
abbrev S2x8x64x64 : Shape := ⟨4, ![2, 8, 64, 64]⟩
abbrev S1x2x1x1x1024 : Shape := ⟨5, ![1, 2, 1, 1, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x3352 : Shape := ⟨3, ![1, 1024, 3352]⟩
abbrev S1024x3352 : Shape := ⟨2, ![1024, 3352]⟩
abbrev S2x16384x3352 : Shape := ⟨3, ![2, 16384, 3352]⟩
abbrev S2x16384x512 : Shape := ⟨3, ![2, 16384, 512]⟩
abbrev S2x16384x768 : Shape := ⟨3, ![2, 16384, 768]⟩
abbrev S2x16384x24 : Shape := ⟨3, ![2, 16384, 24]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S1x8x64x64 : Shape := ⟨4, ![1, 8, 64, 64]⟩
abbrev S8x64x64 : Shape := ⟨3, ![8, 64, 64]⟩
abbrev S2x16387x512 : Shape := ⟨3, ![2, 16387, 512]⟩
abbrev S1x1x512 : Shape := ⟨3, ![1, 1, 512]⟩
abbrev S2x16384x8x64 : Shape := ⟨4, ![2, 16384, 8, 64]⟩
abbrev S8x64x2x16384 : Shape := ⟨4, ![8, 64, 2, 16384]⟩
abbrev S16384x2x512 : Shape := ⟨3, ![16384, 2, 512]⟩
abbrev S1x2x512 : Shape := ⟨3, ![1, 2, 512]⟩

abbrev nBuf : Space → Nat
  | .hbm => 217
  | .vmem => 0
  | .smem => 0
  | _ => 0

abbrev hbmTy0_0 (i : Nat) : BufTy := match i % 128 with
  | 0 => ⟨S2x16384x1024, .f32⟩
  | 1 => ⟨S2x2x6x1x1024, .f32⟩
  | 2 => ⟨S8x128, .f32⟩
  | 3 => ⟨S2x1024, .f32⟩
  | 4 => ⟨S2x1024x3352, .f32⟩
  | 5 => ⟨S2x4x512, .f32⟩
  | 6 => ⟨S2x512, .f32⟩
  | 7 => ⟨S2x8x64x64, .f32⟩
  | 8 => ⟨S2x512, .f32⟩
  | 9 => ⟨S2x8x64x64, .f32⟩
  | 10 => ⟨S2x512, .f32⟩
  | 11 => ⟨S2x512, .f32⟩
  | 12 => ⟨S1x2x1x1x1024, .f32⟩
  | 13 => ⟨S2x1x1024, .f32⟩
  | 14 => ⟨S1x2x1x1x1024, .f32⟩
  | 15 => ⟨S2x1x1024, .f32⟩
  | 16 => ⟨S1x1024, .f32⟩
  | 17 => ⟨S1024, .f32⟩
  | 18 => ⟨S2x16384x1024, .f32⟩
  | 19 => ⟨S_, .f32⟩
  | 20 => ⟨S2x16384, .f32⟩
  | 21 => ⟨S2x16384x1, .f32⟩
  | 22 => ⟨S_, .f32⟩
  | 23 => ⟨S2x16384x1, .f32⟩
  | 24 => ⟨S2x16384x1, .f32⟩
  | 25 => ⟨S_, .f32⟩
  | 26 => ⟨S2x16384x1, .f32⟩
  | 27 => ⟨S2x16384x1, .f32⟩
  | 28 => ⟨S2x16384x1, .f32⟩
  | 29 => ⟨S2x16384x1024, .f32⟩
  | 30 => ⟨S2x16384x1024, .f32⟩
  | 31 => ⟨S1x1x1024, .f32⟩
  | 32 => ⟨S2x16384x1024, .f32⟩
  | 33 => ⟨S2x16384x1024, .f32⟩
  | 34 => ⟨S_, .f32⟩
  | 35 => ⟨S2x1x1024, .f32⟩
  | 36 => ⟨S2x1x1024, .f32⟩
  | 37 => ⟨S2x16384x1024, .f32⟩
  | 38 => ⟨S2x16384x1024, .f32⟩
  | 39 => ⟨S2x16384x1024, .f32⟩
  | 40 => ⟨S2x16384x1024, .f32⟩
  | 41 => ⟨S1x1024x3352, .f32⟩
  | 42 => ⟨S1024x3352, .f32⟩
  | 43 => ⟨S2x16384x3352, .f32⟩
  | 44 => ⟨S2x16384x1024, .f32⟩
  | 45 => ⟨S2x16384x512, .f32⟩
  | 46 => ⟨S2x16384x768, .f32⟩
  | 47 => ⟨S2x16384x24, .f32⟩
  | 48 => ⟨S2x16384x512, .f32⟩
  | 49 => ⟨S2x16384x512, .f32⟩
  | 50 => ⟨S2x16384x512, .f32⟩
  | 51 => ⟨S2x16384x512, .f32⟩
  | 52 => ⟨S2x16384x512, .f32⟩
  | 53 => ⟨S2x16384x512, .f32⟩
  | 54 => ⟨S_, .f32⟩
  | 55 => ⟨S2x16384x512, .f32⟩
  | 56 => ⟨S2x16384x512, .f32⟩
  | 57 => ⟨S_, .f32⟩
  | 58 => ⟨S2x16384x512, .f32⟩
  | 59 => ⟨S2x16384x512, .f32⟩
  | 60 => ⟨S2x16384x512, .f32⟩
  | 61 => ⟨S1x4x512, .f32⟩
  | 62 => ⟨S4x512, .f32⟩
  | 63 => ⟨S1x512, .f32⟩
  | 64 => ⟨S512, .f32⟩
  | 65 => ⟨S1x8x64x64, .f32⟩
  | 66 => ⟨S8x64x64, .f32⟩
  | 67 => ⟨S1x512, .f32⟩
  | 68 => ⟨S512, .f32⟩
  | 69 => ⟨S1x8x64x64, .f32⟩
  | 70 => ⟨S8x64x64, .f32⟩
  | 71 => ⟨S1x512, .f32⟩
  | 72 => ⟨S512, .f32⟩
  | 73 => ⟨S1x512, .f32⟩
  | 74 => ⟨S512, .f32⟩
  | 75 => ⟨S_, .i32⟩
  | 76 => ⟨S_, .f32⟩
  | 77 => ⟨S2x16387x512, .f32⟩
  | 78 => ⟨S1x512, .f32⟩
  | 79 => ⟨S512, .f32⟩
  | 80 => ⟨S2x16384x512, .f32⟩
  | 81 => ⟨S1x1x512, .f32⟩
  | 82 => ⟨S2x16384x512, .f32⟩
  | 83 => ⟨S2x16384x512, .f32⟩
  | 84 => ⟨S1x512, .f32⟩
  | 85 => ⟨S512, .f32⟩
  | 86 => ⟨S2x16384x512, .f32⟩
  | 87 => ⟨S1x1x512, .f32⟩
  | 88 => ⟨S2x16384x512, .f32⟩
  | 89 => ⟨S2x16384x512, .f32⟩
  | 90 => ⟨S2x16384x512, .f32⟩
  | 91 => ⟨S1x512, .f32⟩
  | 92 => ⟨S512, .f32⟩
  | 93 => ⟨S2x16384x512, .f32⟩
  | 94 => ⟨S1x1x512, .f32⟩
  | 95 => ⟨S2x16384x512, .f32⟩
  | 96 => ⟨S2x16384x512, .f32⟩
  | 97 => ⟨S2x16384x512, .f32⟩
  | 98 => ⟨S1x512, .f32⟩
  | 99 => ⟨S512, .f32⟩
  | 100 => ⟨S2x16384x512, .f32⟩
  | 101 => ⟨S1x1x512, .f32⟩
  | 102 => ⟨S2x16384x512, .f32⟩
  | 103 => ⟨S2x16384x512, .f32⟩
  | 104 => ⟨S2x16384x512, .f32⟩
  | 105 => ⟨S1x1x512, .f32⟩
  | 106 => ⟨S2x16384x512, .f32⟩
  | 107 => ⟨S2x16384x512, .f32⟩
  | 108 => ⟨S2x16384x8x64, .f32⟩
  | 109 => ⟨S8x64x2x16384, .f32⟩
  | 110 => ⟨S2x16384x8x64, .f32⟩
  | 111 => ⟨S2x16384x512, .f32⟩
  | 112 => ⟨S1x1x512, .f32⟩
  | 113 => ⟨S2x16384x512, .f32⟩
  | 114 => ⟨S2x16384x512, .f32⟩
  | 115 => ⟨S2x16384x512, .f32⟩
  | 116 => ⟨S2x16384x512, .f32⟩
  | 117 => ⟨S_, .f32⟩
  | 118 => ⟨S2x16384x512, .f32⟩
  | 119 => ⟨S2x16384x512, .f32⟩
  | 120 => ⟨S_, .f32⟩
  | 121 => ⟨S2x16384x512, .f32⟩
  | 122 => ⟨S2x16384x512, .f32⟩
  | 123 => ⟨S8x64x2x16384, .f32⟩
  | 124 => ⟨S2x16384x8x64, .f32⟩
  | 125 => ⟨S2x16384x512, .f32⟩
  | 126 => ⟨S1x1x512, .f32⟩
  | 127 => ⟨S2x16384x512, .f32⟩
  | _ => ⟨S2x16384x1024, .f32⟩

abbrev hbmTy0_1 (i : Nat) : BufTy := match i % 128 with
  | 0 => ⟨S2x16384x512, .f32⟩
  | 1 => ⟨S2x16384x512, .f32⟩
  | 2 => ⟨S2x16384x512, .f32⟩
  | 3 => ⟨S_, .f32⟩
  | 4 => ⟨S2x16384x512, .f32⟩
  | 5 => ⟨S2x16384x512, .f32⟩
  | 6 => ⟨S_, .f32⟩
  | 7 => ⟨S2x16384x512, .f32⟩
  | 8 => ⟨S2x16384x512, .f32⟩
  | 9 => ⟨S_, .f32⟩
  | 10 => ⟨S2x16384x512, .f32⟩
  | 11 => ⟨S2x16384x512, .f32⟩
  | 12 => ⟨S512, .f32⟩
  | 13 => ⟨S_, .f32⟩
  | 14 => ⟨S512, .f32⟩
  | 15 => ⟨S512, .f32⟩
  | 16 => ⟨S512, .f32⟩
  | 17 => ⟨S512, .f32⟩
  | 18 => ⟨S512, .i1⟩
  | 19 => ⟨S512, .f32⟩
  | 20 => ⟨S512, .f32⟩
  | 21 => ⟨S512, .f32⟩
  | 22 => ⟨S512, .f32⟩
  | 23 => ⟨S512, .f32⟩
  | 24 => ⟨S512, .f32⟩
  | 25 => ⟨S512, .f32⟩
  | 26 => ⟨S512, .f32⟩
  | 27 => ⟨S1x1x512, .f32⟩
  | 28 => ⟨S2x16384x512, .f32⟩
  | 29 => ⟨S2x16384x512, .f32⟩
  | 30 => ⟨S2x16384x512, .f32⟩
  | 31 => ⟨S_, .f32⟩
  | 32 => ⟨S2x16384x512, .f32⟩
  | 33 => ⟨S2x16384x512, .f32⟩
  | 34 => ⟨S2x16384x512, .f32⟩
  | 35 => ⟨S2x16384x512, .f32⟩
  | 36 => ⟨S2x16384x512, .f32⟩
  | 37 => ⟨S2x16384x512, .f32⟩
  | 38 => ⟨S2x16384x512, .f32⟩
  | 39 => ⟨S_, .f32⟩
  | 40 => ⟨S2x512, .f32⟩
  | 41 => ⟨S16384x2x512, .f32⟩
  | 42 => ⟨S16384x2x512, .f32⟩
  | 43 => ⟨S_, .f32⟩
  | 44 => ⟨S16384x2x512, .f32⟩
  | 45 => ⟨S_, .i32⟩
  | 46 => ⟨S16384x2x512, .f32⟩
  | 47 => ⟨S16384x2x512, .f32⟩
  | 48 => ⟨S_, .i32⟩
  | 49 => ⟨S2x512, .f32⟩
  | 50 => ⟨S16384x2x512, .f32⟩
  | 51 => ⟨S_, .i32⟩
  | 52 => ⟨S_, .i1⟩
  | 53 => ⟨S_, .i32⟩
  | 54 => ⟨S_, .i32⟩
  | 55 => ⟨S1x2x512, .f32⟩
  | 56 => ⟨S2x512, .f32⟩
  | 57 => ⟨S_, .i32⟩
  | 58 => ⟨S_, .i32⟩
  | 59 => ⟨S1x2x512, .f32⟩
  | 60 => ⟨S2x512, .f32⟩
  | 61 => ⟨S2x512, .f32⟩
  | 62 => ⟨S2x512, .f32⟩
  | 63 => ⟨S1x2x512, .f32⟩
  | 64 => ⟨S_, .i32⟩
  | 65 => ⟨S_, .i32⟩
  | 66 => ⟨S16384x2x512, .f32⟩
  | 67 => ⟨S_, .i32⟩
  | 68 => ⟨S_, .i32⟩
  | 69 => ⟨S2x16384x512, .f32⟩
  | 70 => ⟨S2x16384x512, .f32⟩
  | 71 => ⟨S2x16384x512, .f32⟩
  | 72 => ⟨S_, .f32⟩
  | 73 => ⟨S2x16384x512, .f32⟩
  | 74 => ⟨S2x16384x512, .f32⟩
  | 75 => ⟨S2x16384x512, .f32⟩
  | 76 => ⟨S_, .f32⟩
  | 77 => ⟨S2x16384x512, .f32⟩
  | 78 => ⟨S2x16384x512, .f32⟩
  | 79 => ⟨S2x16384x512, .f32⟩
  | 80 => ⟨S_, .f32⟩
  | 81 => ⟨S2x16384x512, .f32⟩
  | 82 => ⟨S2x16384x512, .f32⟩
  | 83 => ⟨S_, .f32⟩
  | 84 => ⟨S2x16384x512, .f32⟩
  | 85 => ⟨S2x16384x512, .f32⟩
  | 86 => ⟨S2x16384x512, .f32⟩
  | 87 => ⟨S2x16384x512, .f32⟩
  | 88 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_5 : Ref sig .tc := ⟨.hbm, 117, rfl⟩
abbrev main_v97 : Ref sig .tc := ⟨.hbm, 118, rfl⟩
abbrev main_v98 : Ref sig .tc := ⟨.hbm, 119, rfl⟩
abbrev main_cst_6 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_7 : Ref sig .tc := ⟨.hbm, 131, rfl⟩
abbrev main_v109 : Ref sig .tc := ⟨.hbm, 132, rfl⟩
abbrev main_v110 : Ref sig .tc := ⟨.hbm, 133, rfl⟩
abbrev main_cst_8 : Ref sig .tc := ⟨.hbm, 134, rfl⟩
abbrev main_v111 : Ref sig .tc := ⟨.hbm, 135, rfl⟩
abbrev main_v112 : Ref sig .tc := ⟨.hbm, 136, rfl⟩
abbrev main_cst_9 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_call1_cst : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_v8 : Ref sig .tc := ⟨.hbm, 150, rfl⟩
abbrev main_call1_v9 : Ref sig .tc := ⟨.hbm, 151, rfl⟩
abbrev main_call1_v10 : Ref sig .tc := ⟨.hbm, 152, rfl⟩
abbrev main_call1_v11 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_10 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_11 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_12 : Ref sig .tc := ⟨.hbm, 171, rfl⟩
abbrev main_v131 : Ref sig .tc := ⟨.hbm, 172, rfl⟩
abbrev main_c_13 : Ref sig .tc := ⟨.hbm, 173, rfl⟩
abbrev main_v132_0 : Ref sig .tc := ⟨.hbm, 174, rfl⟩
abbrev main_v132_1 : Ref sig .tc := ⟨.hbm, 175, rfl⟩
abbrev main_v132_2 : Ref sig .tc := ⟨.hbm, 176, rfl⟩
abbrev main_v132_3 : Ref sig .tc := ⟨.hbm, 177, rfl⟩
abbrev main_v132_4 : Ref sig .tc := ⟨.hbm, 178, rfl⟩
abbrev main_while0c_c_22 : Ref sig .tc := ⟨.hbm, 179, rfl⟩
abbrev main_while0c_v149 : Ref sig .tc := ⟨.hbm, 180, rfl⟩
abbrev main_while0b_call2_c : Ref sig .tc := ⟨.hbm, 181, rfl⟩
abbrev main_while0b_call2_c_0 : Ref sig .tc := ⟨.hbm, 182, rfl⟩
abbrev main_while0b_call2_v0 : Ref sig .tc := ⟨.hbm, 183, rfl⟩
abbrev main_while0b_v149 : Ref sig .tc := ⟨.hbm, 184, rfl⟩
abbrev main_while0b_call3_c : Ref sig .tc := ⟨.hbm, 185, rfl⟩
abbrev main_while0b_call3_c_0 : Ref sig .tc := ⟨.hbm, 186, rfl⟩
abbrev main_while0b_call3_v0 : Ref sig .tc := ⟨.hbm, 187, rfl⟩
abbrev main_while0b_v150 : Ref sig .tc := ⟨.hbm, 188, rfl⟩
abbrev main_while0b_v151 : Ref sig .tc := ⟨.hbm, 189, rfl⟩
abbrev main_while0b_v152 : Ref sig .tc := ⟨.hbm, 190, rfl⟩
abbrev main_while0b_call4_v0 : Ref sig .tc := ⟨.hbm, 191, rfl⟩
abbrev main_while0b_call4_c : Ref sig .tc := ⟨.hbm, 192, rfl⟩
abbrev main_while0b_call4_c_0 : Ref sig .tc := ⟨.hbm, 193, rfl⟩
abbrev main_while0b_v153 : Ref sig .tc := ⟨.hbm, 194, rfl⟩
abbrev main_while0b_c_22 : Ref sig .tc := ⟨.hbm, 195, rfl⟩
abbrev main_while0b_v154 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_14 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_15 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_16 : Ref sig .tc := ⟨.hbm, 208, rfl⟩
abbrev main_v142 : Ref sig .tc := ⟨.hbm, 209, rfl⟩
abbrev main_v143 : Ref sig .tc := ⟨.hbm, 210, rfl⟩
abbrev main_cst_17 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩

abbrev nD : Nat := 1
abbrev τ : Topo := Topo.v7x

variable {F : FTy → Type} [FloatOps F]

abbrev main_while0_count : Scf.Loop 32 := ⟨0#32, 16384#32, 1#32⟩
-- ==== Proof.Scalar.lean ====
module

public import Idealize.ShloMosaic.Lib.Pipeline.ValueKit
public import Idealize.ShloMosaic.Lib.Pointwise

@[expose] public section

/-! # Scalar identities of the layer's nonlinearities on the extended reals -/

set_option maxRecDepth 16384

noncomputable section

namespace Cert.Scalar

open Idealize.ShloMosaic

/-- The single-precision pattern of one half denotes one half. -/
theorem half_eq : Ideal.ofBits .f32 0x3F000000#32 = ((1 / 2 : ℝ) : EReal) := by
  simp [Ideal.ofBits, Ideal.ieee]
  norm_num [zpow_neg]
  rw [← EReal.coe_mul]
  norm_num

/-- Half of the hyperbolic tangent of half a real, plus one half, is the logistic function. -/
theorem real_tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have hp := Real.exp_pos (1 / 2 * r)
  have hq := Real.exp_pos (-(1 / 2 * r))
  set p := Real.exp (1 / 2 * r)
  set q := Real.exp (-(1 / 2 * r))
  have hpq : p + q ≠ 0 := by positivity
  have hq2 : 1 + q * q ≠ 0 := by positivity
  field_simp
  nlinarith [h2]

/-- The kernel's sigmoid, through the hyperbolic tangent, is the logistic function at every extended real. -/
theorem sigmoid_eq (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_eq]
  change _ = Ideal.logistic x
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, real_tanh_half]

/-- A row divided by its root mean square, read at `k`. -/
def rms (x : Fin 1024 → EReal) (k : Fin 1024) : EReal :=
  x k * Ideal.rsqrt (Ideal.div (∑ l, x l * x l) (Ideal.ofBits .f32 0x44800000#32) + Ideal.ofBits .f32 0x358637BD#32)

/-- The modulated normalisation of a row: divided by its root mean square, times the learned scale `g`, scaled by
    `1 + sc` and shifted by `sh`. -/
def modNorm (x g sc sh : Fin 1024 → EReal) (k : Fin 1024) : EReal :=
  rms x k * g k * (1 + sc k) + sh k

/-- The sigmoid-weighted linear unit. -/
def silu (x : EReal) : EReal := x * Ideal.div 1 (1 + Ideal.exp (-x))

end Cert.Scalar

end
-- ==== Proof.FfnBody.lean ====
module

public import proofs.«01_k».proof.Proof.Gen.FfnIdeal.Value
public import proofs.«01_k».proof.Proof.Scalar

@[expose] public section

set_option maxRecDepth 16384

noncomputable section

namespace Cert.FfnBody

open Idealize.ShloMosaic Idealize.ShloMosaic.TcCoe Idealize.SL.Sem
open Cert.FfnIdeal Cert.FfnIdeal.Gen

open Cert.Scalar

/-- The hidden activation of the feed-forward block at unit `n`: the first projection through the sigmoid-weighted unit,
    times the second. -/
def up (h : Fin 1024 → EReal) (wa wb : Fin 1024 → Fin 2816 → EReal) (n : Fin 2816) : EReal :=
  silu (∑ k, h k * wa k n) * ∑ k, h k * wb k n

/-- A token's row after the feed-forward block: the row plus the gate times the projected hidden activations. -/
def ffnRow (x g sc sh gate : Fin 1024 → EReal) (wa wb : Fin 1024 → Fin 2816 → EReal) (wo : Fin 2816 → Fin 1024 → EReal)
    (d : Fin 1024) : EReal :=
  x d + gate d * ∑ n, up (modNorm x g sc sh) wa wb n * wo n d

/-- A sum of eleven terms, added in order. -/
theorem sum_eleven (g : Fin 11 → EReal) :
    ∑ c, g c = g 0 + g 1 + g 2 + g 3 + g 4 + g 5 + g 6 + g 7 + g 8 + g 9 + g 10 := by
  simp only [Fin.sum_univ_castSucc, Finset.univ_eq_empty, Finset.sum_empty, zero_add]
  rfl

/-- A sum over 2816 hidden units is the sum of its eleven chunks of 256, added in order. -/
theorem sum_chunks (f : Fin 2816 → EReal) :
    ∑ n, f n = ((((((((((∑ j : Fin 256, f ⟨j, by omega⟩) + ∑ j : Fin 256, f ⟨256 + j, by omega⟩)
      + ∑ j : Fin 256, f ⟨512 + j, by omega⟩) + ∑ j : Fin 256, f ⟨768 + j, by omega⟩)
      + ∑ j : Fin 256, f ⟨1024 + j, by omega⟩) + ∑ j : Fin 256, f ⟨1280 + j, by omega⟩)
      + ∑ j : Fin 256, f ⟨1536 + j, by omega⟩) + ∑ j : Fin 256, f ⟨1792 + j, by omega⟩)
      + ∑ j : Fin 256, f ⟨2048 + j, by omega⟩) + ∑ j : Fin 256, f ⟨2304 + j, by omega⟩)
      + ∑ j : Fin 256, f ⟨2560 + j, by omega⟩ := by
  rw [Fin.sum_univ_tiles 11 256 rfl f]
  rw [sum_eleven]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg₂ (· + ·)
    ?_ ?_) ?_) ?_) ?_) ?_) ?_) ?_) ?_) ?_) ?_ <;>
  exact Finset.sum_congr rfl fun j _ => congrArg f (Fin.ext (by simp))

/-- The normalised row, as the first part of the body computes it. -/
theorem pay3_at (x0 : Vec Ideal S1x512x1024 .f32) (x1 : Vec Ideal S1x1x1024 .f32) (x2 x3 : Vec Ideal S1x1x1x1x1024 .f32)
    (r : Fin 512) (k : Fin 1024) :
    k0_pay3 (F := Ideal) x0 x1 x2 x3 (ix2 r k)
      = modNorm (fun l => x0 (ix3 0 r l)) (fun l => x1 (ix3 0 0 l)) (fun l => x2 (ix5 0 0 0 0 l))
          (fun l => x3 (ix5 0 0 0 0 l)) k := by
  pointwise [k0_pay3, k0_pay2, modNorm, rms]

/-- The normalised row the two projections read. -/
theorem pay21_at (x0 : Vec Ideal S1x512x1024 .f32) (x1 : Vec Ideal S1x1x1024 .f32) (x2 x3 x4 : Vec Ideal S1x1x1x1x1024 .f32)
    (x5 x6 : Vec Ideal S1x1024x2816 .bf16) (x7 : Vec Ideal S1x2816x1024 .bf16) (x8 : Vec Ideal S1x1024 .f32)
    (r : Fin 512) (k : Fin 1024) :
    k0_pay21 (F := Ideal) x0 x1 x2 x3 x4 x5 x6 x7 x8 (ix2 r k)
      = modNorm (fun l => x0 (ix3 0 r l)) (fun l => x1 (ix3 0 0 l)) (fun l => x2 (ix5 0 0 0 0 l))
          (fun l => x3 (ix5 0 0 0 0 l)) k := by
  pointwise [k0_pay21, k0_pay3, k0_pay2, modNorm, rms]

set_option maxHeartbeats 2000000 in
/-- What the body stores at row `r`, lane `d`, in terms of the blocks it reads. -/
theorem out_at (x0 : Vec Ideal S1x512x1024 .f32) (x1 : Vec Ideal S1x1x1024 .f32) (x2 x3 x4 : Vec Ideal S1x1x1x1x1024 .f32)
    (x5 x6 : Vec Ideal S1x1024x2816 .bf16) (x7 : Vec Ideal S1x2816x1024 .bf16) (x8 : Vec Ideal S1x1024 .f32)
    (r : Fin 512) (d : Fin 1024) :
    out0_9 (F := Ideal) x0 x1 x2 x3 x4 x5 x6 x7 x8 (ix3 0 r d)
      = rms (ffnRow (fun l => x0 (ix3 0 r l)) (fun l => x1 (ix3 0 0 l)) (fun l => x2 (ix5 0 0 0 0 l))
          (fun l => x3 (ix5 0 0 0 0 l)) (fun l => x4 (ix5 0 0 0 0 l)) (fun k n => x5 (ix3 0 k n))
          (fun k n => x6 (ix3 0 k n)) (fun n l => x7 (ix3 0 n l))) d * x8 (ix2 0 d) := by
  have hh := pay21_at x0 x1 x2 x3 x4 x5 x6 x7 x8 r
  have h3 := pay3_at x0 x1 x2 x3 r
  unfold out0_9
  frame_out
  pointwise [k0_pay1, k0_pay2, k0_pay4, k0_pay5, k0_pay6, k0_pay7, k0_pay8, k0_pay9, k0_pay10, k0_pay11, k0_pay12, k0_pay13,
    k0_pay14, k0_pay15, k0_pay16, k0_pay17, k0_pay18, k0_pay19, k0_pay20]
  simp only [Scalar.sigmoid_eq, hh, h3, rms, ffnRow, sum_chunks, up, silu]

end Cert.FfnBody

end
-- ==== Proof.FfnValue.lean ====
module

public import proofs.«01_k».proof.Proof.FfnBody

@[expose] public section

/-! # The array the feed-forward call leaves, as one function of its arguments -/

set_option maxRecDepth 16384

noncomputable section

namespace Cert.FfnValue

open Idealize.ShloMosaic Idealize.ShloMosaic.TcCoe Idealize.SL.Sem
open Cert.FfnIdeal Cert.FfnIdeal.Gen Cert.Scalar Cert.FfnBody

/-- The last layer's feed-forward block and final normalisation, index by index. -/
def G (x : FVec Ideal S2x16384x1024 .f32) (mod : FVec Ideal S2x2x6x1x1024 .f32) (nf : FVec Ideal S2x1024 .f32)
    (wi : FVec Ideal S2x1024x5632 .f32) (wo : FVec Ideal S2x2816x1024 .f32) (fin : FVec Ideal S1024 .f32) :
    FVec Ideal S2x16384x1024 .f32 := fun i =>
  rms (ffnRow (fun l => x (ix3 (i 0) (i 1) l)) (fun l => nf (ix2 1 l)) (fun l => mod (ix5 1 (i 0) 4 0 l))
    (fun l => mod (ix5 1 (i 0) 3 0 l)) (fun l => mod (ix5 1 (i 0) 5 0 l)) (fun k n => wi (ix3 1 k ⟨n, by omega⟩))
    (fun k n => wi (ix3 1 k ⟨2816 + n, by omega⟩)) (fun n l => wo (ix3 1 n l))) (i 2) * fin (ix1 (i 2))

variable (m : (ℓ : Loc nD τ sig) → Buf (Elt Ideal) ℓ)

/-- Where each window's block lies at grid point `t`. -/
theorem idx : ∀ t : Fin cfg0.N, win0_0.index t = ![t.val / 32, t.val % 32, 0] ∧ win0_1.index t = ![1, 0, 0]
    ∧ win0_2.index t = ![1, t.val / 32, 4, 0, 0] ∧ win0_3.index t = ![1, t.val / 32, 3, 0, 0]
    ∧ win0_4.index t = ![1, t.val / 32, 5, 0, 0] ∧ win0_5.index t = ![1, 0, 0] ∧ win0_6.index t = ![1, 0, 1]
    ∧ win0_7.index t = ![1, 0, 0] ∧ win0_8.index t = ![0, 0] ∧ win0_9.index t = ![t.val / 32, t.val % 32, 0] :=
  (by decide +kernel : ∀ t : Fin grid0.N, _)

set_option maxHeartbeats 2000000 in
/-- What point `t` writes at row `r`, lane `d` of its block is the closed form there. -/
theorem point (c : Dev nD) (t : Fin cfg0.N) (r : Fin 512) (d : Fin 1024) :
    out0_9 (F := Ideal) (iblk m c 0 t) (iblk m c 1 t) (iblk m c 2 t) (iblk m c 3 t) (iblk m c 4 t) (iblk m c 5 t)
        (iblk m c 6 t) (iblk m c 7 t) (iblk m c 8 t) (ix3 0 r d)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 9).blk t).view.emb (ix3 0 r d)) := by
  rw [out_at]
  simp only [G, rms, ffnRow, up, silu, modNorm]
  blk_point [iblk, V, idx t]

/-- The array after the run. -/
theorem final (c : Dev nD) : (dats m 0 c).arrAt 9 (cfgs 0).N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, d, rfl⟩ : ∃ r d, y = ix3 0 r d := ⟨y 1, y 2, by
    refine (eq_ix3 y).trans ?_
    exact congrArg (fun a => ix3 a (y 1) (y 2)) (Subsingleton.elim (α := Fin 1) _ _)⟩
  exact point m c t r d

end Cert.FfnValue

end
-- ==== Proof.FfnRef.lean ====
module

public import proofs.«01_k».proof.Proof.FfnValue
public import proofs.«01_k».proof.Proof.Gen.FfnRefIdeal.Run

@[expose] public section

/-! # The reference's feed-forward block is the same function of its arguments -/

set_option maxRecDepth 16384

noncomputable section

namespace Cert.FfnRefValue

open Idealize.ShloMosaic Idealize.ShloMosaic.TcCoe Idealize.SL.Sem
open Cert.FfnRefIdeal Cert.FfnRefIdeal.Gen

variable (m : (ℓ : Loc nD τ sig) → Buf (Elt Ideal) ℓ)

set_option maxHeartbeats 2000000 in
/-- The reference's result, index by index. -/
theorem ref_eq (c : Dev nD) : Value.res_main_v52 m c
    = FfnValue.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  idx_vars i
  unfold Value.res_main_v52
  pointwise [FfnValue.G, Scalar.rms, FfnBody.ffnRow, FfnBody.up, Scalar.silu, Scalar.modNorm]

end Cert.FfnRefValue

end
-- ==== Proof.FfnFirst.lean ====
module

public import proofs.«01_k».proof.Proof.FfnBody
public import proofs.«01_k».proof.Proof.Gen.FfnFirstIdeal.Value
public import proofs.«01_k».proof.Proof.Gen.FfnFirstRefIdeal.Run

@[expose] public section

/-! # The feed-forward call of the first layer

The call of the first layer ends with the residual stream itself; the final normalisation belongs to the last layer's
call. -/

set_option maxRecDepth 16384

noncomputable section

namespace Cert.FfnFirst

open Idealize.ShloMosaic Idealize.ShloMosaic.TcCoe Idealize.SL.Sem
open Cert.Scalar Cert.FfnBody

section Kernel

open Cert.FfnFirstIdeal Cert.FfnFirstIdeal.Gen

/-- The normalised row the two projections read. -/
theorem pay21_at (x0 : Vec Ideal S1x512x1024 .f32) (x1 : Vec Ideal S1x1x1024 .f32) (x2 x3 x4 : Vec Ideal S1x1x1x1x1024 .f32)
    (x5 x6 : Vec Ideal S1x1024x2816 .bf16) (x7 : Vec Ideal S1x2816x1024 .bf16) (x8 : Vec Ideal S1x1024 .f32)
    (r : Fin 512) (k : Fin 1024) :
    k0_pay21 (F := Ideal) x0 x1 x2 x3 x4 x5 x6 x7 x8 (ix2 r k)
      = modNorm (fun l => x0 (ix3 0 r l)) (fun l => x1 (ix3 0 0 l)) (fun l => x2 (ix5 0 0 0 0 l))
          (fun l => x3 (ix5 0 0 0 0 l)) k := by
  pointwise [k0_pay21, k0_pay3, k0_pay2, modNorm, rms]

/-- The same row, as the first part of the body computes it. -/
theorem pay3_at (x0 : Vec Ideal S1x512x1024 .f32) (x1 : Vec Ideal S1x1x1024 .f32) (x2 x3 : Vec Ideal S1x1x1x1x1024 .f32)
    (r : Fin 512) (k : Fin 1024) :
    k0_pay3 (F := Ideal) x0 x1 x2 x3 (ix2 r k)
      = modNorm (fun l => x0 (ix3 0 r l)) (fun l => x1 (ix3 0 0 l)) (fun l => x2 (ix5 0 0 0 0 l))
          (fun l => x3 (ix5 0 0 0 0 l)) k := by
  pointwise [k0_pay3, k0_pay2, modNorm, rms]

set_option maxHeartbeats 2000000 in
/-- What the body stores at row `r`, lane `d`, in terms of the blocks it reads. -/
theorem out_at (x0 : Vec Ideal S1x512x1024 .f32) (x1 : Vec Ideal S1x1x1024 .f32) (x2 x3 x4 : Vec Ideal S1x1x1x1x1024 .f32)
    (x5 x6 : Vec Ideal S1x1024x2816 .bf16) (x7 : Vec Ideal S1x2816x1024 .bf16) (x8 : Vec Ideal S1x1024 .f32)
    (r : Fin 512) (d : Fin 1024) :
    out0_9 (F := Ideal) x0 x1 x2 x3 x4 x5 x6 x7 x8 (ix3 0 r d)
      = ffnRow (fun l => x0 (ix3 0 r l)) (fun l => x1 (ix3 0 0 l)) (fun l => x2 (ix5 0 0 0 0 l))
          (fun l => x3 (ix5 0 0 0 0 l)) (fun l => x4 (ix5 0 0 0 0 l)) (fun k n => x5 (ix3 0 k n))
          (fun k n => x6 (ix3 0 k n)) (fun n l => x7 (ix3 0 n l)) d := by
  have hh := pay21_at x0 x1 x2 x3 x4 x5 x6 x7 x8 r
  have h3 := pay3_at x0 x1 x2 x3 r
  unfold out0_9
  frame_out
  pointwise [k0_pay1, k0_pay2, k0_pay4, k0_pay5, k0_pay6, k0_pay7, k0_pay8, k0_pay9, k0_pay10, k0_pay11, k0_pay12, k0_pay13,
    k0_pay14, k0_pay15, k0_pay16, k0_pay17, k0_pay18, k0_pay19, k0_pay20]
  simp only [Scalar.sigmoid_eq, hh, h3, rms, ffnRow, sum_chunks, up, silu]

/-- The first layer's feed-forward block, index by index. -/
def G (x : FVec Ideal S2x16384x1024 .f32) (mod : FVec Ideal S2x2x6x1x1024 .f32) (nf : FVec Ideal S2x1024 .f32)
    (wi : FVec Ideal S2x1024x5632 .f32) (wo : FVec Ideal S2x2816x1024 .f32) : FVec Ideal S2x16384x1024 .f32 := fun i =>
  ffnRow (fun l => x (ix3 (i 0) (i 1) l)) (fun l => nf (ix2 0 l)) (fun l => mod (ix5 0 (i 0) 4 0 l))
    (fun l => mod (ix5 0 (i 0) 3 0 l)) (fun l => mod (ix5 0 (i 0) 5 0 l)) (fun k n => wi (ix3 0 k ⟨n, by omega⟩))
    (fun k n => wi (ix3 0 k ⟨2816 + n, by omega⟩)) (fun n l => wo (ix3 0 n l)) (i 2)

variable (m : (ℓ : Loc nD τ sig) → Buf (Elt Ideal) ℓ)

/-- Where each window's block lies at grid point `t`. -/
theorem idx : ∀ t : Fin cfg0.N, win0_0.index t = ![t.val / 32, t.val % 32, 0] ∧ win0_1.index t = ![0, 0, 0]
    ∧ win0_2.index t = ![0, t.val / 32, 4, 0, 0] ∧ win0_3.index t = ![0, t.val / 32, 3, 0, 0]
    ∧ win0_4.index t = ![0, t.val / 32, 5, 0, 0] ∧ win0_5.index t = ![0, 0, 0] ∧ win0_6.index t = ![0, 0, 1]
    ∧ win0_7.index t = ![0, 0, 0] ∧ win0_8.index t = ![0, 0] ∧ win0_9.index t = ![t.val / 32, t.val % 32, 0] :=
  (by decide +kernel : ∀ t : Fin grid0.N, _)

set_option maxHeartbeats 2000000 in
/-- What point `t` writes at row `r`, lane `d` of its block is the closed form there. -/
theorem point (c : Dev nD) (t : Fin cfg0.N) (r : Fin 512) (d : Fin 1024) :
    out0_9 (F := Ideal) (iblk m c 0 t) (iblk m c 1 t) (iblk m c 2 t) (iblk m c 3 t) (iblk m c 4 t) (iblk m c 5 t)
        (iblk m c 6 t) (iblk m c 7 t) (iblk m c 8 t) (ix3 0 r d)
      = G (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 9).blk t).view.emb (ix3 0 r d)) := by
  rw [out_at]
  simp only [G, rms, ffnRow, up, silu, modNorm]
  blk_point [iblk, V, idx t]

/-- The array after the run. -/
theorem final (c : Dev nD) : (dats m 0 c).arrAt 9 (cfgs 0).N
    = G (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 9 _ (by decide +kernel) fun t _ y => ?_
  blk_simp
  rw [after0_9]
  obtain ⟨r, d, rfl⟩ : ∃ r d, y = ix3 0 r d := ⟨y 1, y 2, by
    refine (eq_ix3 y).trans ?_
    exact congrArg (fun a => ix3 a (y 1) (y 2)) (Subsingleton.elim (α := Fin 1) _ _)⟩
  exact point m c t r d

end Kernel

section Reference

open Cert.FfnFirstRefIdeal Cert.FfnFirstRefIdeal.Gen

variable (m : (ℓ : Loc nD τ sig) → Buf (Elt Ideal) ℓ)

set_option maxHeartbeats 2000000 in
/-- The reference's result, index by index. -/
theorem ref_eq (c : Dev nD) : Value.res_main_v39 m c
    = G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  idx_vars i
  unfold Value.res_main_v39
  pointwise [G, Scalar.rms, FfnBody.ffnRow, FfnBody.up, Scalar.silu, Scalar.modNorm]

end Reference

end Cert.FfnFirst

end
-- ==== Proof.MergeBody.lean ====
module

public import proofs.«01_k».proof.Proof.Gen.MergeIdeal.Value
public import proofs.«01_k».proof.Proof.Scalar

@[expose] public section

/-! # The arithmetic of the merge call's body, row by row -/

set_option maxRecDepth 16384

noncomputable section

namespace Cert.MergeBody

open Idealize.ShloMosaic Idealize.ShloMosaic.TcCoe Idealize.SL.Sem
open Cert.MergeIdeal Cert.MergeIdeal.Gen

open Cert.Scalar

/-- The logistic function. -/
def logistic (x : EReal) : EReal := Ideal.div 1 (1 + Ideal.exp (-x))

/-- The mean of a row of 512 entries. -/
def mean (v : Fin 512 → EReal) : EReal := Ideal.div (∑ l, v l) (Ideal.ofBits .f32 0x44000000#32)

/-- The layer normalisation of a row, with scale `g` and shift `b`. -/
def layerNorm (v g b : Fin 512 → EReal) (k : Fin 512) : EReal :=
  (v k - mean v) * Ideal.rsqrt (mean (fun l => (v l - mean v) * (v l - mean v)) + Ideal.ofBits .f32 0x358637BD#32) * g k
    + b k

/-- The depthwise convolution at one row and one channel: `u j` is the row that tap `j` reads. -/
def conv (w u : Fin 31 → Fin 512 → EReal) (b : Fin 512 → EReal) (k : Fin 512) : EReal := (∑ j, w j k * u j k) + b k

/-- A sum of thirty-one terms added in order onto a first one is the sum of the terms, plus the first. -/
theorem sum_thirtyone (g : Fin 31 → EReal) (b : EReal) :
    b + g 0 + g 1 + g 2 + g 3 + g 4 + g 5 + g 6 + g 7 + g 8 + g 9 + g 10 + g 11 + g 12 + g 13 + g 14 + g 15 + g 16 + g 17
      + g 18 + g 19 + g 20 + g 21 + g 22 + g 23 + g 24 + g 25 + g 26 + g 27 + g 28 + g 29 + g 30 = (∑ j, g j) + b := by
  rw [add_comm _ b]
  simp only [Fin.sum_univ_castSucc, Finset.univ_eq_empty, Finset.sum_empty, zero_add, ← add_assoc]
  rfl

/-- A branch: the gate of the merge at lane `k`, times the branch's output there. -/
def branch (h : Fin 1024 → EReal) (wm : Fin 1024 → Fin 1024 → EReal) (bm : Fin 1024 → EReal) (y : Fin 512 → EReal)
    (wo : Fin 512 → Fin 1024 → EReal) (k : Fin 1024) : EReal :=
  logistic ((∑ l, h l * wm l k) + bm k) * ∑ n, y n * wo n k

/-- The normalised row. -/
theorem pay4_at (x0 : Vec Ideal S1x512x1024 .f32) (x1 : Vec Ideal S1x1x1024 .f32) (x2 x3 : Vec Ideal S1x1x1x1x1024 .f32)
    (r : Fin 512) (k : Fin 1024) :
    k0_pay4 (F := Ideal) x0 x1 x2 x3 (ix2 r k)
      = modNorm (fun l => x0 (ix3 0 r l)) (fun l => x1 (ix3 0 0 l)) (fun l => x2 (ix5 0 0 0 0 l))
          (fun l => x3 (ix5 0 0 0 0 l)) k := by
  pointwise [k0_pay4, k0_pay3, modNorm, rms]

/-- The gated attention branch. -/
theorem pay6_at (h : FVec Ideal S512x1024 .bf16) (w : Vec Ideal S1x1024x1024 .bf16) (b : Vec Ideal S1x1x1024 .f32)
    (y : Vec Ideal S1x512x512 .bf16) (wo : Vec Ideal S1x512x1024 .bf16) (r : Fin 512) (k : Fin 1024) :
    k0_pay6 (F := Ideal) h (k0_pay5 w) b y wo (ix2 r k)
      = branch (fun l => h (ix2 r l)) (fun l k => w (ix3 0 l k)) (fun k => b (ix3 0 0 k)) (fun n => y (ix3 0 r n))
          (fun n k => wo (ix3 0 n k)) k := by
  pointwise [k0_pay6, k0_pay5]
  simp only [Scalar.sigmoid_eq, branch, logistic]

/-- The gated attention branch plus the gated recurrence branch. -/
theorem pay8_at (v : FVec Ideal S512x1024 .f32) (h : FVec Ideal S512x1024 .bf16) (w : Vec Ideal S1x1024x1024 .bf16) (b : Vec Ideal S1x1x1024 .f32)
    (y : Vec Ideal S1x512x512 .bf16) (wo : Vec Ideal S1x512x1024 .bf16) (r : Fin 512) (k : Fin 1024) :
    k0_pay8 (F := Ideal) v (k0_pay7 h w b) y wo (ix2 r k)
      = v (ix2 r k) + branch (fun l => h (ix2 r l)) (fun l k => w (ix3 0 l k)) (fun k => b (ix3 0 0 k)) (fun n => y (ix3 0 r n))
          (fun n k => wo (ix3 0 n k)) k := by
  pointwise [k0_pay8, k0_pay7]
  simp only [Scalar.sigmoid_eq, branch, logistic]

/-- The convolution branch of the first half of the tile: layer norm and sigmoid-weighted unit of the convolved row. -/
theorem pay34_at (v307 v309 v312 : FVec Ideal S256x512 .f32) (v315 : Vec Ideal S256x512 .f32)
    (v316 g b : Vec Ideal S1x1x512 .f32) (r : Fin 256) (k : Fin 512) :
    k0_pay34 (F := Ideal) (k0_pay32 v307 v309 v312 v315 v316 g b) (k0_pay33 v307 v309 v312 v315 v316 g b)
        (Scalar.ofBits .f32 0x3F000000#32) (ix2 r k)
      = silu (layerNorm (fun l => v307 (ix2 r l) + v312 (ix2 r l) * v309 (ix2 r l) + v316 (ix3 0 0 l) * v315 (ix2 r l))
          (fun l => g (ix3 0 0 l)) (fun l => b (ix3 0 0 l)) k) := by
  pointwise [k0_pay34, k0_pay32, k0_pay33]
  simp only [Scalar.sigmoid_eq, silu, layerNorm, mean]

set_option maxHeartbeats 2000000 in
/-- What the body adds up, at row `r` of the tile. -/
theorem pay57_at (v4 : FVec Ideal S512x1024 .f32) (h : FVec Ideal S512x1024 .bf16) (v70 : FVec Ideal S512x1024 .f32) (v357 : FVec Ideal S256x512 .bf16)
    (v601 : FVec Ideal S256x512 .f32) (v602 : Vec Ideal S256x512 .f32) (v603 g b : Vec Ideal S1x1x512 .f32) (wm : Vec Ideal S1x1024x1024 .bf16) (bm : Vec Ideal S1x1x1024 .f32)
    (wc : Vec Ideal S1x512x1024 .bf16) (gate : Vec Ideal S1x1x1x1x1024 .f32) (wo : Vec Ideal S1x1024x1024 .bf16)
    (r : Fin 512) (d : Fin 1024) :
    k0_pay57 (F := Ideal) v4 h v70 v357 (k0_pay55 v601 v602 v603 g b) (k0_pay56 v601 v602 v603 g b)
        (Scalar.ofBits .f32 0x3F000000#32) wm bm wc gate wo (ix2 r d)
      = v4 (ix2 r d) + gate (ix5 0 0 0 0 d) * ∑ k, (v70 (ix2 r k) + branch (fun l => h (ix2 r l)) (fun l k => wm (ix3 0 l k))
          (fun k => bm (ix3 0 0 k)) (fun n => if hr : r.val < 256 then v357 (ix2 ⟨r, hr⟩ n) else
            silu (layerNorm (fun l => v601 (ix2 ⟨r - 256, by omega⟩ l) + v603 (ix3 0 0 l) * v602 (ix2 ⟨r - 256, by omega⟩ l))
              (fun l => g (ix3 0 0 l)) (fun l => b (ix3 0 0 l)) n))
          (fun n k => wc (ix3 0 n k)) k) * wo (ix3 0 k d) := by
  pointwise [k0_pay57, k0_pay55, k0_pay56]
  simp only [Scalar.sigmoid_eq, silu, layerNorm, mean, branch, logistic]

/-- The same two facts with the convolved row given: first, the branch of the first half of the tile. -/
theorem pay34_conv (v307 v309 v312 : FVec Ideal S256x512 .f32) (v315 : Vec Ideal S256x512 .f32)
    (v316 g b : Vec Ideal S1x1x512 .f32) (C : ℕ → Fin 512 → EReal)
    (hC : ∀ (r : Fin 256) (l : Fin 512), v307 (ix2 r l) + v312 (ix2 r l) * v309 (ix2 r l) + v316 (ix3 0 0 l) * v315 (ix2 r l) = C r.val l)
    (r : Fin 256) (k : Fin 512) :
    k0_pay34 (F := Ideal) (k0_pay32 v307 v309 v312 v315 v316 g b) (k0_pay33 v307 v309 v312 v315 v316 g b)
        (Scalar.ofBits .f32 0x3F000000#32) (ix2 r k)
      = silu (layerNorm (C r.val) (fun l => g (ix3 0 0 l)) (fun l => b (ix3 0 0 l)) k) := by
  rw [pay34_at]
  simp only [hC]

/-- Then the whole row. -/
theorem pay57_conv (v4 : FVec Ideal S512x1024 .f32) (h : FVec Ideal S512x1024 .bf16) (v70 : FVec Ideal S512x1024 .f32) (v357 : FVec Ideal S256x512 .bf16)
    (v601 : FVec Ideal S256x512 .f32) (v602 : Vec Ideal S256x512 .f32) (v603 g b : Vec Ideal S1x1x512 .f32) (wm : Vec Ideal S1x1024x1024 .bf16) (bm : Vec Ideal S1x1x1024 .f32)
    (wc : Vec Ideal S1x512x1024 .bf16) (gate : Vec Ideal S1x1x1x1x1024 .f32) (wo : Vec Ideal S1x1024x1024 .bf16)
    (C C' : ℕ → Fin 512 → EReal)
    (hC : ∀ (r : Fin 256) (k : Fin 512), v357 (ix2 r k) = silu (layerNorm (C r.val) (fun l => g (ix3 0 0 l)) (fun l => b (ix3 0 0 l)) k))
    (hC' : ∀ (r : Fin 256) (l : Fin 512), v601 (ix2 r l) + v603 (ix3 0 0 l) * v602 (ix2 r l) = C' r.val l)
    (r : Fin 512) (d : Fin 1024) :
    k0_pay57 (F := Ideal) v4 h v70 v357 (k0_pay55 v601 v602 v603 g b) (k0_pay56 v601 v602 v603 g b)
        (Scalar.ofBits .f32 0x3F000000#32) wm bm wc gate wo (ix2 r d)
      = v4 (ix2 r d) + gate (ix5 0 0 0 0 d) * ∑ k, (v70 (ix2 r k) + branch (fun l => h (ix2 r l)) (fun l k => wm (ix3 0 l k))
          (fun k => bm (ix3 0 0 k)) (fun n => if r.val < 256 then silu (layerNorm (C r.val) (fun l => g (ix3 0 0 l)) (fun l => b (ix3 0 0 l)) n) else
            silu (layerNorm (C' (r.val - 256)) (fun l => g (ix3 0 0 l)) (fun l => b (ix3 0 0 l)) n))
          (fun n k => wc (ix3 0 n k)) k) * wo (ix3 0 k d) := by
  rw [pay57_at]
  simp only [hC, hC', dite_eq_ite]

end Cert.MergeBody

end
-- ==== Proof.MergeScratch.lean ====
module

public import proofs.«01_k».proof.Proof.MergeBody
public import Idealize.ShloMosaic.Lib.WritesUnit
public import Idealize.ShloMosaic.Lib.Pipeline.ReadBack

@[expose] public section

/-! # What the merge call's convolution reads of its two scratch buffers -/

set_option maxRecDepth 16384

noncomputable section

namespace Cert.MergeScratch

open Idealize.ShloMosaic Idealize.ShloMosaic.TcCoe Idealize.SL.Sem
open Cert.MergeIdeal Cert.MergeIdeal.Gen

/-- The extended rows of the first half of a tile: thirty-two rows carried in, then the first 256 rows of the block. -/
def ext1 (halo : Vec Ideal S288x512 .f32) (x5 : Vec Ideal S1x512x512 .f32) : Vec Ideal S288x512 .f32 := fun i =>
  if h : (i 0).val < 32 then halo i else x5 (ix3 0 ⟨(i 0).val - 32, by have := (i 0).isLt; simp at this; omega⟩ (i 1))

/-- The extended rows of the second half: the block from row 224 on. -/
def ext2 (x5 : Vec Ideal S1x512x512 .f32) : Vec Ideal S288x512 .f32 := fun i =>
  x5 (ix3 0 ⟨224 + (i 0).val, by have := (i 0).isLt; simp at this; omega⟩ (i 1))

/-- Row `n` of the extended rows, zero past their end. -/
def rowOf (E : Vec Ideal S288x512 .f32) (n : ℕ) (l : Fin 512) : EReal := if h : n < 288 then E (ix2 ⟨n, h⟩ l) else 0

/-- The 256 extended rows from row `n` on, as a block of one slab. -/
def tap (E : Vec Ideal S288x512 .f32) (n : ℕ) : Vec Ideal S1x256x512 .f32 := fun x => rowOf E (n + (x 1).val) (x 2)

/-- The same rows as a matrix. -/
def tapRow (E : Vec Ideal S288x512 .f32) (n : ℕ) : Vec Ideal S256x512 .f32 := fun x => rowOf E (n + (x 0).val) (x 1)

/-- Where a unit-stride piece of whole rows lies. -/
theorem mem_rows {o n : ℕ} (inb : ∀ a : Fin 2, ![o, 0] a + ![n, 512] a ≤ S288x512.size a) (i : Fin 288) (l : Fin 512) :
    ix2 i l ∈ (Rect.unit (s := S288x512) ![o, 0] ![n, 512] inb).set ↔ o ≤ i.val ∧ i.val < o + n := by
  rw [Rect.mem_set_unit]
  constructor
  · intro h; simpa using h 0
  · intro h a
    fin_cases a
    · simpa using h
    · have := l.isLt; simpa using this

/-- The carried rows and a half tile laid behind them, read back. -/
theorem canon_first (halo : Vec Ideal S32x512 .f32) (w : Vec Ideal S256x512 .f32) (inb inb') (L : List (View.Piece (Elt Ideal) S288x512 .f32))
    (i : Fin 288) (l : Fin 512) :
    View.canon (Val := Elt Ideal) ((⟨Rect.unit (s := S288x512) ![32, 0] ![256, 512] inb, w⟩ : View.Piece (Elt Ideal) S288x512 .f32)
        :: ⟨Rect.unit (s := S288x512) ![0, 0] ![32, 512] inb', halo⟩ :: L) (ix2 i l)
      = if h : i.val < 32 then halo (ix2 ⟨i, h⟩ l) else w (ix2 ⟨i.val - 32, by omega⟩ l) := by
  by_cases h : i.val < 32
  · rw [dif_pos h, View.canon_cons_of_not_mem _ _ (by rw [mem_rows]; omega)]
    have hi : ix2 i l = (Rect.unit (s := S288x512) ![0, 0] ![32, 512] inb').emb (ix2 ⟨i, h⟩ l) := by
      funext a; apply Fin.ext; fin_cases a <;> simp [Rect.emb_apply]
    rw [hi, View.canon_cons_emb]
  · rw [dif_neg h]
    have hi : ix2 i l = (Rect.unit (s := S288x512) ![32, 0] ![256, 512] inb).emb (ix2 ⟨i.val - 32, by omega⟩ l) := by
      funext a; apply Fin.ext; fin_cases a <;> simp [Rect.emb_apply] <;> omega
    rw [hi, View.canon_cons_emb]

/-- A load of the first scratch buffer, after carried rows and a half tile are laid in it. -/
theorem load_first {κ : Kind} {sp : Space} (v : View sig κ sp S288x512 .f32) (halo : Vec Ideal S32x512 .f32) (w : Vec Ideal S256x512 .f32) (inb inb') (L : List (View.Piece (Elt Ideal) S288x512 .f32))
    (E : Vec Ideal S288x512 .f32) (hE : ∀ (i : Fin 288) (l : Fin 512), E (ix2 i l)
      = if h : i.val < 32 then halo (ix2 ⟨i, h⟩ l) else w (ix2 ⟨i.val - 32, by omega⟩ l)) (r : Rect S288x512) :
    v.readCov (Val := Elt Ideal) ((⟨Rect.unit (s := S288x512) ![32, 0] ![256, 512] inb, w⟩ : View.Piece (Elt Ideal) S288x512 .f32)
        :: ⟨Rect.unit (s := S288x512) ![0, 0] ![32, 512] inb', halo⟩ :: L) r.toLoadRect = View.ld E r := by
  rw [View.readCov_eq_canon']
  funext j
  show View.canon _ (r.idx j) = E (r.idx j)
  obtain ⟨i, l, h⟩ : ∃ i l, r.idx j = ix2 i l := ⟨_, _, eq_ix2 _⟩
  rw [h]
  exact (canon_first halo w inb inb' L i l).trans (hE i l).symm

/-- The first half's loads at a tile that starts a sequence: the rows carried in are zero. -/
theorem load_start {κ : Kind} {sp : Space} (v : View sig κ sp S288x512 .f32) (x5 : Vec Ideal S1x512x512 .f32) (inb inb' inb'') (r : Rect S288x512) :
    v.readCov (Val := Elt Ideal) [(⟨Rect.unit (s := S288x512) ![32, 0] ![256, 512] inb,
          k0_pay10 (F := Ideal) (View.ld x5 (Rect.unit ![0, 0, 0] ![1, 256, 512] inb''))⟩ : View.Piece (Elt Ideal) S288x512 .f32),
        ⟨Rect.unit (s := S288x512) ![0, 0] ![32, 512] inb', k0_pay2 (F := Ideal)⟩] r.toLoadRect = View.ld (ext1 (fun _ => (0 : EReal)) x5) r := by
  refine load_first v _ _ _ _ _ _ (fun i l => ?_) r
  unfold ext1
  show (if h : i.val < 32 then _ else _) = _
  split
  · pointwise [k0_pay2]
  · pointwise [k0_pay10, k0_pay9]

/-- The second half's loads: the rows carried over from the first half lie before it in the block. -/
theorem load_second {κ : Kind} {sp : Space} (v : View sig κ sp S288x512 .f32) (x5 : Vec Ideal S1x512x512 .f32) (inb inb' inb'' inb3) (L) (r : Rect S288x512) :
    v.readCov (Val := Elt Ideal) ((⟨Rect.unit (s := S288x512) ![32, 0] ![256, 512] inb,
          k0_pay36 (F := Ideal) (View.ld x5 (Rect.unit ![0, 256, 0] ![1, 256, 512] inb''))⟩ : View.Piece (Elt Ideal) S288x512 .f32)
        :: ⟨Rect.unit (s := S288x512) ![0, 0] ![32, 512] inb', k0_pay31 (F := Ideal) (k0_pay9 (View.ld x5 (Rect.unit ![0, 0, 0] ![1, 256, 512] inb3)))⟩ :: L)
        r.toLoadRect = View.ld (ext2 x5) r := by
  refine load_first v _ _ _ _ _ _ (fun i l => ?_) r
  unfold ext2
  split
  · pointwise [k0_pay31, k0_pay9]
  · pointwise [k0_pay36, k0_pay35]
    blk_ext

/-- The first half's buffer at a tile that follows another: the rows carried in are what that tile left. -/
theorem load_next {κ : Kind} {sp : Space} (v : View sig κ sp S288x512 .f32) (old : v.ty.Contents (Elt Ideal)) (x5 : Vec Ideal S1x512x512 .f32) (inb inb'') :
    View.read (Elt Ideal) v (v.writes (Elt Ideal) old
        [(⟨Rect.unit (s := S288x512) ![32, 0] ![256, 512] inb,
          k0_pay10 (F := Ideal) (View.ld x5 (Rect.unit ![0, 0, 0] ![1, 256, 512] inb''))⟩ : View.Piece (Elt Ideal) S288x512 .f32)])
      = ext1 (View.read (Elt Ideal) v old) x5 := by
  funext y
  obtain ⟨i, l, rfl⟩ : ∃ i l, y = ix2 i l := ⟨y 0, y 1, eq_ix2 y⟩
  unfold ext1
  show _ = (if h : i.val < 32 then _ else _)
  split
  case isTrue h =>
    rw [View.read_writes_cons_rows_of_not_mem _ _ _ _ _ _ rfl rfl (Or.inl h)]
    show View.read _ _ (View.writes _ _ _ []) _ = _
    rw [View.writes_nil]
  case isFalse h =>
    refine (View.read_writes_cons_rows_of_mem _ _ inb _ _ _ (ix2 (⟨i.val - 32, by omega⟩ : Fin 256) l) rfl
      (show i.val = 32 + (i.val - 32) by omega) rfl).trans ?_
    pointwise [k0_pay10, k0_pay9]

/-- An aligned read of the extended rows. -/
theorem load_aligned (E : Vec Ideal S288x512 .f32) (n : ℕ) (inb : ∀ a : Fin 2, ![n, 0] a + ![256, 512] a ≤ S288x512.size a) :
    View.ld E (Rect.unit (s := S288x512) ![n, 0] ![256, 512] inb) = tapRow E n := by
  have hn : n + 256 ≤ 288 := inb 0
  funext x
  unfold tapRow rowOf
  have hx : (x 0).val < 256 := (x 0).isLt
  rw [dif_pos (by omega)]
  show E _ = E _
  congr 1
  funext a; apply Fin.ext; fin_cases a
  · show n + 1 * (x 0).val = n + (x 0).val; omega
  · show 0 + 1 * (x 1).val = (x 1).val; omega

/-- The rows of the first half tile alone, read back: the extended rows from row 32 on, whatever was carried in. -/
theorem load_tail (X : Vec Ideal S288x512 .f32) {κ : Kind} {sp : Space} (v : View sig κ sp S288x512 .f32) (x5 : Vec Ideal S1x512x512 .f32) (inb inb' inb'') :
    v.readCov (Val := Elt Ideal) [(⟨Rect.unit (s := S288x512) ![32, 0] ![256, 512] inb,
          k0_pay10 (F := Ideal) (View.ld x5 (Rect.unit ![0, 0, 0] ![1, 256, 512] inb''))⟩ : View.Piece (Elt Ideal) S288x512 .f32)]
        (Rect.unit (s := S288x512) ![32, 0] ![256, 512] inb').toLoadRect = tapRow (ext1 X x5) 32 := by
  refine Eq.trans ?_ (load_aligned (ext1 X x5) 32 inb')
  rw [View.readCov_eq_canon']
  funext j
  obtain ⟨i, l, rfl⟩ : ∃ (i : Fin 256) (l : Fin 512), j = ix2 i l := ⟨_, _, eq_ix2 j⟩
  refine (View.canon_cons_emb _ _ _ _).trans ?_
  show _ = (if h : 32 + 1 * i.val < 32 then _ else _)
  rw [dif_neg (by omega)]
  pointwise [k0_pay10, k0_pay9]

/-- What the second scratch buffer holds: slab `s` is the extended rows from row `s + 1` on. -/
def slabs (E : Vec Ideal S288x512 .f32) : Vec Ideal S7x280x512 .f32 := fun y => rowOf E ((y 0).val + 1 + (y 1).val) (y 2)

/-- A slab's store is that slab. -/
theorem slab_piece (E : Vec Ideal S288x512 .f32) (s : ℕ) (hs : s < 7) (inb : ∀ a : Fin 3, ![s, 0, 0] a + ![1, 280, 512] a ≤ S7x280x512.size a)
    (w : Vec Ideal S1x280x512 .f32) (hw : ∀ (i : Fin 280) (l : Fin 512), w (ix3 0 i l) = E (ix2 ⟨s + 1 + i.val, by omega⟩ l)) :
    ∀ x : (Rect.unit (s := S7x280x512) ![s, 0, 0] ![1, 280, 512] inb).shape.Idx,
      w x = slabs E ((Rect.unit (s := S7x280x512) ![s, 0, 0] ![1, 280, 512] inb).emb x) := by
  intro x
  have hx0 : (x 0).val < 1 := (x 0).isLt
  have hx1 : (x 1).val < 280 := (x 1).isLt
  have hx2 : (x 2).val < 512 := (x 2).isLt
  have hx : x = ix3 (0 : Fin 1) (⟨(x 1).val, hx1⟩ : Fin 280) (⟨(x 2).val, hx2⟩ : Fin 512) := by
    funext a; apply Fin.ext; fin_cases a
    · show (x 0).val = 0; omega
    · rfl
    · rfl
  refine (congrArg w hx).trans ((hw _ _).trans ?_)
  unfold slabs rowOf
  have e0 : (((Rect.unit (s := S7x280x512) ![s, 0, 0] ![1, 280, 512] inb).emb x) 0).val = s + 1 * (x 0).val := rfl
  have e1 : (((Rect.unit (s := S7x280x512) ![s, 0, 0] ![1, 280, 512] inb).emb x) 1).val = 0 + 1 * (x 1).val := rfl
  have e2 : (((Rect.unit (s := S7x280x512) ![s, 0, 0] ![1, 280, 512] inb).emb x) 2).val = 0 + 1 * (x 2).val := rfl
  rw [dif_pos (by rw [e0, e1]; omega)]
  congr 1
  funext a; apply Fin.ext; fin_cases a
  · show s + 1 + (x 1).val = _ + 1 + _; rw [e0, e1]; omega
  · exact (e2.trans (by omega) : _ = (x 2).val).symm

/-- An entry lies in the slab its first coordinate names. -/
theorem mem_slab (y : S7x280x512.Idx) (s : ℕ) (hs : (y 0).val = s) (inb : ∀ a : Fin 3, ![s, 0, 0] a + ![1, 280, 512] a ≤ S7x280x512.size a) :
    y ∈ (Rect.unit (s := S7x280x512) ![s, 0, 0] ![1, 280, 512] inb).set := by
  rw [Rect.mem_set_unit]
  have h1 : (y 1).val < 280 := (y 1).isLt
  have h2 : (y 2).val < 512 := (y 2).isLt
  intro a
  fin_cases a
  · show s ≤ (y 0).val ∧ (y 0).val < s + 1; omega
  · show 0 ≤ (y 1).val ∧ (y 1).val < 0 + 280; omega
  · show 0 ≤ (y 2).val ∧ (y 2).val < 0 + 512; omega

/-- Seven stores, one a slab, cover the second scratch buffer. -/
theorem slab_cover (y : S7x280x512.Idx) (i6 i5 i4 i3 i2 i1 i0) (w6 w5 w4 w3 w2 w1 w0 : Vec Ideal S1x280x512 .f32) :
    ∃ p ∈ [(⟨Rect.unit (s := S7x280x512) ![6, 0, 0] ![1, 280, 512] i6, w6⟩ : View.Piece (Elt Ideal) S7x280x512 .f32),
      ⟨Rect.unit (s := S7x280x512) ![5, 0, 0] ![1, 280, 512] i5, w5⟩, ⟨Rect.unit (s := S7x280x512) ![4, 0, 0] ![1, 280, 512] i4, w4⟩,
      ⟨Rect.unit (s := S7x280x512) ![3, 0, 0] ![1, 280, 512] i3, w3⟩, ⟨Rect.unit (s := S7x280x512) ![2, 0, 0] ![1, 280, 512] i2, w2⟩,
      ⟨Rect.unit (s := S7x280x512) ![1, 0, 0] ![1, 280, 512] i1, w1⟩, ⟨Rect.unit (s := S7x280x512) ![0, 0, 0] ![1, 280, 512] i0, w0⟩],
      y ∈ p.1.set := by
  have h : (y 0).val < 7 := (y 0).isLt
  rcases (by omega : (y 0).val = 6 ∨ (y 0).val = 5 ∨ (y 0).val = 4 ∨ (y 0).val = 3 ∨ (y 0).val = 2 ∨ (y 0).val = 1 ∨ (y 0).val = 0)
    with h | h | h | h | h | h | h
  · exact ⟨_, .head _, mem_slab y 6 h i6⟩
  · exact ⟨_, .tail _ (.head _), mem_slab y 5 h i5⟩
  · exact ⟨_, .tail _ (.tail _ (.head _)), mem_slab y 4 h i4⟩
  · exact ⟨_, .tail _ (.tail _ (.tail _ (.head _))), mem_slab y 3 h i3⟩
  · exact ⟨_, .tail _ (.tail _ (.tail _ (.tail _ (.head _)))), mem_slab y 2 h i2⟩
  · exact ⟨_, .tail _ (.tail _ (.tail _ (.tail _ (.tail _ (.head _))))), mem_slab y 1 h i1⟩
  · exact ⟨_, .tail _ (.tail _ (.tail _ (.tail _ (.tail _ (.tail _ (.head _)))))), mem_slab y 0 h i0⟩

/-- A load inside slab `s` of the second scratch buffer reads the extended rows from row `s + 1 + q` on. -/
theorem load_slab {κ : Kind} {sp : Space} (v : View sig κ sp S7x280x512 .f32) (E : Vec Ideal S288x512 .f32) (L L' : List (View.Piece (Elt Ideal) S7x280x512 .f32)) (hL : View.PiecesOf (slabs E) L)
    (s q : ℕ) (inb : ∀ a : Fin 3, ![s, q, 0] a + ![1, 256, 512] a ≤ S7x280x512.size a)
    (hc : ∀ y : S7x280x512.Idx, ∃ p ∈ L, y ∈ p.1.set) :
    v.readCov (Val := Elt Ideal) (L ++ L') (Rect.unit (s := S7x280x512) ![s, q, 0] ![1, 256, 512] inb).toLoadRect
      = tap E (s + 1 + q) := by
  rw [View.readCov_eq_canon']
  funext x
  rw [View.canon_append_of_piecesOf (slabs E) L' L hL _ (hc _)]
  unfold slabs tap
  have hx0 : (x 0).val < 1 := (x 0).isLt
  congr 1
  · show s + 1 * (x 0).val + 1 + (q + 1 * (x 1).val) = s + 1 + q + (x 1).val; omega
  · apply Fin.ext; show 0 + 1 * (x 2).val = (x 2).val; omega

/-- The first half's loads from the second scratch buffer. -/
theorem load_slab_first {κ : Kind} {sp : Space} (v : View sig κ sp S7x280x512 .f32) (E : Vec Ideal S288x512 .f32) (s q : ℕ) (inb) (i6 i5 i4 i3 i2 i1 i0 j7 j6 j5 j4 j3 j2 j1)
    (L' : List (View.Piece (Elt Ideal) S7x280x512 .f32)) :
    v.readCov (Val := Elt Ideal)
      ((⟨Rect.unit (s := S7x280x512) ![6, 0, 0] ![1, 280, 512] i6, k0_pay17 (F := Ideal) (View.ld E (Rect.unit (s := S288x512) ![7, 0] ![280, 512] j7))⟩ : View.Piece (Elt Ideal) S7x280x512 .f32)
        :: ⟨Rect.unit (s := S7x280x512) ![5, 0, 0] ![1, 280, 512] i5, k0_pay16 (F := Ideal) (View.ld E (Rect.unit (s := S288x512) ![6, 0] ![280, 512] j6))⟩
        :: ⟨Rect.unit (s := S7x280x512) ![4, 0, 0] ![1, 280, 512] i4, k0_pay15 (F := Ideal) (View.ld E (Rect.unit (s := S288x512) ![5, 0] ![280, 512] j5))⟩
        :: ⟨Rect.unit (s := S7x280x512) ![3, 0, 0] ![1, 280, 512] i3, k0_pay14 (F := Ideal) (View.ld E (Rect.unit (s := S288x512) ![4, 0] ![280, 512] j4))⟩
        :: ⟨Rect.unit (s := S7x280x512) ![2, 0, 0] ![1, 280, 512] i2, k0_pay13 (F := Ideal) (View.ld E (Rect.unit (s := S288x512) ![3, 0] ![280, 512] j3))⟩
        :: ⟨Rect.unit (s := S7x280x512) ![1, 0, 0] ![1, 280, 512] i1, k0_pay12 (F := Ideal) (View.ld E (Rect.unit (s := S288x512) ![2, 0] ![280, 512] j2))⟩
        :: ⟨Rect.unit (s := S7x280x512) ![0, 0, 0] ![1, 280, 512] i0, k0_pay11 (F := Ideal) (View.ld E (Rect.unit (s := S288x512) ![1, 0] ![280, 512] j1))⟩
        :: L') (Rect.unit (s := S7x280x512) ![s, q, 0] ![1, 256, 512] inb).toLoadRect = tap E (s + 1 + q) := by
  refine load_slab v E [_, _, _, _, _, _, _] L' ⟨?_, ?_, ?_, ?_, ?_, ?_, ?_, trivial⟩ s q inb (fun y => slab_cover y _ _ _ _ _ _ _ _ _ _ _ _ _ _)
  · exact slab_piece E 6 (by omega) i6 _ fun i l => by pointwise [k0_pay17]
  · exact slab_piece E 5 (by omega) i5 _ fun i l => by pointwise [k0_pay16]
  · exact slab_piece E 4 (by omega) i4 _ fun i l => by pointwise [k0_pay15]
  · exact slab_piece E 3 (by omega) i3 _ fun i l => by pointwise [k0_pay14]
  · exact slab_piece E 2 (by omega) i2 _ fun i l => by pointwise [k0_pay13]
  · exact slab_piece E 1 (by omega) i1 _ fun i l => by pointwise [k0_pay12]
  · exact slab_piece E 0 (by omega) i0 _ fun i l => by pointwise [k0_pay11]

/-- The second half's loads from the second scratch buffer. -/
theorem load_slab_second {κ : Kind} {sp : Space} (v : View sig κ sp S7x280x512 .f32) (E : Vec Ideal S288x512 .f32) (s q : ℕ) (inb) (i6 i5 i4 i3 i2 i1 i0 j7 j6 j5 j4 j3 j2 j1)
    (L' : List (View.Piece (Elt Ideal) S7x280x512 .f32)) :
    v.readCov (Val := Elt Ideal)
      ((⟨Rect.unit (s := S7x280x512) ![6, 0, 0] ![1, 280, 512] i6, k0_pay43 (F := Ideal) (View.ld E (Rect.unit (s := S288x512) ![7, 0] ![280, 512] j7))⟩ : View.Piece (Elt Ideal) S7x280x512 .f32)
        :: ⟨Rect.unit (s := S7x280x512) ![5, 0, 0] ![1, 280, 512] i5, k0_pay42 (F := Ideal) (View.ld E (Rect.unit (s := S288x512) ![6, 0] ![280, 512] j6))⟩
        :: ⟨Rect.unit (s := S7x280x512) ![4, 0, 0] ![1, 280, 512] i4, k0_pay41 (F := Ideal) (View.ld E (Rect.unit (s := S288x512) ![5, 0] ![280, 512] j5))⟩
        :: ⟨Rect.unit (s := S7x280x512) ![3, 0, 0] ![1, 280, 512] i3, k0_pay40 (F := Ideal) (View.ld E (Rect.unit (s := S288x512) ![4, 0] ![280, 512] j4))⟩
        :: ⟨Rect.unit (s := S7x280x512) ![2, 0, 0] ![1, 280, 512] i2, k0_pay39 (F := Ideal) (View.ld E (Rect.unit (s := S288x512) ![3, 0] ![280, 512] j3))⟩
        :: ⟨Rect.unit (s := S7x280x512) ![1, 0, 0] ![1, 280, 512] i1, k0_pay38 (F := Ideal) (View.ld E (Rect.unit (s := S288x512) ![2, 0] ![280, 512] j2))⟩
        :: ⟨Rect.unit (s := S7x280x512) ![0, 0, 0] ![1, 280, 512] i0, k0_pay37 (F := Ideal) (View.ld E (Rect.unit (s := S288x512) ![1, 0] ![280, 512] j1))⟩
        :: L') (Rect.unit (s := S7x280x512) ![s, q, 0] ![1, 256, 512] inb).toLoadRect = tap E (s + 1 + q) := by
  refine load_slab v E [_, _, _, _, _, _, _] L' ⟨?_, ?_, ?_, ?_, ?_, ?_, ?_, trivial⟩ s q inb (fun y => slab_cover y _ _ _ _ _ _ _ _ _ _ _ _ _ _)
  · exact slab_piece E 6 (by omega) i6 _ fun i l => by pointwise [k0_pay43]
  · exact slab_piece E 5 (by omega) i5 _ fun i l => by pointwise [k0_pay42]
  · exact slab_piece E 4 (by omega) i4 _ fun i l => by pointwise [k0_pay41]
  · exact slab_piece E 3 (by omega) i3 _ fun i l => by pointwise [k0_pay40]
  · exact slab_piece E 2 (by omega) i2 _ fun i l => by pointwise [k0_pay39]
  · exact slab_piece E 1 (by omega) i1 _ fun i l => by pointwise [k0_pay38]
  · exact slab_piece E 0 (by omega) i0 _ fun i l => by pointwise [k0_pay37]

end Cert.MergeScratch

end
-- ==== Proof.MergeConv.lean ====
module

public import proofs.«01_k».proof.Proof.MergeScratch

@[expose] public section

/-! # The merge call's convolution: thirty-one taps of the extended rows -/

set_option maxRecDepth 16384

noncomputable section

namespace Cert.MergeConv

open Idealize.ShloMosaic Idealize.ShloMosaic.TcCoe Idealize.SL.Sem
open Cert.MergeIdeal Cert.MergeIdeal.Gen Cert.Scalar Cert.MergeBody Cert.MergeScratch

/-- Row `j` of the convolution's weights, zero past their end. -/
def weightRow (x8 : Vec Ideal S1x31x512 .f32) (j : ℕ) : Vec Ideal S1x1x512 .f32 := fun x =>
  if h : j < 31 then x8 (ix3 0 ⟨j, h⟩ (x 2)) else 0

/-- A load of one row of the weights. -/
theorem load_weight (x8 : Vec Ideal S1x31x512 .f32) (j : ℕ) (inb : ∀ a : Fin 3, ![0, j, 0] a + ![1, 1, 512] a ≤ S1x31x512.size a) :
    View.ld x8 (Rect.unit (s := S1x31x512) ![0, j, 0] ![1, 1, 512] inb) = weightRow x8 j := by
  have hj : j + 1 ≤ 31 := inb 1
  funext x
  have h0 : (x 0).val < 1 := (x 0).isLt
  have h1 : (x 1).val < 1 := (x 1).isLt
  unfold weightRow
  rw [dif_pos (by omega)]
  show x8 _ = x8 _
  congr 1
  funext a; apply Fin.ext; fin_cases a
  · show 0 + 1 * (x 0).val = 0; omega
  · show j + 1 * (x 1).val = j; omega
  · show 0 + 1 * (x 2).val = (x 2).val; omega

/-- The convolved rows of a half tile, from its extended rows. -/
def convRow (E : Vec Ideal S288x512 .f32) (x8 : Vec Ideal S1x31x512 .f32) (x9 : Vec Ideal S1x1x512 .f32) (r : ℕ) (l : Fin 512) : EReal :=
  conv (fun j l => x8 (ix3 0 j l)) (fun j l => rowOf E (j.val + 2 + r) l) (fun l => x9 (ix3 0 0 l)) l

set_option maxHeartbeats 2000000 in
/-- The first half's taps add up to the convolved row. -/
theorem conv_first (E : Vec Ideal S288x512 .f32) (x8 : Vec Ideal S1x31x512 .f32) (x9 : Vec Ideal S1x1x512 .f32) (r : Fin 256) (l : Fin 512) :
    ((k0_pay28 (k0_pay27 (k0_pay25 (k0_pay22 (k0_pay21 (k0_pay20 (k0_pay18 x9 (tap E 2) (weightRow x8 0)) (k0_pay19 (tap E 3)) (weightRow x8 1)
      (tap E 4) (weightRow x8 2) (tap E 5) (weightRow x8 3) (tap E 6) (weightRow x8 4) (tap E 7) (weightRow x8 5)) (tapRow E 8) (weightRow x8 6)
      (tap E 9) (weightRow x8 7) (tap E 10) (weightRow x8 8) (tap E 11) (weightRow x8 9) (tap E 12) (weightRow x8 10)) (tap E 13) (weightRow x8 11)
      (tap E 14) (weightRow x8 12) (tap E 15) (weightRow x8 13) (tapRow E 16) (weightRow x8 14)) (k0_pay23 (tap E 17)) (k0_pay24 (weightRow x8 15))
      (tap E 18) (weightRow x8 16) (tap E 19) (weightRow x8 17) (tap E 20) (weightRow x8 18) (tap E 21) (weightRow x8 19)) (k0_pay26
      (tap E 22)) (weightRow x8 20) (tap E 23) (weightRow x8 21) (tapRow E 24) (weightRow x8 22) (tap E 25) (weightRow x8 23)
      (tap E 26) (weightRow x8 24)) (tap E 27) (weightRow x8 25) (tap E 28) (weightRow x8 26) (tap E 29) (weightRow x8 27) (tap E 30) (weightRow x8 28)) : FVec Ideal S256x512 .f32) (ix2 r l)
      + (k0_pay30 (weightRow x8 29)) (ix2 r l) * (k0_pay29 (tap E 31)) (ix2 r l)
      + (weightRow x8 30) (ix3 0 0 l) * (tapRow E 32) (ix2 r l) = convRow E x8 x9 r.val l := by
  refine Eq.trans ?_ (sum_thirtyone (fun j => x8 (ix3 0 j l) * rowOf E (j.val + 2 + r.val) l) (x9 (ix3 0 0 l)))
  pointwise [k0_pay18, k0_pay19, k0_pay20, k0_pay21, k0_pay22, k0_pay23, k0_pay24, k0_pay25, k0_pay26, k0_pay27, k0_pay28, k0_pay29, k0_pay30, tap, tapRow, weightRow]

set_option maxHeartbeats 2000000 in
/-- The second half's taps add up to the convolved row. -/
theorem conv_second (E : Vec Ideal S288x512 .f32) (x8 : Vec Ideal S1x31x512 .f32) (x9 : Vec Ideal S1x1x512 .f32) (r : Fin 256) (l : Fin 512) :
    ((k0_pay53 (k0_pay51 (k0_pay49 (k0_pay48 (k0_pay47 (k0_pay46 (k0_pay44 x9 (tap E 2) (weightRow x8 0)) (k0_pay45 (tap E 3) (weightRow x8 1))
      (tap E 4) (weightRow x8 2) (tap E 5) (weightRow x8 3) (tap E 6) (weightRow x8 4) (tap E 7) (weightRow x8 5)) (tapRow E 8) (weightRow x8 6)
      (tap E 9) (weightRow x8 7) (tap E 10) (weightRow x8 8) (tap E 11) (weightRow x8 9) (tap E 12) (weightRow x8 10)) (tap E 13) (weightRow x8 11)
      (tap E 14) (weightRow x8 12) (tap E 15) (weightRow x8 13) (tapRow E 16) (weightRow x8 14) (tap E 17) (weightRow x8 15))
      (tap E 18) (weightRow x8 16) (tap E 19) (weightRow x8 17) (tap E 20) (weightRow x8 18) (tap E 21) (weightRow x8 19)) (k0_pay50
      (tap E 22)) (weightRow x8 20) (tap E 23) (weightRow x8 21) (tapRow E 24) (weightRow x8 22) (tap E 25) (weightRow x8 23)
      (tap E 26) (weightRow x8 24)) (k0_pay52 (tap E 27)) (weightRow x8 25) (tap E 28) (weightRow x8 26) (tap E 29) (weightRow x8 27)
      (tap E 30) (weightRow x8 28) (tap E 31) (weightRow x8 29)) : FVec Ideal S256x512 .f32) (ix2 r l)
      + (weightRow x8 30) (ix3 0 0 l) * (tapRow E 32) (ix2 r l) = convRow E x8 x9 r.val l := by
  refine Eq.trans ?_ (sum_thirtyone (fun j => x8 (ix3 0 j l) * rowOf E (j.val + 2 + r.val) l) (x9 (ix3 0 0 l)))
  pointwise [k0_pay44, k0_pay45, k0_pay46, k0_pay47, k0_pay48, k0_pay49, k0_pay50, k0_pay51, k0_pay52, k0_pay53, tap, tapRow, weightRow]

/-- The row the convolution's tap `j` reads for row `r` of a tile: a row of the block, or, before it, a carried row. -/
def blockTap (halo : Vec Ideal S288x512 .f32) (x5 : Vec Ideal S1x512x512 .f32) (r : Fin 512) (j : Fin 31) (l : Fin 512) : EReal :=
  if h : 30 ≤ r.val + j.val then x5 (ix3 0 ⟨r.val + j.val - 30, by omega⟩ l) else halo (ix2 ⟨r.val + j.val + 2, by omega⟩ l)

/-- The rows the taps of the first half read. -/
theorem rowOf_first (halo : Vec Ideal S288x512 .f32) (x5 : Vec Ideal S1x512x512 .f32) (r : Fin 512) (hr : r.val < 256) (j : Fin 31) (l : Fin 512) :
    rowOf (ext1 halo x5) (j.val + 2 + r.val) l = blockTap halo x5 r j l := by
  unfold rowOf ext1 blockTap
  rw [dif_pos (by omega)]
  by_cases h : 30 ≤ r.val + j.val
  · refine (dif_neg (show ¬ j.val + 2 + r.val < 32 by omega)).trans ?_
    rw [dif_pos h]
    show x5 _ = x5 _
    congr 1; funext a; apply Fin.ext; fin_cases a
    · rfl
    · show j.val + 2 + r.val - 32 = r.val + j.val - 30; omega
    · rfl
  · refine (dif_pos (show j.val + 2 + r.val < 32 by omega)).trans ?_
    rw [dif_neg h]
    congr 1; funext a; apply Fin.ext; fin_cases a
    · show j.val + 2 + r.val = r.val + j.val + 2; omega
    · rfl

/-- The rows the taps of the second half read. -/
theorem rowOf_second (halo : Vec Ideal S288x512 .f32) (x5 : Vec Ideal S1x512x512 .f32) (r : Fin 512) (hr : ¬ r.val < 256) (j : Fin 31) (l : Fin 512) :
    rowOf (ext2 x5) (j.val + 2 + (r.val - 256)) l = blockTap halo x5 r j l := by
  unfold rowOf ext2 blockTap
  rw [dif_pos (by omega), dif_pos (by omega)]
  show x5 _ = x5 _
  congr 1; funext a; apply Fin.ext; fin_cases a
  · rfl
  · show 224 + (j.val + 2 + (r.val - 256)) = r.val + j.val - 30; omega
  · rfl

/-- The convolution branch's input to its output projection, at row `r` of a tile: both halves in one formula. -/
theorem halves (halo : Vec Ideal S288x512 .f32) (x5 : Vec Ideal S1x512x512 .f32) (x8 : Vec Ideal S1x31x512 .f32) (x9 : Vec Ideal S1x1x512 .f32)
    (g b : Fin 512 → EReal) (r n : Fin 512) :
    (if r.val < 256 then silu (layerNorm (convRow (ext1 halo x5) x8 x9 r.val) g b n)
      else silu (layerNorm (convRow (ext2 x5) x8 x9 (r.val - 256)) g b n))
    = silu (layerNorm (conv (fun j l => x8 (ix3 0 j l)) (blockTap halo x5 r) (fun l => x9 (ix3 0 0 l))) g b n) := by
  split
  case isTrue h =>
    have e : convRow (ext1 halo x5) x8 x9 r.val = conv (fun j l => x8 (ix3 0 j l)) (blockTap halo x5 r) (fun l => x9 (ix3 0 0 l)) := by
      funext l
      simp only [convRow, rowOf_first halo x5 r h]
    rw [e]
  case isFalse h =>
    have e : convRow (ext2 x5) x8 x9 (r.val - 256) = conv (fun j l => x8 (ix3 0 j l)) (blockTap halo x5 r) (fun l => x9 (ix3 0 0 l)) := by
      funext l
      simp only [convRow, rowOf_second halo x5 r h]
    rw [e]

end Cert.MergeConv

end
-- ==== Proof.MergeTile.lean ====
module

public import proofs.«01_k».proof.Proof.MergeConv

@[expose] public section

/-! # What one grid point of the merge call writes, from the blocks it is given -/

set_option maxRecDepth 16384

noncomputable section

namespace Cert.MergeTile

open Idealize.ShloMosaic Idealize.ShloMosaic.TcCoe Idealize.SL.Sem
open Cert.MergeIdeal Cert.MergeIdeal.Gen Cert.Scalar Cert.MergeScratch Cert.MergeBody Cert.MergeConv

/-- The lane of the merge's gates that lane `k` of branch `o` uses. -/
def lane (o : Fin 3) (k : Fin 1024) : Fin 3072 := ⟨1024 * o.val + k.val, by omega⟩

/-- One row of the merged layer: `u` are the rows the convolution's taps read. -/
def rowOut (x g sc sh gate : Fin 1024 → EReal) (u : Fin 31 → Fin 512 → EReal) (yl ya : Fin 512 → EReal)
    (wd : Fin 31 → Fin 512 → EReal) (bd lg lb : Fin 512 → EReal) (wm : Fin 1024 → Fin 3072 → EReal) (bm : Fin 3072 → EReal)
    (wc wa wl : Fin 512 → Fin 1024 → EReal) (wo : Fin 1024 → Fin 1024 → EReal) (d : Fin 1024) : EReal :=
  x d + gate d * ∑ k : Fin 1024, (branch (modNorm x g sc sh) (fun l k => wm l (lane 1 k)) (fun k => bm (lane 1 k)) ya wa k
    + branch (modNorm x g sc sh) (fun l k => wm l (lane 2 k)) (fun k => bm (lane 2 k)) yl wl k
    + branch (modNorm x g sc sh) (fun l k => wm l (lane 0 k)) (fun k => bm (lane 0 k))
        (fun n => silu (layerNorm (conv wd u bd) lg lb n)) wc k) * wo k d

/-- The store's row is the matrix's. -/
theorem pay1_at (v : FVec Ideal S512x1024 .f32) (r : Fin 512) (d : Fin 1024) : k0_pay1 (F := Ideal) v (ix3 0 r d) = v (ix2 r d) := by
  pointwise [k0_pay1]

/-- The matrix's row is the block's. -/
theorem pay3_at (v : Vec Ideal S1x512x1024 .f32) (r : Fin 512) (d : Fin 1024) : k0_pay3 (F := Ideal) v (ix2 r d) = v (ix3 0 r d) := by
  pointwise [k0_pay3]

/-- The merge's weights for branch `o`. -/
def wmCols (x12 : Vec Ideal S1x1024x3072 .bf16) (o : Fin 3) : Vec Ideal S1x1024x1024 .bf16 := fun x => x12 (ix3 0 (x 1) (lane o (x 2)))

/-- The merge's bias for branch `o`. -/
def bmCols (x13 : Vec Ideal S1x1x3072 .f32) (o : Fin 3) : Vec Ideal S1x1x1024 .f32 := fun x => x13 (ix3 0 0 (lane o (x 2)))

/-- The merge's weights, loaded for branch `o`. -/
theorem load_wm (x12 : Vec Ideal S1x1024x3072 .bf16) (o : Fin 3) (n : ℕ) (hn : n = 1024 * o.val)
    (inb : ∀ a : Fin 3, ![0, 0, n] a + ![1, 1024, 1024] a ≤ S1x1024x3072.size a) :
    View.ld x12 (Rect.unit (s := S1x1024x3072) ![0, 0, n] ![1, 1024, 1024] inb) = wmCols x12 o := by
  funext x
  have h0 : (x 0).val < 1 := (x 0).isLt
  show x12 _ = x12 _
  congr 1; funext a; apply Fin.ext; fin_cases a
  · show 0 + 1 * (x 0).val = 0; omega
  · show 0 + 1 * (x 1).val = (x 1).val; omega
  · show n + 1 * (x 2).val = 1024 * o.val + (x 2).val; omega

/-- The merge's bias, loaded for branch `o`. -/
theorem load_bm (x13 : Vec Ideal S1x1x3072 .f32) (o : Fin 3) (n : ℕ) (hn : n = 1024 * o.val)
    (inb : ∀ a : Fin 3, ![0, 0, n] a + ![1, 1, 1024] a ≤ S1x1x3072.size a) :
    View.ld x13 (Rect.unit (s := S1x1x3072) ![0, 0, n] ![1, 1, 1024] inb) = bmCols x13 o := by
  funext x
  have h0 : (x 0).val < 1 := (x 0).isLt
  have h1 : (x 1).val < 1 := (x 1).isLt
  show x13 _ = x13 _
  congr 1; funext a; apply Fin.ext; fin_cases a
  · show 0 + 1 * (x 0).val = 0; omega
  · show 0 + 1 * (x 1).val = 0; omega
  · show n + 1 * (x 2).val = 1024 * o.val + (x 2).val; omega

variable (m : (ℓ : Loc nD τ sig) → Buf (Elt Ideal) ℓ)

/-- What a tile writes at row `r`, lane `d`, from its blocks and the rows carried into it. -/
def tileOut (halo : Vec Ideal S288x512 .f32) (x0 : Vec Ideal S1x512x1024 .f32) (x1 : Vec Ideal S1x1x1024 .f32) (x2 x3 x4 : Vec Ideal S1x1x1x1x1024 .f32)
    (x5 : Vec Ideal S1x512x512 .f32) (x6 x7 : Vec Ideal S1x512x512 .bf16) (x8 : Vec Ideal S1x31x512 .f32) (x9 x10 x11 : Vec Ideal S1x1x512 .f32)
    (x12 : Vec Ideal S1x1024x3072 .bf16) (x13 : Vec Ideal S1x1x3072 .f32) (x14 x15 x16 : Vec Ideal S1x512x1024 .bf16)
    (x17 : Vec Ideal S1x1024x1024 .bf16) (r : Fin 512) (d : Fin 1024) : EReal :=
  rowOut (fun l => x0 (ix3 0 r l)) (fun l => x1 (ix3 0 0 l)) (fun l => x2 (ix5 0 0 0 0 l)) (fun l => x3 (ix5 0 0 0 0 l))
    (fun l => x4 (ix5 0 0 0 0 l)) (blockTap halo x5 r) (fun n => x6 (ix3 0 r n)) (fun n => x7 (ix3 0 r n)) (fun j l => x8 (ix3 0 j l))
    (fun l => x9 (ix3 0 0 l)) (fun l => x10 (ix3 0 0 l)) (fun l => x11 (ix3 0 0 l)) (fun l k => x12 (ix3 0 l k)) (fun k => x13 (ix3 0 0 k))
    (fun n k => x14 (ix3 0 n k)) (fun n k => x15 (ix3 0 n k)) (fun n k => x16 (ix3 0 n k)) (fun l k => x17 (ix3 0 l k)) d

set_option maxHeartbeats 2000000 in
/-- A tile that starts a sequence carries nothing in. -/
theorem out_first (c : Dev nD) (t : Fin cfg0.N) (h : t.val % 32 = 0) (r : Fin 512) (d : Fin 1024) :
    (outsAt0 (F := Ideal) m c t.val t.isLt).1 (ix3 0 r d)
      = tileOut (fun _ => (0 : EReal)) (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) r d := by
  rw [outsAt0_A m c t h]
  frame_out
  simp only [load_start, load_second, load_slab_first, load_slab_second, load_aligned, load_weight, Nat.reduceAdd,
    load_wm _ 0 0 rfl, load_wm _ 1 1024 rfl, load_wm _ 2 2048 rfl, load_bm _ 0 0 rfl, load_bm _ 1 1024 rfl, load_bm _ 2 2048 rfl]
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15, iblk m c 16 t = x16, iblk m c 17 t = x17
  refine (pay1_at _ r d).trans ?_
  refine (pay57_conv _ _ _ _ _ _ _ _ _ _ _ _ _ _ (convRow (ext1 (fun _ => 0) x5) x8 x9) (convRow (ext2 x5) x8 x9)
    (pay34_conv _ _ _ _ _ _ _ _ (conv_first _ _ _)) (conv_second _ _ _) r d).trans ?_
  simp only [halves, pay8_at, pay6_at, pay4_at, pay3_at]
  rfl

set_option maxHeartbeats 2000000 in
/-- A tile that follows another carries in what that one left. -/
theorem out_next (c : Dev nD) (t : Fin cfg0.N) (h : ¬ t.val % 32 = 0) (r : Fin 512) (d : Fin 1024) :
    (outsAt0 (F := Ideal) m c t.val t.isLt).1 (ix3 0 r d)
      = tileOut (outsAt0 (F := Ideal) m c (t.val - 1) (Nat.lt_of_le_of_lt (Nat.sub_le _ _) t.isLt)).2
          (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) r d := by
  rw [outsAt0_B m c t h]
  frame_out
  simp only [load_next, load_tail (outsAt0 (F := Ideal) m c (t.val - 1) (Nat.lt_of_le_of_lt (Nat.sub_le _ _) t.isLt)).2, read_unread_whole,
    load_second, load_slab_first, load_slab_second, load_aligned, load_weight, Nat.reduceAdd,
    load_wm _ 0 0 rfl, load_wm _ 1 1024 rfl, load_wm _ 2 2048 rfl, load_bm _ 0 0 rfl, load_bm _ 1 1024 rfl, load_bm _ 2 2048 rfl]
  generalize (outsAt0 (F := Ideal) m c (t.val - 1) (Nat.lt_of_le_of_lt (Nat.sub_le _ _) t.isLt)).2 = halo
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15, iblk m c 16 t = x16, iblk m c 17 t = x17
  refine (pay1_at _ r d).trans ?_
  refine (pay57_conv _ _ _ _ _ _ _ _ _ _ _ _ _ _ (convRow (ext1 halo x5) x8 x9) (convRow (ext2 x5) x8 x9)
    (pay34_conv _ _ _ _ _ _ _ _ (conv_first _ _ _)) (conv_second _ _ _) r d).trans ?_
  simp only [halves, pay8_at, pay6_at, pay4_at, pay3_at]
  rfl

/-- The first rows of what is left are the last rows stored there. -/
theorem canon_rows (w : Vec Ideal S32x512 .f32) (inb) (L : List (View.Piece (Elt Ideal) S288x512 .f32)) (r : Fin 32) (l : Fin 512) :
    View.canon (Val := Elt Ideal) ((⟨Rect.unit (s := S288x512) ![0, 0] ![32, 512] inb, w⟩ : View.Piece (Elt Ideal) S288x512 .f32) :: L)
      (ix2 ⟨r.val, by omega⟩ l) = w (ix2 r l) := by
  have hi : (ix2 ⟨r.val, by omega⟩ l : S288x512.Idx) = (Rect.unit (s := S288x512) ![0, 0] ![32, 512] inb).emb (ix2 r l) := by
    funext a; apply Fin.ext; fin_cases a <;> simp [Rect.emb_apply]
  rw [hi, View.canon_cons_emb]

set_option maxHeartbeats 2000000 in
/-- A tile leaves the last thirty-two rows of its block. -/
theorem left (c : Dev nD) (t : Fin cfg0.N) (r : Fin 32) (l : Fin 512) :
    (outsAt0 (F := Ideal) m c t.val t.isLt).2 (ix2 ⟨r.val, by omega⟩ l) = iblk m c 5 t (ix3 0 (⟨480 + r.val, by omega⟩ : Fin 512) l) := by
  by_cases h : t.val % 32 = 0
  · rw [outsAt0_A m c t h]
    frame_out
    refine (canon_rows _ _ _ r l).trans ?_
    pointwise [k0_pay54, k0_pay35]
    exact congrArg (fun n : Fin 512 => iblk m c 5 t (ix3 0 n l)) (Fin.ext (show 256 + (224 + r.val) = 480 + r.val by omega))
  · rw [outsAt0_B m c t h]
    frame_out
    refine (canon_rows _ _ _ r l).trans ?_
    pointwise [k0_pay54, k0_pay35]
    exact congrArg (fun n : Fin 512 => iblk m c 5 t (ix3 0 n l)) (Fin.ext (show 256 + (224 + r.val) = 480 + r.val by omega))

end Cert.MergeTile

end
-- ==== Proof.MergeValue.lean ====
module

public import proofs.«01_k».proof.Proof.MergeTile

@[expose] public section

/-! # The array the merge call leaves, as one function of its arguments -/

set_option maxRecDepth 16384

noncomputable section

namespace Cert.MergeValue

open Idealize.ShloMosaic Idealize.ShloMosaic.TcCoe Idealize.SL.Sem
open Cert.MergeIdeal Cert.MergeIdeal.Gen Cert.Scalar Cert.MergeScratch Cert.MergeBody Cert.MergeConv Cert.MergeTile

/-- The row of sequence `b` that tap `j` of the causal convolution reads for row `n`: thirty rows back plus `j`, zero
    before the sequence starts. -/
def src (u : FVec Ideal S2x16384x512 .f32) (b : Fin 2) (n : Fin 16384) (j : Fin 31) (l : Fin 512) : EReal :=
  if h : 30 ≤ n.val + j.val then u (ix3 b ⟨n.val + j.val - 30, by omega⟩ l) else 0

/-- The first layer's merge of its three branches and its output projection, index by index. -/
def G (x : FVec Ideal S2x16384x1024 .f32) (mod : FVec Ideal S2x2x6x1x1024 .f32) (u : FVec Ideal S2x16384x512 .f32)
    (yl ya : FVec Ideal S2x16384x512 .bf16) (nm : FVec Ideal S2x1024 .f32) (wd : FVec Ideal S2x31x512 .f32)
    (bd lg lb : FVec Ideal S2x512 .f32) (wm : FVec Ideal S2x1024x3072 .f32) (bm : FVec Ideal S2x3072 .f32)
    (wc wa wl : FVec Ideal S2x512x1024 .f32) (wo : FVec Ideal S2x1024x1024 .f32) : FVec Ideal S2x16384x1024 .f32 := fun i =>
  rowOut (fun l => x (ix3 (i 0) (i 1) l)) (fun l => nm (ix2 0 l)) (fun l => mod (ix5 0 (i 0) 1 0 l)) (fun l => mod (ix5 0 (i 0) 0 0 l))
    (fun l => mod (ix5 0 (i 0) 2 0 l)) (src u (i 0) (i 1)) (fun n => yl (ix3 (i 0) (i 1) n)) (fun n => ya (ix3 (i 0) (i 1) n))
    (fun j l => wd (ix3 0 j l)) (fun l => bd (ix2 0 l)) (fun l => lg (ix2 0 l)) (fun l => lb (ix2 0 l)) (fun l k => wm (ix3 0 l k))
    (fun k => bm (ix2 0 k)) (fun n k => wc (ix3 0 n k)) (fun n k => wa (ix3 0 n k)) (fun n k => wl (ix3 0 n k)) (fun l k => wo (ix3 0 l k)) (i 2)

variable (m : (ℓ : Loc nD τ sig) → Buf (Elt Ideal) ℓ)

/-- Where each window's block lies at grid point `t`. -/
theorem idx : ∀ t : Fin cfg0.N, win0_0.index t = ![t.val / 32, t.val % 32, 0] ∧ win0_1.index t = ![0, 0, 0]
    ∧ win0_2.index t = ![0, t.val / 32, 1, 0, 0] ∧ win0_3.index t = ![0, t.val / 32, 0, 0, 0]
    ∧ win0_4.index t = ![0, t.val / 32, 2, 0, 0] ∧ win0_5.index t = ![t.val / 32, t.val % 32, 0]
    ∧ win0_6.index t = ![t.val / 32, t.val % 32, 0] ∧ win0_7.index t = ![t.val / 32, t.val % 32, 0]
    ∧ win0_8.index t = ![0, 0, 0] ∧ win0_9.index t = ![0, 0, 0] ∧ win0_10.index t = ![0, 0, 0] ∧ win0_11.index t = ![0, 0, 0]
    ∧ win0_12.index t = ![0, 0, 0] ∧ win0_13.index t = ![0, 0, 0] ∧ win0_14.index t = ![0, 0, 0] ∧ win0_15.index t = ![0, 0, 0]
    ∧ win0_16.index t = ![0, 0, 0] ∧ win0_17.index t = ![0, 0, 0] ∧ win0_18.index t = ![t.val / 32, t.val % 32, 0] :=
  (by decide +kernel : ∀ t : Fin grid0.N, _)

/-- A grid point's number is less than 64. -/
theorem lt_points (t : Fin cfg0.N) : t.val < 64 := lt_of_lt_of_eq t.isLt (by decide +kernel : grid0.N = 64)

/-- Row `r` of the convolution input's block at point `t` is row `512 * (t % 32) + r` of sequence `t / 32`. -/
theorem u_at (c : Dev nD) (t : Fin cfg0.N) (r l : Fin 512) :
    iblk (F := Ideal) m c 5 t (ix3 0 r l) = (m ((c : Thread nD τ).loc main_arg2) : FVec Ideal S2x16384x512 .f32)
      (ix3 ⟨t.val / 32, by have := lt_points t; omega⟩ ⟨512 * (t.val % 32) + r.val, by have := lt_points t; omega⟩ l) := by
  blk_point [iblk, V, idx t]

/-- The rows the convolution's taps read, at a tile that starts a sequence. -/
theorem taps_first (c : Dev nD) (t : Fin cfg0.N) (h : t.val % 32 = 0) (r : Fin 512) :
    blockTap (fun _ => (0 : EReal)) (iblk m c 5 t) r = src (m ((c : Thread nD τ).loc main_arg2)) ⟨t.val / 32, by have := lt_points t; omega⟩
      ⟨512 * (t.val % 32) + r.val, by have := lt_points t; omega⟩ := by
  have ht := lt_points t
  funext j l
  unfold blockTap src
  by_cases hr : 30 ≤ r.val + j.val
  · rw [dif_pos hr, dif_pos (show 30 ≤ 512 * (t.val % 32) + r.val + j.val by omega)]
    refine (u_at m c t _ l).trans ?_
    congr 2
    apply Fin.ext
    show 512 * (t.val % 32) + (r.val + j.val - 30) = 512 * (t.val % 32) + r.val + j.val - 30
    omega
  · rw [dif_neg hr, dif_neg (show ¬ 30 ≤ 512 * (t.val % 32) + r.val + j.val by omega)]

/-- The rows the convolution's taps read, at a tile that follows another. -/
theorem taps_next (c : Dev nD) (t : Fin cfg0.N) (h : ¬ t.val % 32 = 0) (r : Fin 512) :
    blockTap (outsAt0 (F := Ideal) m c (t.val - 1) (Nat.lt_of_le_of_lt (Nat.sub_le _ _) t.isLt)).2 (iblk m c 5 t) r
      = src (m ((c : Thread nD τ).loc main_arg2)) ⟨t.val / 32, by have := lt_points t; omega⟩
      ⟨512 * (t.val % 32) + r.val, by have := lt_points t; omega⟩ := by
  have ht := lt_points t
  funext j l
  unfold blockTap src
  rw [dif_pos (show 30 ≤ 512 * (t.val % 32) + r.val + j.val by omega)]
  by_cases hr : 30 ≤ r.val + j.val
  · rw [dif_pos hr]
    refine (u_at m c t _ l).trans ?_
    congr 2
    apply Fin.ext
    show 512 * (t.val % 32) + (r.val + j.val - 30) = 512 * (t.val % 32) + r.val + j.val - 30
    omega
  · rw [dif_neg hr]
    refine (left m c ⟨t.val - 1, Nat.lt_of_le_of_lt (Nat.sub_le _ _) t.isLt⟩ ⟨r.val + j.val + 2, by omega⟩ l).trans ?_
    refine (u_at m c _ _ l).trans ?_
    congr 2
    · apply Fin.ext
      show (t.val - 1) / 32 = t.val / 32
      omega
    · apply Fin.ext
      show 512 * ((t.val - 1) % 32) + (480 + (r.val + j.val + 2)) = 512 * (t.val % 32) + r.val + j.val - 30
      omega

set_option maxHeartbeats 2000000 in
/-- What a tile writes, once the rows its taps read are known, is the closed form. -/
theorem tile_eq (c : Dev nD) (t : Fin cfg0.N) (halo : Vec Ideal S288x512 .f32) (r : Fin 512) (d : Fin 1024)
    (hu : blockTap halo (iblk m c 5 t) r = src (m ((c : Thread nD τ).loc main_arg2)) ⟨t.val / 32, by have := lt_points t; omega⟩
      ⟨512 * (t.val % 32) + r.val, by have := lt_points t; omega⟩) :
    tileOut halo (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t) (iblk m c 14 t)
          (iblk m c 15 t) (iblk m c 16 t) (iblk m c 17 t) r d
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (((cfg0.win 18).blk t).view.emb (ix3 0 r d)) := by
  have he : ((cfg0.win 18).blk t).view.emb (ix3 0 r d) = (ix3 ⟨t.val / 32, by have := lt_points t; omega⟩
      ⟨512 * (t.val % 32) + r.val, by have := lt_points t; omega⟩ d : S2x16384x1024.Idx) := by
    blk_point [idx t]
  rw [he]
  unfold tileOut G
  rw [hu]
  congr 1 <;> first | rfl | (funext l; blk_point [iblk, V, idx t]) | (funext l k; blk_point [iblk, V, idx t])

/-- The array after the run. -/
theorem final (c : Dev nD) : (dats m 0 c).arrAt 18 (cfgs 0).N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) := by
  refine (dats m 0 c).arrAt_eq_of_covers 18 _ (by decide +kernel) fun t _ y => ?_
  blk_simp
  rw [after0_18]
  obtain ⟨r, d, rfl⟩ : ∃ r d, y = ix3 0 r d := ⟨y 1, y 2, by
    refine (eq_ix3 y).trans ?_
    exact congrArg (fun a => ix3 a (y 1) (y 2)) (Subsingleton.elim (α := Fin 1) _ _)⟩
  by_cases h : t.val % 32 = 0
  · exact (out_first m c t h r d).trans (tile_eq m c t _ r d (taps_first m c t h r))
  · exact (out_next m c t h r d).trans (tile_eq m c t _ r d (taps_next m c t h r))

end Cert.MergeValue

end
-- ==== Proof.MergeRef.lean ====
module

public import proofs.«01_k».proof.Proof.MergeValue
public import proofs.«01_k».proof.Proof.Gen.MergeRefIdeal.Run

@[expose] public section

/-! # The reference's merge is the same function of its arguments -/

set_option maxRecDepth 16384

noncomputable section

namespace Cert.MergeRefValue

open Idealize.ShloMosaic Idealize.ShloMosaic.TcCoe Idealize.SL.Sem
open Cert.MergeRefIdeal Cert.MergeRefIdeal.Gen Cert.Scalar Cert.MergeBody

/-- Thirty-one terms added in order are their sum. -/
theorem sum_in_order (g : Fin 31 → EReal) :
    g 0 + g 1 + g 2 + g 3 + g 4 + g 5 + g 6 + g 7 + g 8 + g 9 + g 10 + g 11 + g 12 + g 13 + g 14 + g 15 + g 16 + g 17
      + g 18 + g 19 + g 20 + g 21 + g 22 + g 23 + g 24 + g 25 + g 26 + g 27 + g 28 + g 29 + g 30 = ∑ j, g j := by
  simp only [Fin.sum_univ_castSucc, Finset.univ_eq_empty, Finset.sum_empty, zero_add]
  rfl

variable (V0 : Valuation τ sig (Elt Ideal))

/-- The convolution's weights. -/
theorem weight_at (j : Fin 31) (l : Fin 512) :
    Value.res_main_v28 V0 (ix2 j l) = (V0 (Proc.devRef .tc main_arg6) : FVec Ideal S2x31x512 .f32) (ix3 0 j l) := by
  pointwise [Value.res_main_v28]

/-- The convolution's input behind thirty rows of zero. -/
theorem padded_at (b : Fin 2) (n : Fin 16384) (j : Fin 31) (l : Fin 512) :
    Value.res_main_v31 V0 (ix3 b ⟨j.val + n.val, by omega⟩ l) = MergeValue.src (V0 (Proc.devRef .tc main_arg2)) b n j l := by
  pointwise [Value.res_main_v31, MergeValue.src]
  by_cases hn : 30 ≤ n.val + j.val
  · rw [dif_pos hn]
    refine (dif_pos fun a => ?_).trans (congrArg (fun k : Fin 16384 => (V0 (Proc.devRef .tc main_arg2) : FVec Ideal S2x16384x512 .f32) (ix3 b k l))
      (Fin.ext (show j.val + n.val - 30 = n.val + j.val - 30 by omega)))
    fin_cases a
    · exact ⟨Nat.zero_le _, Nat.mod_one _, (Nat.div_one _).trans_lt b.isLt⟩
    · exact ⟨show 30 ≤ j.val + n.val by omega, Nat.mod_one _, (Nat.div_one _).trans_lt (show j.val + n.val - 30 < 16384 by omega)⟩
    · exact ⟨Nat.zero_le _, Nat.mod_one _, (Nat.div_one _).trans_lt l.isLt⟩
  · rw [dif_neg hn]
    refine (dif_neg fun h => hn ?_).trans ?_
    · have h1 : 30 ≤ j.val + n.val := (h 1).1
      omega
    · show ((((0#32 : BitVec 32).toInt : ℤ) : ℝ) : EReal) = 0; simp

set_option maxHeartbeats 2000000 in
/-- The convolved row. -/
theorem conv_at (b : Fin 2) (n : Fin 16384) (l : Fin 512) :
    Value.res_main_v250 V0 (ix3 b n l) = conv (fun j l => (V0 (Proc.devRef .tc main_arg6) : FVec Ideal S2x31x512 .f32) (ix3 0 j l))
      (MergeValue.src (V0 (Proc.devRef .tc main_arg2)) b n) (fun l => (V0 (Proc.devRef .tc main_arg7) : FVec Ideal S2x512 .f32) (ix2 0 l)) l := by
  unfold conv
  rw [← sum_in_order]
  simp only [← padded_at, ← weight_at]
  pointwise [Value.res_main_v250, Value.res_main_v191, Value.res_main_v114]

set_option maxHeartbeats 2000000 in
/-- The layer norm of the convolved row. -/
theorem norm_at (b : Fin 2) (n : Fin 16384) (l : Fin 512) :
    Value.res_main_v278 V0 (ix3 b n l) = layerNorm (fun l => Value.res_main_v250 V0 (ix3 b n l))
      (fun l => (V0 (Proc.devRef .tc main_arg8) : FVec Ideal S2x512 .f32) (ix2 0 l)) (fun l => (V0 (Proc.devRef .tc main_arg9) : FVec Ideal S2x512 .f32) (ix2 0 l)) l := by
  pointwise [Value.res_main_v278, Value.res_main_v260, Value.res_main_v258, layerNorm, mean]

set_option maxHeartbeats 2000000 in
/-- The gates. -/
theorem gate_at (b : Fin 2) (n : Fin 16384) (k : Fin 3072) :
    Value.res_main_v304 V0 (ix3 b n k) = logistic ((∑ l, modNorm (fun l => (V0 (Proc.devRef .tc main_arg0) : FVec Ideal S2x16384x1024 .f32) (ix3 b n l))
        (fun l => (V0 (Proc.devRef .tc main_arg5) : FVec Ideal S2x1024 .f32) (ix2 0 l))
        (fun l => (V0 (Proc.devRef .tc main_arg1) : FVec Ideal S2x2x6x1x1024 .f32) (ix5 0 b 1 0 l))
        (fun l => (V0 (Proc.devRef .tc main_arg1) : FVec Ideal S2x2x6x1x1024 .f32) (ix5 0 b 0 0 l)) l
          * (V0 (Proc.devRef .tc main_arg10) : FVec Ideal S2x1024x3072 .f32) (ix3 0 l k))
        + (V0 (Proc.devRef .tc main_arg11) : FVec Ideal S2x3072 .f32) (ix2 0 k)) := by
  pointwise [Value.res_main_v304, MergeBody.logistic, modNorm, rms]

variable (m : (ℓ : Loc nD τ sig) → Buf (Elt Ideal) ℓ)

set_option maxHeartbeats 2000000 in
/-- The reference runs, leaves its arguments as they were, and its result is the closed form, index by index. -/
theorem run (ρ : Dev nD → PrngReg) :
    θ_run defs (onTc (τ := τ) (main (F := Ideal))) ⟨m, fun _ => 0, ρ⟩ fun r => ∀ c : Dev nD,
      r.2.mem ((c.tc : Thread nD τ).loc main_v318)
        = MergeValue.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ⟨(h c).1.trans ?_, (h c).2⟩) (Value.run m ρ)
  funext i
  idx_vars i
  pointwise [MergeValue.G, MergeTile.rowOut, MergeTile.lane, branch, silu]
  simp only [gate_at, norm_at, conv_at]
  refine congrArg₂ (· + ·) rfl (congrArg₂ (· * ·) rfl (Finset.sum_congr rfl fun k _ => congrArg₂ (· * ·) ?_ rfl))
  exact (add_assoc _ _ _).trans (add_comm _ _)

end Cert.MergeRefValue

end
-- ==== Proof.PremixRun.lean ====
/- The run of the input-projection call: what each grid point leaves in its output blocks and in the two scratch buffers
   that the recurrence carries from one point to the next, that the body does so at every point, and that the call runs,
   ends, and leaves its arguments as they were. Stated for any float values. -/
module

public import proofs.«01_k».proof.Proof.Gen.PremixIdeal.Frame.RunB
public import Idealize.ShloMosaic.Lib.Claim

@[expose] public section

set_option maxRecDepth 16384

noncomputable section

namespace Cert.PremixRun

open Cert.PremixIdeal Cert.PremixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point of a sequence. -/
abbrev runA (c : Dev nD) (t : Fin cfg0.N) (h : t.val % 32 = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t)
    scM0_0 (Memref.isWhole_whole _) scM0_1 (Memref.isWhole_whole _) scM0_2 (Memref.isWhole_whole _)
    ((hcond0_0 t).mpr h)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)

/-- The body's run at a later point, from what the point before left in the two carried buffers. -/
abbrev runB (c : Dev nD) (t : Fin cfg0.N) (h : ¬t.val % 32 = 0) (x : Vec F S264x512 .f32) (y : Vec F S8x512 .f32) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t)
    scM0_0 (Memref.isWhole_whole _) scM0_1 (Memref.isWhole_whole _) scM0_2 (Memref.isWhole_whole _)
    (fun h' => h ((hcond0_0 t).mp h'))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) x y

/-- What a point leaves: the nine output blocks, then the extended rows and the carried state of the recurrence. -/
abbrev Left (F : FTy → Type) : Type :=
  Vec F S1x512x512 .f32 × Vec F S1x512x512 .bf16 × Vec F S1x512x1024 .bf16 × Vec F S1x32x4096 .bf16 × Vec F S1x2x512x128 .bf16 × Vec F S1x2x512x128 .bf16 × Vec F S1x1x128x512 .bf16 × Vec F S1x4x128x128 .bf16 × Vec F S1x32x512 .f32 × Vec F S264x512 .f32 × Vec F S8x512 .f32

/-- What case A leaves. -/
def leftA (c : Dev nD) (t : Fin cfg0.N) (h : t.val % 32 = 0) : Left F :=
  (VO0_13.read (Elt F) (VO0_13.writes (Elt F) VO0_13.junk (runA m c t h).1),
   VO0_14.read (Elt F) (VO0_14.writes (Elt F) VO0_14.junk (runA m c t h).2.1),
   VO0_15.read (Elt F) (VO0_15.writes (Elt F) VO0_15.junk (runA m c t h).2.2.1),
   VO0_16.read (Elt F) (VO0_16.writes (Elt F) VO0_16.junk (runA m c t h).2.2.2.1),
   VO0_17.read (Elt F) (VO0_17.writes (Elt F) VO0_17.junk (runA m c t h).2.2.2.2.1),
   VO0_18.read (Elt F) (VO0_18.writes (Elt F) VO0_18.junk (runA m c t h).2.2.2.2.2.1),
   VO0_19.read (Elt F) (VO0_19.writes (Elt F) VO0_19.junk (runA m c t h).2.2.2.2.2.2.1),
   VO0_20.read (Elt F) (VO0_20.writes (Elt F) VO0_20.junk (runA m c t h).2.2.2.2.2.2.2.1),
   VO0_21.read (Elt F) (VO0_21.writes (Elt F) VO0_21.junk (runA m c t h).2.2.2.2.2.2.2.2.1),
   VS0_1.read (Elt F) (VS0_1.writes (Elt F) VS0_1.junk (runA m c t h).2.2.2.2.2.2.2.2.2.1),
   VS0_2.read (Elt F) (VS0_2.writes (Elt F) VS0_2.junk (runA m c t h).2.2.2.2.2.2.2.2.2.2.1))

/-- Case A's stores cover buffer 13. -/
theorem coverA_13 (c : Dev nD) (t : Fin cfg0.N) (h : t.val % 32 = 0) (z : S1x512x512.Idx) :
    ∃ pc ∈ (runA m c t h).1, z ∈ pc.1.set :=
  View.cover_of_tiledL (runA m c t h).1 S1x512x512.size (by sl_kernel_rfl) z

/-- Case A's stores cover buffer 14. -/
theorem coverA_14 (c : Dev nD) (t : Fin cfg0.N) (h : t.val % 32 = 0) (z : S1x512x512.Idx) :
    ∃ pc ∈ (runA m c t h).2.1, z ∈ pc.1.set :=
  View.cover_of_tiledL (runA m c t h).2.1 S1x256x512.size (by sl_kernel_rfl) z

/-- Case A's stores cover buffer 15. -/
theorem coverA_15 (c : Dev nD) (t : Fin cfg0.N) (h : t.val % 32 = 0) (z : S1x512x1024.Idx) :
    ∃ pc ∈ (runA m c t h).2.2.1, z ∈ pc.1.set :=
  View.cover_of_tiledL (runA m c t h).2.2.1 S1x512x128.size (by sl_kernel_rfl) z

/-- Case A's stores cover buffer 16. -/
theorem coverA_16 (c : Dev nD) (t : Fin cfg0.N) (h : t.val % 32 = 0) (z : S1x32x4096.Idx) :
    ∃ pc ∈ (runA m c t h).2.2.2.1, z ∈ pc.1.set :=
  View.cover_of_tiledL (runA m c t h).2.2.2.1 S1x32x128.size (by sl_kernel_rfl) z

/-- Case A's stores cover buffer 17. -/
theorem coverA_17 (c : Dev nD) (t : Fin cfg0.N) (h : t.val % 32 = 0) (z : S1x2x512x128.Idx) :
    ∃ pc ∈ (runA m c t h).2.2.2.2.1, z ∈ pc.1.set :=
  View.cover_of_tiledL (runA m c t h).2.2.2.2.1 S1x1x512x128.size (by sl_kernel_rfl) z

/-- Case A's stores cover buffer 18. -/
theorem coverA_18 (c : Dev nD) (t : Fin cfg0.N) (h : t.val % 32 = 0) (z : S1x2x512x128.Idx) :
    ∃ pc ∈ (runA m c t h).2.2.2.2.2.1, z ∈ pc.1.set :=
  View.cover_of_tiledL (runA m c t h).2.2.2.2.2.1 S1x1x512x128.size (by sl_kernel_rfl) z

/-- Case A's stores cover buffer 19. -/
theorem coverA_19 (c : Dev nD) (t : Fin cfg0.N) (h : t.val % 32 = 0) (z : S1x1x128x512.Idx) :
    ∃ pc ∈ (runA m c t h).2.2.2.2.2.2.1, z ∈ pc.1.set :=
  View.cover_of_tiledL (runA m c t h).2.2.2.2.2.2.1 S1x1x128x512.size (by sl_kernel_rfl) z

/-- Case A's stores cover buffer 20. -/
theorem coverA_20 (c : Dev nD) (t : Fin cfg0.N) (h : t.val % 32 = 0) (z : S1x4x128x128.Idx) :
    ∃ pc ∈ (runA m c t h).2.2.2.2.2.2.2.1, z ∈ pc.1.set :=
  View.cover_of_tiledL (runA m c t h).2.2.2.2.2.2.2.1 S1x1x128x128.size (by sl_kernel_rfl) z

/-- Case A's stores cover buffer 21. -/
theorem coverA_21 (c : Dev nD) (t : Fin cfg0.N) (h : t.val % 32 = 0) (z : S1x32x512.Idx) :
    ∃ pc ∈ (runA m c t h).2.2.2.2.2.2.2.2.1, z ∈ pc.1.set :=
  View.cover_of_tiledL (runA m c t h).2.2.2.2.2.2.2.2.1 S1x32x512.size (by sl_kernel_rfl) z

/-- Case A's stores cover buffer s1. -/
theorem coverA_s1 (c : Dev nD) (t : Fin cfg0.N) (h : t.val % 32 = 0) (z : S264x512.Idx) :
    ∃ pc ∈ (runA m c t h).2.2.2.2.2.2.2.2.2.1, z ∈ pc.1.set :=
  View.cover_of_tiledBy (runA m c t h).2.2.2.2.2.2.2.2.2.1 ![8, 512] (by sl_kernel_rfl) z

/-- Case A's stores cover buffer s2. -/
theorem coverA_s2 (c : Dev nD) (t : Fin cfg0.N) (h : t.val % 32 = 0) (z : S8x512.Idx) :
    ∃ pc ∈ (runA m c t h).2.2.2.2.2.2.2.2.2.2.1, z ∈ pc.1.set :=
  View.cover_of_tiledL (runA m c t h).2.2.2.2.2.2.2.2.2.2.1 S8x512.size (by sl_kernel_rfl) z

/-- What case B leaves. -/
def leftB (c : Dev nD) (t : Fin cfg0.N) (h : ¬t.val % 32 = 0) (x : Vec F S264x512 .f32) (y : Vec F S8x512 .f32) : Left F :=
  (VO0_13.read (Elt F) (VO0_13.writes (Elt F) VO0_13.junk (runB m c t h x y).1),
   VO0_14.read (Elt F) (VO0_14.writes (Elt F) VO0_14.junk (runB m c t h x y).2.1),
   VO0_15.read (Elt F) (VO0_15.writes (Elt F) VO0_15.junk (runB m c t h x y).2.2.1),
   VO0_16.read (Elt F) (VO0_16.writes (Elt F) VO0_16.junk (runB m c t h x y).2.2.2.1),
   VO0_17.read (Elt F) (VO0_17.writes (Elt F) VO0_17.junk (runB m c t h x y).2.2.2.2.1),
   VO0_18.read (Elt F) (VO0_18.writes (Elt F) VO0_18.junk (runB m c t h x y).2.2.2.2.2.1),
   VO0_19.read (Elt F) (VO0_19.writes (Elt F) VO0_19.junk (runB m c t h x y).2.2.2.2.2.2.1),
   VO0_20.read (Elt F) (VO0_20.writes (Elt F) VO0_20.junk (runB m c t h x y).2.2.2.2.2.2.2.1),
   VO0_21.read (Elt F) (VO0_21.writes (Elt F) VO0_21.junk (runB m c t h x y).2.2.2.2.2.2.2.2.1),
   VS0_1.read (Elt F) (VS0_1.writes (Elt F) VS0_1.junk (runB m c t h x y).2.2.2.2.2.2.2.2.2.1),
   VS0_2.read (Elt F) (VS0_2.writes (Elt F) VS0_2.junk (runB m c t h x y).2.2.2.2.2.2.2.2.2.2.1))

/-- Case B's stores cover buffer 13. -/
theorem coverB_13 (c : Dev nD) (t : Fin cfg0.N) (h : ¬t.val % 32 = 0) (x : Vec F S264x512 .f32) (y : Vec F S8x512 .f32) (z : S1x512x512.Idx) :
    ∃ pc ∈ (runB m c t h x y).1, z ∈ pc.1.set :=
  View.cover_of_tiledL (runB m c t h x y).1 S1x512x512.size (by sl_kernel_rfl) z

/-- Case B's stores cover buffer 14. -/
theorem coverB_14 (c : Dev nD) (t : Fin cfg0.N) (h : ¬t.val % 32 = 0) (x : Vec F S264x512 .f32) (y : Vec F S8x512 .f32) (z : S1x512x512.Idx) :
    ∃ pc ∈ (runB m c t h x y).2.1, z ∈ pc.1.set :=
  View.cover_of_tiledL (runB m c t h x y).2.1 S1x256x512.size (by sl_kernel_rfl) z

/-- Case B's stores cover buffer 15. -/
theorem coverB_15 (c : Dev nD) (t : Fin cfg0.N) (h : ¬t.val % 32 = 0) (x : Vec F S264x512 .f32) (y : Vec F S8x512 .f32) (z : S1x512x1024.Idx) :
    ∃ pc ∈ (runB m c t h x y).2.2.1, z ∈ pc.1.set :=
  View.cover_of_tiledL (runB m c t h x y).2.2.1 S1x512x128.size (by sl_kernel_rfl) z

/-- Case B's stores cover buffer 16. -/
theorem coverB_16 (c : Dev nD) (t : Fin cfg0.N) (h : ¬t.val % 32 = 0) (x : Vec F S264x512 .f32) (y : Vec F S8x512 .f32) (z : S1x32x4096.Idx) :
    ∃ pc ∈ (runB m c t h x y).2.2.2.1, z ∈ pc.1.set :=
  View.cover_of_tiledL (runB m c t h x y).2.2.2.1 S1x32x128.size (by sl_kernel_rfl) z

/-- Case B's stores cover buffer 17. -/
theorem coverB_17 (c : Dev nD) (t : Fin cfg0.N) (h : ¬t.val % 32 = 0) (x : Vec F S264x512 .f32) (y : Vec F S8x512 .f32) (z : S1x2x512x128.Idx) :
    ∃ pc ∈ (runB m c t h x y).2.2.2.2.1, z ∈ pc.1.set :=
  View.cover_of_tiledL (runB m c t h x y).2.2.2.2.1 S1x1x512x128.size (by sl_kernel_rfl) z

/-- Case B's stores cover buffer 18. -/
theorem coverB_18 (c : Dev nD) (t : Fin cfg0.N) (h : ¬t.val % 32 = 0) (x : Vec F S264x512 .f32) (y : Vec F S8x512 .f32) (z : S1x2x512x128.Idx) :
    ∃ pc ∈ (runB m c t h x y).2.2.2.2.2.1, z ∈ pc.1.set :=
  View.cover_of_tiledL (runB m c t h x y).2.2.2.2.2.1 S1x1x512x128.size (by sl_kernel_rfl) z

/-- Case B's stores cover buffer 19. -/
theorem coverB_19 (c : Dev nD) (t : Fin cfg0.N) (h : ¬t.val % 32 = 0) (x : Vec F S264x512 .f32) (y : Vec F S8x512 .f32) (z : S1x1x128x512.Idx) :
    ∃ pc ∈ (runB m c t h x y).2.2.2.2.2.2.1, z ∈ pc.1.set :=
  View.cover_of_tiledL (runB m c t h x y).2.2.2.2.2.2.1 S1x1x128x512.size (by sl_kernel_rfl) z

/-- Case B's stores cover buffer 20. -/
theorem coverB_20 (c : Dev nD) (t : Fin cfg0.N) (h : ¬t.val % 32 = 0) (x : Vec F S264x512 .f32) (y : Vec F S8x512 .f32) (z : S1x4x128x128.Idx) :
    ∃ pc ∈ (runB m c t h x y).2.2.2.2.2.2.2.1, z ∈ pc.1.set :=
  View.cover_of_tiledL (runB m c t h x y).2.2.2.2.2.2.2.1 S1x1x128x128.size (by sl_kernel_rfl) z

/-- Case B's stores cover buffer 21. -/
theorem coverB_21 (c : Dev nD) (t : Fin cfg0.N) (h : ¬t.val % 32 = 0) (x : Vec F S264x512 .f32) (y : Vec F S8x512 .f32) (z : S1x32x512.Idx) :
    ∃ pc ∈ (runB m c t h x y).2.2.2.2.2.2.2.2.1, z ∈ pc.1.set :=
  View.cover_of_tiledL (runB m c t h x y).2.2.2.2.2.2.2.2.1 S1x32x512.size (by sl_kernel_rfl) z

/-- Case B's stores cover buffer s1. -/
theorem coverB_s1 (c : Dev nD) (t : Fin cfg0.N) (h : ¬t.val % 32 = 0) (x : Vec F S264x512 .f32) (y : Vec F S8x512 .f32) (z : S264x512.Idx) :
    ∃ pc ∈ (runB m c t h x y).2.2.2.2.2.2.2.2.2.1, z ∈ pc.1.set :=
  View.cover_of_tiledBy (runB m c t h x y).2.2.2.2.2.2.2.2.2.1 ![8, 512] (by sl_kernel_rfl) z

/-- Case B's stores cover buffer s2. -/
theorem coverB_s2 (c : Dev nD) (t : Fin cfg0.N) (h : ¬t.val % 32 = 0) (x : Vec F S264x512 .f32) (y : Vec F S8x512 .f32) (z : S8x512.Idx) :
    ∃ pc ∈ (runB m c t h x y).2.2.2.2.2.2.2.2.2.2.1, z ∈ pc.1.set :=
  View.cover_of_tiledL (runB m c t h x y).2.2.2.2.2.2.2.2.2.2.1 S8x512.size (by sl_kernel_rfl) z

/-- What each point leaves, point after point. -/
def left (c : Dev nD) : (n : ℕ) → n < cfg0.N → Left F
  | 0, hn => leftA m c ⟨0, hn⟩ (Nat.zero_mod _)
  | n + 1, hn =>
    if h : (n + 1) % 32 = 0 then leftA m c ⟨n + 1, hn⟩ h
    else leftB m c ⟨n + 1, hn⟩ h (left c n (Nat.lt_of_succ_lt hn)).2.2.2.2.2.2.2.2.2.1
      (left c n (Nat.lt_of_succ_lt hn)).2.2.2.2.2.2.2.2.2.2

/-- At the first point of a sequence. -/
theorem left_A (c : Dev nD) (t : Fin cfg0.N) (h : t.val % 32 = 0) : left m c t.val t.isLt = leftA m c t h := by
  obtain ⟨n, hn⟩ := t
  cases n with
  | zero => exact rfl
  | succ n => exact dif_pos h

/-- At a later point. -/
theorem left_B (c : Dev nD) (t : Fin cfg0.N) (h : ¬t.val % 32 = 0) :
    left m c t.val t.isLt
      = leftB m c t h (left m c (t.val - 1) (Nat.lt_of_le_of_lt (Nat.sub_le _ _) t.isLt)).2.2.2.2.2.2.2.2.2.1
          (left m c (t.val - 1) (Nat.lt_of_le_of_lt (Nat.sub_le _ _) t.isLt)).2.2.2.2.2.2.2.2.2.2 := by
  obtain ⟨n, hn⟩ := t
  cases n with
  | zero => exact absurd (Nat.zero_mod _) h
  | succ n => exact dif_neg h

/-- What is held between points: before the first every scratch buffer at anything, later the two carried buffers at what
    the point before left. -/
def held (c : Dev nD) : (n : ℕ) → n ≤ cfg0.N → sProp 𝕄
  | 0, _ => Pipeline.ΦA spec0 c
  | n + 1, hn => iprop(iprop((∃ d, owns (c : Thread nD τ) scM0_0 fullShare d)
      ∗ owns (c : Thread nD τ) scM0_1 fullShare ((left m c n hn).2.2.2.2.2.2.2.2.2.1)
      ∗ owns (c : Thread nD τ) scM0_2 fullShare ((left m c n hn).2.2.2.2.2.2.2.2.2.2)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop((∃ d, owns (c : Thread nD τ) scM0_0 fullShare d)
      ∗ owns (c : Thread nD τ) scM0_1 fullShare ((left m c n hn).2.2.2.2.2.2.2.2.2.1)
      ∗ owns (c : Thread nD τ) scM0_2 fullShare ((left m c n hn).2.2.2.2.2.2.2.2.2.2)) ∗ (∃ r, prngReg c r)) := rfl

theorem held_pos (c : Dev nD) (n : ℕ) (h : n ≤ cfg0.N) (hz : n ≠ 0) :
    held m c n h = iprop(iprop((∃ d, owns (c : Thread nD τ) scM0_0 fullShare d)
      ∗ owns (c : Thread nD τ) scM0_1 fullShare ((left m c (n - 1) (by omega)).2.2.2.2.2.2.2.2.2.1)
      ∗ owns (c : Thread nD τ) scM0_2 fullShare ((left m c (n - 1) (by omega)).2.2.2.2.2.2.2.2.2.2)) ∗ (∃ r, prngReg c r)) := by
  cases n with
  | zero => exact absurd rfl hz
  | succ n => rfl

/-- The data of the pipeline: the arrays as the call finds them, each input's block, each output's block as left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c t.val t.isLt).1
    | ⟨14, _⟩ => (left m c t.val t.isLt).2.1
    | ⟨15, _⟩ => (left m c t.val t.isLt).2.2.1
    | ⟨16, _⟩ => (left m c t.val t.isLt).2.2.2.1
    | ⟨17, _⟩ => (left m c t.val t.isLt).2.2.2.2.1
    | ⟨18, _⟩ => (left m c t.val t.isLt).2.2.2.2.2.1
    | ⟨19, _⟩ => (left m c t.val t.isLt).2.2.2.2.2.2.1
    | ⟨20, _⟩ => (left m c t.val t.isLt).2.2.2.2.2.2.2.1
    | ⟨21, _⟩ => (left m c t.val t.isLt).2.2.2.2.2.2.2.2.1
    | ⟨_ + 22, h⟩ => absurd h (Nat.not_lt.2 (Nat.le_add_left _ _))
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (left m c t.val t.isLt).1 := by dsimp only [dats]
theorem after_14 (c : Dev nD) (t : Fin cfg0.N) : (dats m 0 c).after 14 t = (left m c t.val t.isLt).2.1 := by dsimp only [dats]
theorem after_15 (c : Dev nD) (t : Fin cfg0.N) : (dats m 0 c).after 15 t = (left m c t.val t.isLt).2.2.1 := by dsimp only [dats]
theorem after_16 (c : Dev nD) (t : Fin cfg0.N) : (dats m 0 c).after 16 t = (left m c t.val t.isLt).2.2.2.1 := by dsimp only [dats]
theorem after_17 (c : Dev nD) (t : Fin cfg0.N) : (dats m 0 c).after 17 t = (left m c t.val t.isLt).2.2.2.2.1 := by dsimp only [dats]
theorem after_18 (c : Dev nD) (t : Fin cfg0.N) : (dats m 0 c).after 18 t = (left m c t.val t.isLt).2.2.2.2.2.1 := by dsimp only [dats]
theorem after_19 (c : Dev nD) (t : Fin cfg0.N) : (dats m 0 c).after 19 t = (left m c t.val t.isLt).2.2.2.2.2.2.1 := by dsimp only [dats]
theorem after_20 (c : Dev nD) (t : Fin cfg0.N) : (dats m 0 c).after 20 t = (left m c t.val t.isLt).2.2.2.2.2.2.2.1 := by dsimp only [dats]
theorem after_21 (c : Dev nD) (t : Fin cfg0.N) : (dats m 0 c).after 21 t = (left m c t.val t.isLt).2.2.2.2.2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
/-- The body does at every point what `left` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21]
  rw [show (dats m 0 c).Φ t.succ = held m c (t.val + 1) t.isLt from rfl, held_succ]
  by_cases h0 : t.val % 32 = 0
  · by_cases hz : t.val = 0
    · rw [held_castSucc m c t, held_zero m c _ _ hz, PhiA0_eq]
      rw [left_A m c t h0]
      unfold leftA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      isplitl [HS2]; · iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%fT0, HS0⟩, ⟨%es1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverA_s1 m c t h0)
          unfold owns; iexists _; isplitr
          swap; · iexact HS2
          ipureintro; exact View.read_writes_of_cover _ _ _ _ _ (coverA_s2 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      unfold owns; iexists _; isplitr
      swap; · iexact H21
      ipureintro; exact View.read_writes_of_cover _ _ _ _ _ (coverA_21 m c t h0)
    · rw [held_castSucc m c t, held_pos m c _ _ hz]
      rw [left_A m c t h0]
      unfold leftA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexists _; iexact HS1
      isplitl [HS2]; · iexists _; iexact HS2
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%fT0, HS0⟩, ⟨%es1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverA_s1 m c t h0)
          unfold owns; iexists _; isplitr
          swap; · iexact HS2
          ipureintro; exact View.read_writes_of_cover _ _ _ _ _ (coverA_s2 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      unfold owns; iexists _; isplitr
      swap; · iexact H21
      ipureintro; exact View.read_writes_of_cover _ _ _ _ _ (coverA_21 m c t h0)
  · rw [held_castSucc m c t, held_pos m c _ _ (fun h => h0 (by rw [h]))]
    rw [left_B m c t h0]
    unfold leftB; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runB m c t h0 _ _).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%fT0, HS0⟩, ⟨%es1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · unfold owns; iexists _; isplitr
          swap; · iexact HS1
          ipureintro; exact View.read_writes_of_cover _ _ _ _ _ (coverB_s1 m c t h0 _ _)
        unfold owns; iexists _; isplitr
        swap; · iexact HS2
        ipureintro; exact View.read_writes_of_cover _ _ _ _ _ (coverB_s2 m c t h0 _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverB_13 m c t h0 _ _)
    isplitl [H14]
    · unfold owns; iexists _; isplitr
      swap; · iexact H14
      ipureintro; exact View.read_writes_of_cover _ _ _ _ _ (coverB_14 m c t h0 _ _)
    isplitl [H15]
    · unfold owns; iexists _; isplitr
      swap; · iexact H15
      ipureintro; exact View.read_writes_of_cover _ _ _ _ _ (coverB_15 m c t h0 _ _)
    isplitl [H16]
    · unfold owns; iexists _; isplitr
      swap; · iexact H16
      ipureintro; exact View.read_writes_of_cover _ _ _ _ _ (coverB_16 m c t h0 _ _)
    isplitl [H17]
    · unfold owns; iexists _; isplitr
      swap; · iexact H17
      ipureintro; exact View.read_writes_of_cover _ _ _ _ _ (coverB_17 m c t h0 _ _)
    isplitl [H18]
    · unfold owns; iexists _; isplitr
      swap; · iexact H18
      ipureintro; exact View.read_writes_of_cover _ _ _ _ _ (coverB_18 m c t h0 _ _)
    isplitl [H19]
    · unfold owns; iexists _; isplitr
      swap; · iexact H19
      ipureintro; exact View.read_writes_of_cover _ _ _ _ _ (coverB_19 m c t h0 _ _)
    isplitl [H20]
    · unfold owns; iexists _; isplitr
      swap; · iexact H20
      ipureintro; exact View.read_writes_of_cover _ _ _ _ _ (coverB_20 m c t h0 _ _)
    unfold owns; iexists _; isplitr
    swap; · iexact H21
    ipureintro; exact View.read_writes_of_cover _ _ _ _ _ (coverB_21 m c t h0 _ _)

theorem body_row (t : Fin cfg0.N) :
    defs₀ (F := F) .tc cfg0.body (cfg0.bodyArgs t (cfg0.slots t)) = bodyAt0 t := by
  unfold defs₀; rw [Defs.onTc_tc]

set_option maxHeartbeats 2000000 in
/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem hlast (c : Dev nD) (t : Fin (cfg0.N + 1)) (h : t.val ≠ 0) : (dats m 0 c).Φ t ⊢ Pipeline.ΦA spec0 c := by
  rw [show (dats m 0 c).Φ t = held m c t.val (Nat.le_of_lt_succ t.isLt) from rfl, held_pos m c _ _ h, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

theorem hout (c : Dev nD) : (dats m 0 c).Φ (Fin.last cfg0.N) ⊢ Pipeline.ΦA spec0 c :=
  hlast m c _ (by rw [Fin.val_last]; have : cfg0.N = 64 := N_0; omega)

set_option maxHeartbeats 2000000 in
set_option backward.isDefEq.respectTransparency.types false in
/-- The call runs and ends with the arrays the data names, every semaphore counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The call runs and ends with the arrays the data names. -/
theorem run_main : θ_run defs (onTc (τ := τ) (main (F := F))) (s₀ m ρ) (Pipeline.FramePost cfgs (dats m) 0 (V m)) :=
  (θ_run defs _ _).mono (fun _ h => h.1) (run_quiet m ρ)

/-- The call leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_quiet m ρ))

end Cert.PremixRun

end
-- ==== Proof.PremixScan.lean ====
module

public import proofs.«01_k».proof.Proof.Gen.PremixIdeal.Skeleton
public import proofs.«01_k».proof.Proof.Scalar

@[expose] public section

/-! # The gated recurrence over a half tile: eight doubling steps are the row-by-row recurrence -/

set_option maxRecDepth 16384

noncomputable section

namespace Cert.PremixScan

open Idealize.ShloMosaic Idealize.ShloMosaic.TcCoe
open Cert.PremixIdeal Cert.PremixIdeal.Gen

/-- The rows a doubling step changes: those at least `s` rows down. -/
def live (s : BitVec 32) : IVec S256x512 1 := cmpi .sge (iota .tc S256x512 32 [0] iota_S256x512_d0_w32) (broadcast S256x512 s)

/-- One doubling step of the factors. -/
def stepA (s : BitVec 32) (A : FVec Ideal S256x512 .f32) : FVec Ideal S256x512 .f32 :=
  select (live s) (mulf A (dynamicRotate 0 s none A rotates_S256x512_d0)) A

/-- One doubling step of the terms. -/
def stepB (s : BitVec 32) (A B : FVec Ideal S256x512 .f32) : FVec Ideal S256x512 .f32 :=
  select (live s) (addf (mulf A (dynamicRotate 0 s none B rotates_S256x512_d0)) B) B

/-- A shifted row. -/
theorem rot_at (s : ℕ) (hs : s < 256) (A : FVec Ideal S256x512 .f32) (i : Fin 256) (l : Fin 512) (hi : s ≤ i.val) :
    dynamicRotate 0 (BitVec.ofNat 32 s) none A rotates_S256x512_d0 (ix2 i l) = A (ix2 ⟨i.val - s, by omega⟩ l) := by
  unfold dynamicRotate
  show A _ = A _
  congr 1
  funext a
  fin_cases a
  · apply Fin.ext
    have h : (BitVec.ofNat 32 s).toNat = s := by rw [BitVec.toNat_ofNat]; omega
    show (i.val + 256 - ((BitVec.ofNat 32 s).toNat + 0) % 256) % 256 = i.val - s
    rw [h]; omega
  · rfl

/-- A small number read as a signed word. -/
theorem toInt_small (n : ℕ) (h : n < 256) : (BitVec.ofNat 32 n).toInt = n := by
  rw [BitVec.toInt_eq_toNat_of_lt] <;> rw [BitVec.toNat_ofNat, Nat.mod_eq_of_lt (by omega)]
  omega

/-- The mask of a doubling step, row by row. -/
theorem live_at (s : ℕ) (hs : s < 256) (i : Fin 256) (l : Fin 512) :
    live (BitVec.ofNat 32 s) (ix2 i l) = BitVec.ofBool (decide (s ≤ i.val)) := by
  show BitVec.ofBool (decide ((BitVec.ofNat 32 s).toInt ≤ (BitVec.ofNat 32 (0 * 256 + i.val)).toInt)) = _
  rw [toInt_small s hs, toInt_small (0 * 256 + i.val) (by omega)]
  congr 1
  simp

/-- One doubling step of the factors, row by row. -/
theorem stepA_at (s : ℕ) (hs : s < 256) (A : FVec Ideal S256x512 .f32) (i : Fin 256) (l : Fin 512) :
    stepA (BitVec.ofNat 32 s) A (ix2 i l) = if h : s ≤ i.val then A (ix2 i l) * A (ix2 ⟨i.val - s, by omega⟩ l) else A (ix2 i l) := by
  show Scalar.select (live (BitVec.ofNat 32 s) (ix2 i l)) (A (ix2 i l) * dynamicRotate 0 (BitVec.ofNat 32 s) none A rotates_S256x512_d0 (ix2 i l)) (A (ix2 i l)) = _
  rw [live_at s hs]
  by_cases h : s ≤ i.val
  · rw [dif_pos h, rot_at s hs A i l h, decide_eq_true h]; rfl
  · rw [dif_neg h, decide_eq_false h]; rfl

/-- One doubling step of the terms, row by row. -/
theorem stepB_at (s : ℕ) (hs : s < 256) (A B : FVec Ideal S256x512 .f32) (i : Fin 256) (l : Fin 512) :
    stepB (BitVec.ofNat 32 s) A B (ix2 i l)
      = if h : s ≤ i.val then A (ix2 i l) * B (ix2 ⟨i.val - s, by omega⟩ l) + B (ix2 i l) else B (ix2 i l) := by
  show Scalar.select (live (BitVec.ofNat 32 s) (ix2 i l))
    (A (ix2 i l) * dynamicRotate 0 (BitVec.ofNat 32 s) none B rotates_S256x512_d0 (ix2 i l) + B (ix2 i l)) (B (ix2 i l)) = _
  rw [live_at s hs]
  by_cases h : s ≤ i.val
  · rw [dif_pos h, rot_at s hs B i l h, decide_eq_true h]; rfl
  · rw [dif_neg h, decide_eq_false h]; rfl

/-- After steps that reach `s` rows back, row `i`'s factor and term carry the state `s` rows earlier to the state after row `i`. -/
def Reach (H : ℕ → Fin 512 → EReal) (s : ℕ) (A B : FVec Ideal S256x512 .f32) : Prop :=
  ∀ (i : Fin 256) (l : Fin 512), H (i.val + 1) l = A (ix2 i l) * H (i.val + 1 - s) l + B (ix2 i l) ∧ 0 ≤ A (ix2 i l) ∧ A (ix2 i l) ≤ 1

/-- A doubling step doubles the reach. -/
theorem reach_step {H : ℕ → Fin 512 → EReal} {s : ℕ} {A B : FVec Ideal S256x512 .f32} (h : Reach H s A B) (hs : s < 256) :
    Reach H (s + s) (stepA (BitVec.ofNat 32 s) A) (stepB (BitVec.ofNat 32 s) A B) := by
  intro i l
  rw [stepA_at s hs, stepB_at s hs]
  obtain ⟨h1, h0, hle⟩ := h i l
  by_cases hi : s ≤ i.val
  · rw [dif_pos hi, dif_pos hi]
    obtain ⟨g1, g0, gle⟩ := h ⟨i.val - s, by omega⟩ l
    refine ⟨?_, mul_nonneg h0 g0, ?_⟩
    · rw [h1, show i.val + 1 - s = i.val - s + 1 by omega, g1,
        EReal.left_distrib_of_nonneg_of_ne_top h0 (ne_of_lt (lt_of_le_of_lt hle (EReal.coe_lt_top 1))),
        show i.val - s + 1 - s = i.val + 1 - (s + s) by omega, mul_assoc, add_assoc]
    · exact (mul_le_mul_of_nonneg_left gle h0).trans (by rw [mul_one]; exact hle)
  · rw [dif_neg hi, dif_neg hi]
    refine ⟨?_, h0, hle⟩
    rw [h1, show i.val + 1 - s = i.val + 1 - (s + s) by omega]

/-- The terms after the first three steps. -/
def threeB (a b : FVec Ideal S256x512 .f32) : FVec Ideal S256x512 .f32 :=
  stepB 4#32 (stepA 2#32 (stepA 1#32 a)) (stepB 2#32 (stepA 1#32 a) (stepB 1#32 a b))

/-- The factors after the first three steps. -/
def threeA (a : FVec Ideal S256x512 .f32) : FVec Ideal S256x512 .f32 := stepA 4#32 (stepA 2#32 (stepA 1#32 a))

/-- The last five steps, from factors and terms that reach eight rows back, and the carried state put in. -/
def tailH (A B : FVec Ideal S256x512 .f32) (c : FVec Ideal S1x512 .f32) : FVec Ideal S256x512 .f32 :=
  let A4 := stepA 8#32 A
  let B4 := stepB 8#32 A B
  let A5 := stepA 16#32 A4
  let B5 := stepB 16#32 A4 B4
  let A6 := stepA 32#32 A5
  let B6 := stepB 32#32 A5 B5
  let A7 := stepA 64#32 A6
  let B7 := stepB 64#32 A6 B6
  let A8 := stepA 128#32 A7
  let B8 := stepB 128#32 A7 B7
  addf (mulf A8 (broadcastTo S256x512 c broadcasts_S1x512_S256x512)) B8

/-- The states of a half tile: eight doubling steps and the carried state. -/
def states (a b : FVec Ideal S256x512 .f32) (c : FVec Ideal S1x512 .f32) : FVec Ideal S256x512 .f32 := tailH (threeA a) (threeB a b) c

/-- The carried row, repeated down the tile. -/
theorem carry_at (c : FVec Ideal S1x512 .f32) (i : Fin 256) (l : Fin 512) :
    broadcastTo S256x512 c broadcasts_S1x512_S256x512 (ix2 i l) = c (ix2 0 l) := by
  pointwise []

/-- The states are those of the recurrence run row by row. -/
theorem states_at (a b : FVec Ideal S256x512 .f32) (c : FVec Ideal S1x512 .f32) (H : ℕ → Fin 512 → EReal)
    (h0 : ∀ l, H 0 l = c (ix2 0 l)) (hs : ∀ (i : Fin 256) (l : Fin 512), H (i.val + 1) l = a (ix2 i l) * H i.val l + b (ix2 i l))
    (ha : ∀ (i : Fin 256) (l : Fin 512), 0 ≤ a (ix2 i l) ∧ a (ix2 i l) ≤ 1) (i : Fin 256) (l : Fin 512) :
    states a b c (ix2 i l) = H (i.val + 1) l := by
  have r1 : Reach H 1 a b := fun i l => ⟨hs i l, ha i l⟩
  have r2 : Reach H 2 _ _ := reach_step r1 (by omega)
  have r3 : Reach H 4 _ _ := reach_step r2 (by omega)
  have r4 : Reach H 8 _ _ := reach_step r3 (by omega)
  have r5 : Reach H 16 _ _ := reach_step r4 (by omega)
  have r6 : Reach H 32 _ _ := reach_step r5 (by omega)
  have r7 : Reach H 64 _ _ := reach_step r6 (by omega)
  have r8 : Reach H 128 _ _ := reach_step r7 (by omega)
  have r9 : Reach H 256 _ _ := reach_step r8 (by omega)
  have r := (r9 i l).1
  rw [show i.val + 1 - 256 = 0 by omega, h0] at r
  refine Eq.trans ?_ r.symm
  show _ * broadcastTo S256x512 c broadcasts_S1x512_S256x512 (ix2 i l) + _ = _
  rw [carry_at]
  rfl

/-- The first half's states, from the values its payload reads. -/
theorem pay33_eq (v94 v113 v127 : FVec Ideal S256x512 .f32) (v133 v139 : FVec Ideal S1x512 .f32) (v226 : Vec Ideal S1x512 .f32) :
    k0_pay33 (F := Ideal) (iota .tc S256x512 32 [0] iota_S256x512_d0_w32) (k0_pay28 v94 v113 v127 v133 v139) (k0_pay29 v113 v133 v139)
      (k0_pay30 v113 v133 v139) k0_pay31 (k0_pay32 v94 v113 v127 v133 v139) v226
      = states (k0_pay22 v113 v133 v139)
          (mulf (sqrt (subf (broadcast S256x512 (Scalar.ofBits .f32 0x3F800000#32)) (mulf (k0_pay22 v113 v133 v139) (k0_pay22 v113 v133 v139))))
            (mulf v127 v94)) v226 := rfl

/-- The second half's states, from the values its payload reads. -/
theorem pay61_eq (v286 v319 v338 v342 : FVec Ideal S256x512 .f32) (v418 : Vec Ideal S1x512 .f32) :
    k0_pay61 (F := Ideal) (iota .tc S256x512 32 [0] iota_S256x512_d0_w32) (k0_pay56 v286 v319 v338 v342) (k0_pay57 v338)
      (k0_pay58 v338) k0_pay59 (k0_pay60 v286 v319 v338 v342) v418
      = states v338 (mulf v342 (mulf v319 v286)) v418 := rfl

end Cert.PremixScan

end
-- ==== Proof.PremixBody.lean ====
module

public import proofs.«01_k».proof.Proof.PremixScan

@[expose] public section

/-! # The input-projection call's body, row by row: the gated unit and the values the recurrence reads -/

set_option maxRecDepth 16384

noncomputable section

namespace Cert.PremixBody

open Idealize.ShloMosaic Idealize.ShloMosaic.TcCoe
open Cert.PremixIdeal Cert.PremixIdeal.Gen Cert.Scalar

/-- The logistic function. -/
def logistic (x : EReal) : EReal := Ideal.div 1 (1 + Ideal.exp (-x))

/-- The Gaussian-error linear unit, through the hyperbolic tangent. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The softplus of the negated parameter. -/
def softplus (lam : EReal) : EReal := max (0 - lam) 0 + Ideal.log (1 + Ideal.exp (0 - max (0 - lam) (-(0 - lam))))

/-- The decay of a row. -/
def decay (r lam : EReal) : EReal := Ideal.exp (Ideal.ofBits .f32 0xC1000000#32 * r * softplus lam)

/-- The normalised row. -/
theorem pay5_at (x0 : Vec Ideal S1x512x1024 .f32) (x1 : Vec Ideal S1x1x1024 .f32) (x2 x3 : Vec Ideal S1x1x1x1x1024 .f32)
    (r : Fin 512) (k : Fin 1024) :
    k0_pay5 (F := Ideal) x0 x1 x2 x3 (ix2 r k)
      = modNorm (fun l => x0 (ix3 0 r l)) (fun l => x1 (ix3 0 0 l)) (fun l => x2 (ix5 0 0 0 0 l))
          (fun l => x3 (ix5 0 0 0 0 l)) k := by
  pointwise [k0_pay5, modNorm, rms]

/-- The gated linear unit. -/
theorem pay7_at (h : FVec Ideal S512x1024 .bf16) (w : Vec Ideal S1x1024x1024 .bf16) (r k : Fin 512) :
    k0_pay7 (F := Ideal) h (k0_pay6 w) (ix3 0 r k)
      = (∑ l, h (ix2 r l) * w (ix3 0 l ⟨k.val, by omega⟩)) * logistic (∑ l, h (ix2 r l) * w (ix3 0 l ⟨512 + k.val, by omega⟩)) := by
  pointwise [k0_pay7, k0_pay6]
  simp only [Scalar.sigmoid_eq, logistic]

/-- The recurrence's projection. -/
theorem pay8_at (h : FVec Ideal S512x1024 .bf16) (w : Vec Ideal S1x1024x1024 .bf16) (r : Fin 512) (k : Fin 1024) :
    k0_pay8 (F := Ideal) h w (ix2 r k) = ∑ l, h (ix2 r l) * w (ix3 0 l k) := by
  pointwise [k0_pay8]

/-- The rows the first half of the recurrence's convolution reads. -/
theorem pay11_at (h : FVec Ideal S512x1024 .bf16) (w : Vec Ideal S1x1024x1024 .bf16) (i : Fin 256) (k : Fin 512) :
    k0_pay11 (F := Ideal) h w (ix2 i k) = k0_pay8 (F := Ideal) h w (ix2 ⟨i.val, by omega⟩ ⟨k.val, by omega⟩) := by
  pointwise [k0_pay11, k0_pay9]

/-- The gate of the first half's rows. -/
theorem pay10_at (h : FVec Ideal S512x1024 .bf16) (w : Vec Ideal S1x1024x1024 .bf16) (i : Fin 256) (k : Fin 512) :
    k0_pay10 (F := Ideal) h w (ix2 i k) = gelu (k0_pay8 (F := Ideal) h w (ix2 ⟨i.val, by omega⟩ ⟨512 + k.val, by omega⟩)) := by
  pointwise [k0_pay10, gelu]

/-- The gate of the second half's rows. -/
theorem pay38_at (v : FVec Ideal S512x1024 .f32) (i : Fin 256) (k : Fin 512) :
    k0_pay38 (F := Ideal) v (ix2 i k) = gelu (v (ix2 ⟨256 + i.val, by omega⟩ ⟨512 + k.val, by omega⟩)) := by
  pointwise [k0_pay38, gelu]

/-- The rows the second half of the recurrence's convolution reads. -/
theorem pay39_at (v : FVec Ideal S512x1024 .f32) (i : Fin 256) (k : Fin 512) :
    k0_pay39 (F := Ideal) v (ix2 i k) = v (ix2 ⟨256 + i.val, by omega⟩ ⟨k.val, by omega⟩) := by
  pointwise [k0_pay39, k0_pay37]

/-- The first half's last eight rows. -/
theorem pay14_at (h : FVec Ideal S512x1024 .bf16) (w : Vec Ideal S1x1024x1024 .bf16) (i : Fin 8) (k : Fin 512) :
    k0_pay14 (F := Ideal) (k0_pay9 h w) (ix2 i k) = k0_pay8 (F := Ideal) h w (ix2 ⟨248 + i.val, by omega⟩ ⟨k.val, by omega⟩) := by
  pointwise [k0_pay14, k0_pay9]

/-- The second half's last eight rows. -/
theorem pay42_at (v : FVec Ideal S512x1024 .f32) (i : Fin 8) (k : Fin 512) :
    k0_pay42 (F := Ideal) (k0_pay37 v) (ix2 i k) = v (ix2 ⟨504 + i.val, by omega⟩ ⟨k.val, by omega⟩) := by
  pointwise [k0_pay42, k0_pay37]
  exact congrArg (fun n : Fin 512 => v (ix2 n ⟨k.val, by omega⟩)) (Fin.ext (show 256 + (248 + i.val) = 504 + i.val by omega))

/-- The four-tap convolution of the first half. -/
theorem pay13_at (b : Vec Ideal S1x1x512 .f32) (w0 w1 w2 w3 : Vec Ideal S1x1x512 .f32) (u0 u1 u2 u3 : Vec Ideal S256x512 .f32)
    (i : Fin 256) (k : Fin 512) :
    k0_pay13 (F := Ideal) (k0_pay12 b) w0 u0 w1 u1 w2 u2 w3 u3 (ix2 i k)
      = b (ix3 0 0 k) + w0 (ix3 0 0 k) * u0 (ix2 i k) + w1 (ix3 0 0 k) * u1 (ix2 i k) + w2 (ix3 0 0 k) * u2 (ix2 i k)
        + w3 (ix3 0 0 k) * u3 (ix2 i k) := by
  pointwise [k0_pay13, k0_pay12]

/-- The four-tap convolution of the second half. -/
theorem pay41_at (b : Vec Ideal S1x1x512 .f32) (w0 w1 w2 w3 : Vec Ideal S1x1x512 .f32) (u0 u1 u2 u3 : Vec Ideal S256x512 .f32)
    (i : Fin 256) (k : Fin 512) :
    k0_pay41 (F := Ideal) (k0_pay40 b w0 u0) w1 u1 w2 u2 w3 u3 (ix2 i k)
      = b (ix3 0 0 k) + w0 (ix3 0 0 k) * u0 (ix2 i k) + w1 (ix3 0 0 k) * u1 (ix2 i k) + w2 (ix3 0 0 k) * u2 (ix2 i k)
        + w3 (ix3 0 0 k) * u3 (ix2 i k) := by
  pointwise [k0_pay41, k0_pay40]

/-- The first half's decay gate. -/
theorem pay17_at (v69 : FVec Ideal S1x512 .f32) (w0 w1 w2 w3 : Vec Ideal S1x1x512 .f32) (u0 u1 u2 u3 : Vec Ideal S256x512 .f32)
    (wa : Vec Ideal S1x512x512 .bf16) (ba : Vec Ideal S1x1x512 .f32) (i : Fin 256) (k : Fin 512) :
    k0_pay17 (F := Ideal) (k0_pay16 v69 w0 u0 w1 u1 w2 u2 w3 u3 wa) ba (ix2 i k)
      = logistic ((∑ l, k0_pay13 (F := Ideal) v69 w0 u0 w1 u1 w2 u2 w3 u3 (ix2 i l) * wa (ix3 0 l k)) + ba (ix3 0 0 k)) := by
  generalize hx : k0_pay13 (F := Ideal) v69 w0 u0 w1 u1 w2 u2 w3 u3 = xr
  pointwise [k0_pay17, k0_pay16, k0_pay15, hx]
  simp only [Scalar.sigmoid_eq, logistic]

/-- The first half's input gate. -/
theorem pay18_at (v : FVec Ideal S256x512 .bf16) (wx : Vec Ideal S1x512x512 .bf16) (bx : Vec Ideal S1x1x512 .f32) (i : Fin 256) (k : Fin 512) :
    k0_pay18 (F := Ideal) v wx bx (ix2 i k) = logistic ((∑ l, v (ix2 i l) * wx (ix3 0 l k)) + bx (ix3 0 0 k)) := by
  pointwise [k0_pay18]
  simp only [Scalar.sigmoid_eq, logistic]

/-- The second half's input gate. -/
theorem pay46_at (v : FVec Ideal S256x512 .bf16) (wx : Vec Ideal S1x512x512 .bf16) (bx : Vec Ideal S1x1x512 .f32) (i : Fin 256) (k : Fin 512) :
    k0_pay46 (F := Ideal) v wx bx (ix2 i k) = logistic ((∑ l, v (ix2 i l) * wx (ix3 0 l k)) + bx (ix3 0 0 k)) := by
  pointwise [k0_pay46]
  simp only [Scalar.sigmoid_eq, logistic]

/-- The first half's decay. -/
theorem pay22_at (r : FVec Ideal S256x512 .f32) (lam : Vec Ideal S1x1x512 .f32) (i : Fin 256) (k : Fin 512) :
    k0_pay22 (F := Ideal) r (k0_pay20 lam) (k0_pay21 lam) (ix2 i k) = decay (r (ix2 i k)) (lam (ix3 0 0 k)) := by
  pointwise [k0_pay22, k0_pay20, k0_pay21, k0_pay19, decay, softplus]
  rfl

/-- The second half's decay. -/
theorem pay47_at (v268 : FVec Ideal S256x512 .f32) (w1 w2 w3 : Vec Ideal S1x1x512 .f32) (u1 u2 u3 : Vec Ideal S256x512 .f32)
    (wa : Vec Ideal S1x512x512 .bf16) (ba : Vec Ideal S1x1x512 .f32) (lam : Vec Ideal S1x1x512 .f32) (i : Fin 256) (k : Fin 512) :
    k0_pay47 (F := Ideal) (k0_pay44 v268 w1 u1 w2 u2 w3 u3 wa ba) k0_pay45 lam (ix2 i k)
      = decay (logistic ((∑ l, k0_pay41 (F := Ideal) v268 w1 u1 w2 u2 w3 u3 (ix2 i l) * wa (ix3 0 l k)) + ba (ix3 0 0 k))) (lam (ix3 0 0 k)) := by
  generalize hx : k0_pay41 (F := Ideal) v268 w1 u1 w2 u2 w3 u3 = xr
  pointwise [k0_pay47, k0_pay44, k0_pay43, k0_pay45, hx, decay, softplus]
  simp only [Scalar.sigmoid_eq, logistic]
  rfl

/-- The first half's store. -/
theorem pay36_at (g h : FVec Ideal S256x512 .f32) (i : Fin 256) (k : Fin 512) :
    k0_pay36 (F := Ideal) g h (ix3 0 i k) = h (ix2 i k) * g (ix2 i k) := by
  pointwise [k0_pay36]

/-- The carried state left by the first half. -/
theorem pay35_at (v : FVec Ideal S1x512 .f32) (i : Fin 8) (k : Fin 512) : k0_pay35 (F := Ideal) v (ix2 i k) = v (ix2 0 k) := by
  pointwise [k0_pay35]

end Cert.PremixBody

end
-- ==== Proof.PremixMath.lean ====
module

public import proofs.«01_k».proof.Proof.PremixBody
public import proofs.«01_k».proof.PremixRefIdeal

@[expose] public section

/-! # The gated recurrence in closed form, row by row, and the scalar facts that join the two programs -/

set_option maxRecDepth 16384

noncomputable section

namespace Cert.PremixMath

open Idealize.ShloMosaic Idealize.ShloMosaic.TcCoe
open Cert.PremixRefIdeal Cert.Scalar
open Cert.PremixBody (gelu softplus decay)

/-- The argument arrays that the two results depend on. -/
structure Args where
  x : FVec Ideal S2x16384x1024 .f32
  mod : FVec Ideal S2x2x6x1x1024 .f32
  nm : FVec Ideal S2x1024 .f32
  w : FVec Ideal S2x1024x3352 .f32
  wc : FVec Ideal S2x4x512 .f32
  bc : FVec Ideal S2x512 .f32
  wa : FVec Ideal S2x8x64x64 .f32
  ba : FVec Ideal S2x512 .f32
  wx : FVec Ideal S2x8x64x64 .f32
  bx : FVec Ideal S2x512 .f32
  lam : FVec Ideal S2x512 .f32

/-- Row `n` of a sequence. -/
def rowOf (n : ℕ) : Fin 16384 := ⟨n % 16384, Nat.mod_lt _ (by norm_num)⟩

theorem rowOf_val (n : Fin 16384) : rowOf n.val = n := Fin.ext (Nat.mod_eq_of_lt n.isLt)

/-- A row of the input projection: the modulated norm times the projection's weights. -/
def proj (A : Args) (b : Fin 2) (n : Fin 16384) (k : Fin 3352) : EReal :=
  ∑ l, modNorm (fun l => A.x (ix3 b n l)) (fun l => A.nm (ix2 0 l)) (fun l => A.mod (ix5 0 b 1 0 l))
    (fun l => A.mod (ix5 0 b 0 0 l)) l * A.w (ix3 0 l k)

/-- The gated linear unit. -/
def vv (A : Args) (b : Fin 2) (n : Fin 16384) (k : Fin 512) : EReal :=
  proj A b n ⟨k.val, by omega⟩ * PremixBody.logistic (proj A b n ⟨512 + k.val, by omega⟩)

/-- The rows the convolution reads, three zero rows first. -/
def ux (A : Args) (b : Fin 2) (n : ℕ) (k : Fin 512) : EReal :=
  if 3 ≤ n then proj A b (rowOf (n - 3)) ⟨2328 + k.val, by omega⟩ else 0

/-- The convolved rows. -/
def xr (A : Args) (b : Fin 2) (n : ℕ) (k : Fin 512) : EReal :=
  (A.wc (ix3 0 0 k) : EReal) * ux A b n k + (A.wc (ix3 0 1 k) : EReal) * ux A b (1 + n) k
    + (A.wc (ix3 0 2 k) : EReal) * ux A b (2 + n) k + (A.wc (ix3 0 3 k) : EReal) * ux A b (3 + n) k + (A.bc (ix2 0 k) : EReal)

/-- A gate: each head's matrix on the head's channels, the bias, the logistic function. -/
def gate (wm : FVec Ideal S2x8x64x64 .f32) (bm : FVec Ideal S2x512 .f32) (u : Fin 512 → EReal) (k : Fin 512) : EReal :=
  PremixBody.logistic ((∑ l : Fin 64, (wm (ix4 0 ⟨k.val / 64, by omega⟩ l ⟨k.val % 64, by omega⟩) : EReal)
    * u ⟨k.val / 64 * 64 + l.val, by omega⟩) + (bm (ix2 0 k) : EReal))

/-- The decay of a row. -/
def aa (A : Args) (b : Fin 2) (n : ℕ) (k : Fin 512) : EReal := decay (gate A.wa A.ba (xr A b n) k) (A.lam (ix2 0 k))

/-- What a row adds. -/
def bb (A : Args) (b : Fin 2) (n : ℕ) (k : Fin 512) : EReal :=
  Ideal.sqrt (1 - aa A b n k * aa A b n k) * (gate A.wx A.bx (xr A b n) k * xr A b n k)

/-- The state after `n` rows. -/
def hh (A : Args) (b : Fin 2) (k : Fin 512) : ℕ → EReal
  | 0 => 0
  | n + 1 => aa A b n k * hh A b k n + bb A b n k

/-- The recurrence's result. -/
def yy (A : Args) (b : Fin 2) (n : Fin 16384) (k : Fin 512) : EReal :=
  hh A b k (n.val + 1) * gelu (proj A b n ⟨2840 + k.val, by omega⟩)

/-- The exponential is not negative. -/
theorem exp_nonneg (x : EReal) : 0 ≤ Ideal.exp x := by
  induction x with
  | bot => exact le_refl _
  | top => exact le_top
  | coe r => exact EReal.coe_nonneg.mpr (Real.exp_pos r).le

/-- The logistic function is not negative. -/
theorem logistic_nonneg (x : EReal) : 0 ≤ PremixBody.logistic x := by
  have h : 0 < 1 + Ideal.exp (-x) := lt_of_lt_of_le zero_lt_one (le_add_of_nonneg_right (exp_nonneg _))
  unfold PremixBody.logistic Ideal.div
  rw [if_neg h.ne', one_mul]
  exact EReal.inv_nonneg_of_nonneg h.le

/-- The logarithm of a number at least one is not negative. -/
theorem log_nonneg (x : EReal) (h : 0 ≤ x) : 0 ≤ Ideal.log (1 + x) := by
  induction x with
  | bot => exact absurd h (by simp)
  | top => exact le_top
  | coe r =>
    have hr : 0 ≤ r := EReal.coe_nonneg.mp h
    rw [← EReal.coe_one, ← EReal.coe_add]
    show 0 ≤ (if 1 + r ≤ 0 then ⊥ else (Real.log (1 + r) : EReal))
    rw [if_neg (by linarith)]
    exact EReal.coe_nonneg.mpr (Real.log_nonneg (by linarith))

/-- The softplus is not negative. -/
theorem softplus_nonneg (lam : EReal) : 0 ≤ softplus lam :=
  add_nonneg (le_max_right _ _) (log_nonneg _ (exp_nonneg _))

/-- The constant of the decay. -/
theorem eight_eq : Ideal.ofBits .f32 0xC1000000#32 = ((-8 : ℝ) : EReal) := by
  simp [Ideal.ofBits, Ideal.ieee]
  try norm_num [zpow_neg]
  try rw [← EReal.coe_mul]
  try norm_num

/-- The constant two. -/
theorem two_eq : Ideal.ofBits .f32 0x40000000#32 = ((2 : ℝ) : EReal) := by
  simp [Ideal.ofBits, Ideal.ieee]
  try norm_num [zpow_neg]
  try rw [← EReal.coe_mul]
  try norm_num

/-- The exponential of a number at most zero is at most one. -/
theorem exp_le_one (l : EReal) (hl : l ≤ 0) : Ideal.exp l ≤ 1 := by
  induction l with
  | bot => exact zero_le_one
  | top => exact absurd hl (by simp)
  | coe r =>
    have h0 : r ≤ 0 := EReal.coe_nonpos.mp hl
    show ((Real.exp r : ℝ) : EReal) ≤ 1
    rw [← EReal.coe_one]
    exact EReal.coe_le_coe_iff.mpr (Real.exp_le_one_iff.mpr h0)

/-- The decay lies between zero and one. -/
theorem decay_bounds (r lam : EReal) (hr : 0 ≤ r) : 0 ≤ decay r lam ∧ decay r lam ≤ 1 := by
  refine ⟨exp_nonneg _, ?_⟩
  have hs := softplus_nonneg lam
  unfold decay
  have hl : Ideal.ofBits .f32 0xC1000000#32 * r * softplus lam ≤ 0 := by
    rw [eight_eq, EReal.coe_neg, EReal.neg_mul, EReal.neg_mul]
    have : (0 : EReal) ≤ ((8 : ℝ) : EReal) * r * softplus lam :=
      mul_nonneg (mul_nonneg (EReal.coe_nonneg.mpr (by norm_num)) hr) hs
    simpa using EReal.neg_le_neg_iff.mpr this
  exact exp_le_one _ hl

/-- The decays of the recurrence lie between zero and one. -/
theorem aa_bounds (A : Args) (b : Fin 2) (n : ℕ) (k : Fin 512) : 0 ≤ aa A b n k ∧ aa A b n k ≤ 1 :=
  decay_bounds _ _ (logistic_nonneg _)

/-- The exponential of twice a number. -/
theorem exp_two (l : EReal) : Ideal.exp (Ideal.ofBits .f32 0x40000000#32 * l) = Ideal.exp l * Ideal.exp l := by
  rw [two_eq]
  induction l with
  | bot => rw [EReal.coe_mul_bot_of_pos (by norm_num)]; show (0 : EReal) = 0 * 0; simp
  | top => rw [EReal.coe_mul_top_of_pos (by norm_num)]; show (⊤ : EReal) = ⊤ * ⊤; simp
  | coe r =>
    rw [← EReal.coe_mul]
    show ((Real.exp (2 * r) : ℝ) : EReal) = (Real.exp r : EReal) * (Real.exp r : EReal)
    rw [← EReal.coe_mul, ← Real.exp_add]
    congr 2; ring

/-- The two forms of the recurrence's input scale. -/
theorem scale_eq (l : EReal) :
    -(Ideal.expm1 (Ideal.ofBits .f32 0x40000000#32 * l)) = 1 - Ideal.exp l * Ideal.exp l := by
  unfold Ideal.expm1
  rw [exp_two, EReal.neg_sub (Or.inr (by rw [← EReal.coe_one]; exact EReal.coe_ne_bot _)) (Or.inr (by rw [← EReal.coe_one]; exact EReal.coe_ne_top _)), add_comm, ← sub_eq_add_neg]

/-- The two forms of the softplus. -/
theorem softplus_eq (lam : EReal) :
    max (-lam) 0 + Ideal.log1p (Ideal.exp (-(max (-lam - 0) (-(-lam - 0))))) = softplus lam := by
  unfold softplus Ideal.log1p
  rw [zero_sub, sub_zero, zero_sub]

end Cert.PremixMath

end
-- ==== Proof.PremixHost.lean ====
/- What the host prepares for the input-projection call: the packed projection weights and the two block-diagonal gate
   matrices, read at an entry. -/
module

public import proofs.«01_k».proof.Proof.PremixRun
public import proofs.«01_k».proof.Proof.PremixMath

@[expose] public section
set_option maxRecDepth 16384

noncomputable section

namespace Cert.PremixHost
open Idealize.ShloMosaic Idealize.ShloMosaic.TcCoe Idealize.SL.Sem
open Cert.PremixIdeal Cert.PremixIdeal.Gen Cert.PremixRun

/-- The first piece of a concatenation of columns. -/
theorem concat_first {α : Type} (x : S2x1024x1024.Idx → α) (xs : List ((s : Shape) × (s.Idx → α)))
    (h : Shape.Concatenates ((⟨S2x1024x1024, x⟩ :: xs : List ((s : Shape) × (s.Idx → α))).map (·.1)) S2x1024x3712 2)
    (a : Fin 2) (l : Fin 1024) (k : Fin 1024) :
    concatenate S2x1024x3712 2 (⟨S2x1024x1024, x⟩ :: xs) h (ix3 a l ⟨k.val, by omega⟩) = x (ix3 a l k) :=
  concatenate_apply_piece 2 _ h _ 0 (by simp) S2x1024x1024 x rfl rfl 0 rfl (ix3 a l k)
    (fun b hb => by fin_cases b <;> first | rfl | exact absurd rfl hb) (by show 0 + k.val = k.val; omega)

set_option maxHeartbeats 2000000 in
/-- The last piece of a concatenation of columns, when the pieces before it take 2688 of them. -/
theorem concat_last {α : Type} (x0 : S2x1024x1024.Idx → α) (x1 : S2x1024x512.Idx → α) (x2 x3 : S2x1024x128.Idx → α)
    (x4 x5 x6 x7 x8 x9 x10 x11 : S2x1024x64.Idx → α) (x12 x13 x14 : S2x1024x128.Idx → α) (x15 : S2x1024x1024.Idx → α)
    (h : Shape.Concatenates (([⟨S2x1024x1024, x0⟩, ⟨S2x1024x512, x1⟩, ⟨S2x1024x128, x2⟩, ⟨S2x1024x128, x3⟩, ⟨S2x1024x64, x4⟩,
      ⟨S2x1024x64, x5⟩, ⟨S2x1024x64, x6⟩, ⟨S2x1024x64, x7⟩, ⟨S2x1024x64, x8⟩, ⟨S2x1024x64, x9⟩, ⟨S2x1024x64, x10⟩, ⟨S2x1024x64, x11⟩,
      ⟨S2x1024x128, x12⟩, ⟨S2x1024x128, x13⟩, ⟨S2x1024x128, x14⟩, ⟨S2x1024x1024, x15⟩] : List ((s : Shape) × (s.Idx → α))).map (·.1)) S2x1024x3712 2)
    (a : Fin 2) (l : Fin 1024) (k : Fin 1024) :
    concatenate S2x1024x3712 2 [⟨S2x1024x1024, x0⟩, ⟨S2x1024x512, x1⟩, ⟨S2x1024x128, x2⟩, ⟨S2x1024x128, x3⟩, ⟨S2x1024x64, x4⟩,
      ⟨S2x1024x64, x5⟩, ⟨S2x1024x64, x6⟩, ⟨S2x1024x64, x7⟩, ⟨S2x1024x64, x8⟩, ⟨S2x1024x64, x9⟩, ⟨S2x1024x64, x10⟩, ⟨S2x1024x64, x11⟩,
      ⟨S2x1024x128, x12⟩, ⟨S2x1024x128, x13⟩, ⟨S2x1024x128, x14⟩, ⟨S2x1024x1024, x15⟩] h (ix3 a l ⟨2688 + k.val, by omega⟩) = x15 (ix3 a l k) :=
  concatenate_apply_piece 2 _ h _ 15 (by simp) S2x1024x1024 x15 (by rfl) rfl 2688 (by simp only [List.take_succ_cons, List.take_zero, List.map_cons, List.map_nil, List.sum_cons, List.sum_nil]; decide) (ix3 a l k)
    (fun b hb => by fin_cases b <;> first | rfl | exact absurd rfl hb) (by show 2688 + k.val = 2688 + k.val; rfl)

/-- The identity the first gate's matrix is built with. -/
theorem lit0_at (a b : Fin 8) : lit0 (S8x8.rowMajor (ix2 a b)) = if a = b then 0x3F800000#32 else 0x00000000#32 := by
  revert a b; decide +kernel

/-- The identity the second gate's matrix is built with. -/
theorem lit1_at (a b : Fin 8) : lit1 (S8x8.rowMajor (ix2 a b)) = if a = b then 0x3F800000#32 else 0x00000000#32 := by
  revert a b; decide +kernel

variable (m : (ℓ : Loc nD τ sig) → Buf (Elt Ideal) ℓ) (c : Dev nD)

set_option maxHeartbeats 2000000

/-- The bits of one. -/
theorem one_bits : (Ideal.ofBits .f32 0x3F800000#32 : EReal) = 1 := by
  simp [Ideal.ofBits, Ideal.ieee]
  try norm_num [zpow_neg]
  try rw [← EReal.coe_mul]
  try norm_num

/-- The bits of zero. -/
theorem zero_bits : (Ideal.ofBits .f32 0x00000000#32 : EReal) = 0 := by
  simp [Ideal.ofBits, Ideal.ieee]
  try norm_num

/-- An entry times an entry of the identity. -/
theorem mul_eye (x : EReal) (L : Fin 64 → BitVec 32)
    (hL : ∀ a b : Fin 8, L (S8x8.rowMajor (ix2 a b)) = if a = b then 0x3F800000#32 else 0x00000000#32) (a b : Fin 8) :
    x * (Ideal.ofBits .f32 (L (S8x8.rowMajor (ix2 a b))) : EReal) = if a = b then x else 0 := by
  rw [hL]
  split
  · rw [one_bits, mul_one]
  · rw [zero_bits, mul_zero]

/-- The packed weights of the gated linear unit. -/
theorem pack_lo (l : Fin 1024) (k : Fin 1024) :
    (V (F := Ideal) m c main_v35 : FVec Ideal S2x1024x3712 .bf16) (ix3 0 l ⟨k.val, by omega⟩)
      = (m ((c : Thread nD τ).loc main_arg4) : FVec Ideal S2x1024x3352 .f32) (ix3 0 l ⟨k.val, by omega⟩) := by
  unfold V
  simp only [hostOps0, hostOps0_1, hostOps0_2, hostOps0_3, hostOps0_4, List.flatten_cons, List.flatten_nil, List.append_nil, List.cons_append, List.nil_append]
  after_results_simp
  refine (concat_first _ _ _ 0 l k).trans ?_
  simp only [Matrix.cons_val_zero]
  after_results_simp
  pointwise []

/-- The packed weights of the recurrence. -/
theorem pack_hi (l : Fin 1024) (k : Fin 1024) :
    (V (F := Ideal) m c main_v35 : FVec Ideal S2x1024x3712 .bf16) (ix3 0 l ⟨2688 + k.val, by omega⟩)
      = (m ((c : Thread nD τ).loc main_arg4) : FVec Ideal S2x1024x3352 .f32) (ix3 0 l ⟨2328 + k.val, by omega⟩) := by
  unfold V
  simp only [hostOps0, hostOps0_1, hostOps0_2, hostOps0_3, hostOps0_4, List.flatten_cons, List.flatten_nil, List.append_nil, List.cons_append, List.nil_append]
  after_results_simp
  refine (concat_last _ _ _ _ _ _ _ _ _ _ _ _ _ _ _ _ _ 0 l k).trans ?_
  simp only [Matrix.cons_val]
  after_results_simp
  pointwise []

/-- The decay gate's matrix: each head's block, zero elsewhere. -/
theorem wa_at (l k : Fin 512) :
    (V (F := Ideal) m c main_v44 : FVec Ideal S2x512x512 .bf16) (ix3 0 l k)
      = if l.val / 64 = k.val / 64 then (m ((c : Thread nD τ).loc main_arg7) : FVec Ideal S2x8x64x64 .f32)
          (ix4 0 ⟨l.val / 64, by omega⟩ ⟨l.val % 64, by omega⟩ ⟨k.val % 64, by omega⟩) else (0 : EReal) := by
  refine Eq.trans ?_ ((mul_eye _ lit0 lit0_at ⟨l.val / 64, by omega⟩ ⟨k.val / 64, by omega⟩).trans (if_congr Fin.ext_iff rfl rfl))
  unfold V
  simp only [hostOps0, hostOps0_1, hostOps0_2, hostOps0_3, hostOps0_4, List.flatten_cons, List.flatten_nil, List.append_nil, List.cons_append, List.nil_append]
  after_results_simp
  pointwise []

/-- The input gate's matrix: each head's block, zero elsewhere. -/
theorem wx_at (l k : Fin 512) :
    (V (F := Ideal) m c main_v52 : FVec Ideal S2x512x512 .bf16) (ix3 0 l k)
      = if l.val / 64 = k.val / 64 then (m ((c : Thread nD τ).loc main_arg9) : FVec Ideal S2x8x64x64 .f32)
          (ix4 0 ⟨l.val / 64, by omega⟩ ⟨l.val % 64, by omega⟩ ⟨k.val % 64, by omega⟩) else (0 : EReal) := by
  refine Eq.trans ?_ ((mul_eye _ lit1 lit1_at ⟨l.val / 64, by omega⟩ ⟨k.val / 64, by omega⟩).trans (if_congr Fin.ext_iff rfl rfl))
  unfold V
  simp only [hostOps0, hostOps0_1, hostOps0_2, hostOps0_3, hostOps0_4, List.flatten_cons, List.flatten_nil, List.append_nil, List.cons_append, List.nil_append]
  after_results_simp
  pointwise []

end Cert.PremixHost
end
-- ==== Proof.PremixScratch.lean ====
module

public import proofs.«01_k».proof.Proof.PremixBody
public import Idealize.ShloMosaic.Lib.WritesUnit
public import Idealize.ShloMosaic.Lib.Pipeline.ReadBack

@[expose] public section

/-! # What the input-projection call reads of its scratch buffers and leaves in its blocks -/

set_option maxRecDepth 16384

noncomputable section

namespace Cert.PremixScratch

open Idealize.ShloMosaic Idealize.ShloMosaic.TcCoe Idealize.SL.Sem
open Cert.PremixIdeal Cert.PremixIdeal.Gen

/-- Where a unit-stride piece of whole rows lies. -/
theorem mem_rows {o n : ℕ} (inb : ∀ a : Fin 2, ![o, 0] a + ![n, 512] a ≤ S264x512.size a) (i : Fin 264) (l : Fin 512) :
    ix2 i l ∈ (Rect.unit (s := S264x512) ![o, 0] ![n, 512] inb).set ↔ o ≤ i.val ∧ i.val < o + n := by
  rw [Rect.mem_set_unit]
  constructor
  · intro h; simpa using h 0
  · intro h a
    fin_cases a
    · simpa using h
    · have := l.isLt; simpa using this

/-- Eight rows and a half tile laid behind them, read back. -/
theorem canon_pair (halo : Vec Ideal S8x512 .f32) (w : Vec Ideal S256x512 .f32) (inb inb') (L : List (View.Piece (Elt Ideal) S264x512 .f32))
    (i : Fin 264) (l : Fin 512) :
    View.canon (Val := Elt Ideal) ((⟨Rect.unit (s := S264x512) ![8, 0] ![256, 512] inb, w⟩ : View.Piece (Elt Ideal) S264x512 .f32)
        :: ⟨Rect.unit (s := S264x512) ![0, 0] ![8, 512] inb', halo⟩ :: L) (ix2 i l)
      = if h : i.val < 8 then halo (ix2 ⟨i, h⟩ l) else w (ix2 ⟨i.val - 8, by omega⟩ l) := by
  by_cases h : i.val < 8
  · rw [dif_pos h, View.canon_cons_of_not_mem _ _ (by rw [mem_rows]; omega)]
    have hi : ix2 i l = (Rect.unit (s := S264x512) ![0, 0] ![8, 512] inb').emb (ix2 ⟨i, h⟩ l) := by
      funext a; apply Fin.ext; fin_cases a <;> simp [Rect.emb_apply]
    rw [hi, View.canon_cons_emb]
  · rw [dif_neg h]
    have hi : ix2 i l = (Rect.unit (s := S264x512) ![8, 0] ![256, 512] inb).emb (ix2 ⟨i.val - 8, by omega⟩ l) := by
      funext a; apply Fin.ext; fin_cases a <;> simp [Rect.emb_apply] <;> omega
    rw [hi, View.canon_cons_emb]

/-- The entry a load of 256 rows from row `o` on reads. -/
theorem idx_rows {o : ℕ} (inb : ∀ a : Fin 2, ![o, 0] a + ![256, 512] a ≤ S264x512.size a) (i : Fin 256) (l : Fin 512) (ho : o + i.val < 264) :
    (Rect.unit (s := S264x512) ![o, 0] ![256, 512] inb).emb (ix2 i l) = (ix2 ⟨o + i.val, ho⟩ l : S264x512.Idx) := by
  funext a; apply Fin.ext; fin_cases a <;> simp [Rect.emb_apply]

/-- A load of 256 rows after eight rows and a half tile are laid in the buffer. -/
theorem load_pair {κ : Kind} {sp : Space} (v : View sig κ sp S264x512 .f32) (halo : Vec Ideal S8x512 .f32) (w : Vec Ideal S256x512 .f32)
    (inb inb') (L : List (View.Piece (Elt Ideal) S264x512 .f32)) (o : ℕ) (ho : o ≤ 8)
    (inb'' : ∀ a : Fin 2, ![o, 0] a + ![256, 512] a ≤ S264x512.size a) (i : Fin 256) (l : Fin 512) :
    v.readCov (Val := Elt Ideal) ((⟨Rect.unit (s := S264x512) ![8, 0] ![256, 512] inb, w⟩ : View.Piece (Elt Ideal) S264x512 .f32)
        :: ⟨Rect.unit (s := S264x512) ![0, 0] ![8, 512] inb', halo⟩ :: L) (Rect.unit (s := S264x512) ![o, 0] ![256, 512] inb'').toLoadRect (ix2 i l)
      = if h : o + i.val < 8 then halo (ix2 ⟨o + i.val, h⟩ l) else w (ix2 ⟨o + i.val - 8, by omega⟩ l) := by
  rw [View.readCov_eq_canon']
  refine Eq.trans ?_ (canon_pair halo w inb inb' L ⟨o + i.val, by omega⟩ l)
  show View.canon _ ((Rect.unit (s := S264x512) ![o, 0] ![256, 512] inb'').emb (ix2 i l)) = _
  rw [idx_rows inb'' i l (by omega)]

/-- A load of the half tile itself. -/
theorem load_own {κ : Kind} {sp : Space} (v : View sig κ sp S264x512 .f32) (w : Vec Ideal S256x512 .f32)
    (inb) (L : List (View.Piece (Elt Ideal) S264x512 .f32)) (inb'') (i : Fin 256) (l : Fin 512) :
    v.readCov (Val := Elt Ideal) ((⟨Rect.unit (s := S264x512) ![8, 0] ![256, 512] inb, w⟩ : View.Piece (Elt Ideal) S264x512 .f32) :: L)
      (Rect.unit (s := S264x512) ![8, 0] ![256, 512] inb'').toLoadRect (ix2 i l) = w (ix2 i l) := by
  rw [View.readCov_eq_canon']
  exact View.canon_cons_emb _ _ _ _

/-- A load of 256 rows after a half tile is laid behind rows carried over. -/
theorem load_carried {κ : Kind} {sp : Space} (v : View sig κ sp S264x512 .f32) (old : v.ty.Contents (Elt Ideal)) (w : Vec Ideal S256x512 .f32)
    (inb) (o : ℕ) (ho : o ≤ 8) (inb'' : ∀ a : Fin 2, ![o, 0] a + ![256, 512] a ≤ S264x512.size a) (i : Fin 256) (l : Fin 512) :
    View.ld (View.read (Elt Ideal) v (v.writes (Elt Ideal) old
        [(⟨Rect.unit (s := S264x512) ![8, 0] ![256, 512] inb, w⟩ : View.Piece (Elt Ideal) S264x512 .f32)]))
        (Rect.unit (s := S264x512) ![o, 0] ![256, 512] inb'') (ix2 i l)
      = if h : o + i.val < 8 then View.read (Elt Ideal) v old (ix2 ⟨o + i.val, by omega⟩ l) else w (ix2 ⟨o + i.val - 8, by omega⟩ l) := by
  show View.read (Elt Ideal) v _ ((Rect.unit (s := S264x512) ![o, 0] ![256, 512] inb'').emb (ix2 i l)) = _
  rw [idx_rows inb'' i l (by omega)]
  split
  case isTrue h =>
    rw [View.read_writes_cons_rows_of_not_mem _ _ _ _ _ _ rfl rfl (Or.inl h)]
    show View.read _ _ (View.writes _ _ _ []) _ = _
    rw [View.writes_nil]
  case isFalse h =>
    exact View.read_writes_cons_rows_of_mem _ _ inb _ _ _ (ix2 (⟨o + i.val - 8, by omega⟩ : Fin 256) l) rfl
      (show o + i.val = 8 + (o + i.val - 8) by omega) rfl

/-- The carried state read back after it is stored. -/
theorem load_state {κ : Kind} {sp : Space} (v : View sig κ sp S8x512 .f32) (w : Vec Ideal S8x512 .f32)
    (inb) (L : List (View.Piece (Elt Ideal) S8x512 .f32)) (inb'') (l : Fin 512) :
    v.readCov (Val := Elt Ideal) ((⟨Rect.unit (s := S8x512) ![0, 0] ![8, 512] inb, w⟩ : View.Piece (Elt Ideal) S8x512 .f32) :: L)
      (Rect.unit (s := S8x512) ![0, 0] ![1, 512] inb'').toLoadRect (ix2 0 l) = w (ix2 0 l) := by
  rw [View.readCov_eq_canon']
  have hi : (Rect.unit (s := S8x512) ![0, 0] ![1, 512] inb'').emb (ix2 0 l)
      = (Rect.unit (s := S8x512) ![0, 0] ![8, 512] inb).emb (ix2 0 l) := by
    funext a; apply Fin.ext; fin_cases a <;> simp [Rect.emb_apply]
  show View.canon _ ((Rect.unit (s := S8x512) ![0, 0] ![1, 512] inb'').emb (ix2 0 l)) = _
  rw [hi]
  exact View.canon_cons_emb _ _ _ _

/-- A load of the first row of the carried state. -/
theorem ld_state (y : Vec Ideal S8x512 .f32) (inb'') (l : Fin 512) :
    View.ld y (Rect.unit (s := S8x512) ![0, 0] ![1, 512] inb'') (ix2 0 l) = y (ix2 0 l) := by
  show y _ = y _
  congr 1; funext a; apply Fin.ext; fin_cases a
  · rfl
  · show 0 + 1 * l.val = l.val; omega

/-- The first eight rows left in the buffer are the last stored there. -/
theorem canon_head (w : Vec Ideal S8x512 .f32) (inb) (L : List (View.Piece (Elt Ideal) S264x512 .f32)) (r : Fin 8) (l : Fin 512) :
    View.canon (Val := Elt Ideal) ((⟨Rect.unit (s := S264x512) ![0, 0] ![8, 512] inb, w⟩ : View.Piece (Elt Ideal) S264x512 .f32) :: L)
      (ix2 ⟨r.val, by omega⟩ l) = w (ix2 r l) := by
  have hi : (ix2 ⟨r.val, by omega⟩ l : S264x512.Idx) = (Rect.unit (s := S264x512) ![0, 0] ![8, 512] inb).emb (ix2 r l) := by
    funext a; apply Fin.ext; fin_cases a <;> simp [Rect.emb_apply]
  rw [hi, View.canon_cons_emb]

/-- An output block stored as two halves, read back. -/
theorem canon_halves (p q : Vec Ideal S1x256x512 .bf16) (inb inb') (L : List (View.Piece (Elt Ideal) S1x512x512 .bf16))
    (r k : Fin 512) :
    View.canon (Val := Elt Ideal) ((⟨Rect.unit (s := S1x512x512) ![0, 256, 0] ![1, 256, 512] inb, q⟩ : View.Piece (Elt Ideal) S1x512x512 .bf16)
        :: ⟨Rect.unit (s := S1x512x512) ![0, 0, 0] ![1, 256, 512] inb', p⟩ :: L) (ix3 0 r k)
      = if h : r.val < 256 then p (ix3 0 ⟨r, h⟩ k) else q (ix3 0 ⟨r.val - 256, by omega⟩ k) := by
  by_cases h : r.val < 256
  · rw [dif_pos h, View.canon_cons_of_not_mem _ _ (by
      rw [Rect.mem_set_unit]
      intro hh
      have := (hh 1).1
      have h2 : (256 : ℕ) ≤ r.val := by simpa using this
      omega)]
    have hi : (ix3 0 r k : S1x512x512.Idx) = (Rect.unit (s := S1x512x512) ![0, 0, 0] ![1, 256, 512] inb').emb (ix3 0 ⟨r, h⟩ k) := by
      funext a; apply Fin.ext; fin_cases a <;> simp [Rect.emb_apply]
    rw [hi, View.canon_cons_emb]
  · rw [dif_neg h]
    have hi : (ix3 0 r k : S1x512x512.Idx) = (Rect.unit (s := S1x512x512) ![0, 256, 0] ![1, 256, 512] inb).emb (ix3 0 ⟨r.val - 256, by omega⟩ k) := by
      funext a; apply Fin.ext; fin_cases a <;> simp [Rect.emb_apply] <;> omega
    rw [hi, View.canon_cons_emb]

/-- A load of 1024 columns of the packed projection's weights. -/
theorem ld_pack (x : Vec Ideal S1x1024x3712 .bf16) (o : ℕ) (inb : ∀ a : Fin 3, ![0, 0, o] a + ![1, 1024, 1024] a ≤ S1x1024x3712.size a)
    (l k : Fin 1024) : View.ld x (Rect.unit (s := S1x1024x3712) ![0, 0, o] ![1, 1024, 1024] inb) (ix3 0 l k)
      = x (ix3 0 l ⟨o + k.val, by have h : o + 1024 ≤ 3712 := inb 2; omega⟩) := by
  show x _ = x _
  congr 1; funext a; apply Fin.ext; fin_cases a
  · rfl
  · show 0 + 1 * l.val = l.val; omega
  · show o + 1 * k.val = o + k.val; omega

/-- A load of one tap of the convolution's weights. -/
theorem ld_tap (x : Vec Ideal S1x4x512 .f32) (o : Fin 4) (inb : ∀ a : Fin 3, ![0, o.val, 0] a + ![1, 1, 512] a ≤ S1x4x512.size a)
    (k : Fin 512) : View.ld x (Rect.unit (s := S1x4x512) ![0, o.val, 0] ![1, 1, 512] inb) (ix3 0 0 k) = x (ix3 0 o k) := by
  show x _ = x _
  congr 1; funext a; apply Fin.ext; fin_cases a
  · rfl
  · show o.val + 1 * 0 = o.val; omega
  · show 0 + 1 * k.val = k.val; omega

end Cert.PremixScratch

end
-- ==== Proof.PremixTile.lean ====
/- One grid point of the input-projection call: from the entries of its blocks and of the rows it carries, the rows of
   the two halves of the tile are those of the recurrence. -/
module

public import proofs.«01_k».proof.Proof.PremixBody
public import proofs.«01_k».proof.Proof.PremixMath
public import proofs.«01_k».proof.Proof.PremixScan
public import proofs.«01_k».proof.Proof.PremixScratch

@[expose] public section
set_option maxRecDepth 16384

noncomputable section

namespace Cert.PremixTile
open Idealize.ShloMosaic Idealize.ShloMosaic.TcCoe Idealize.SL.Sem
open Cert.PremixIdeal Cert.PremixIdeal.Gen Cert.PremixBody Cert.PremixMath Cert.PremixScan

set_option maxHeartbeats 1000000

/-- The row index of a half tile. -/
abbrev iot : IVec S256x512 32 := iota .tc S256x512 32 [0] iota_S256x512_d0_w32

/-- A row against a matrix that is zero outside the heads' blocks: the sum over the head's own channels. -/
theorem block_sum (u : Fin 512 → EReal) (f : Fin 512 → EReal) (q : Fin 8) (g : Fin 64 → EReal)
    (hf : ∀ l : Fin 512, f l = if l.val / 64 = q.val then g ⟨l.val % 64, Nat.mod_lt _ (by norm_num)⟩ else 0) :
    ∑ l, u l * f l = ∑ l : Fin 64, g l * u ⟨q.val * 64 + l.val, by omega⟩ := by
  have e : ∑ l : Fin 512, u l * f l = ∑ p : Fin 8 × Fin 64, u (finProdFinEquiv p) * f (finProdFinEquiv p) :=
    (Equiv.sum_comp (finProdFinEquiv (m := 8) (n := 64)) fun l : Fin 512 => u l * f l).symm
  rw [e, Fintype.sum_prod_type, Finset.sum_eq_single q]
  · refine Finset.sum_congr rfl fun l _ => ?_
    have hv : (finProdFinEquiv (q, l) : Fin (8 * 64)) = (⟨q.val * 64 + l.val, by omega⟩ : Fin 512) :=
      Fin.ext (show l.val + 64 * q.val = q.val * 64 + l.val by omega)
    rw [hv, hf, if_pos (show (q.val * 64 + l.val) / 64 = q.val by omega), mul_comm]
    congr 2
    exact Fin.ext (show (q.val * 64 + l.val) % 64 = l.val by omega)
  · intro q' _ hq
    refine Finset.sum_eq_zero fun l _ => ?_
    have hv : (finProdFinEquiv (q', l) : Fin (8 * 64)) = (⟨q'.val * 64 + l.val, by omega⟩ : Fin 512) :=
      Fin.ext (show l.val + 64 * q'.val = q'.val * 64 + l.val by omega)
    rw [hv, hf, if_neg (show ¬ (q'.val * 64 + l.val) / 64 = q.val from fun h => hq (Fin.ext (by omega))), mul_zero]
  · intro h; exact absurd (Finset.mem_univ q) h

/-- A gate, from the entries of its matrix and bias. -/
theorem gate_of (wm : FVec Ideal S2x8x64x64 .f32) (bm : FVec Ideal S2x512 .f32) (x : Vec Ideal S1x512x512 .bf16)
    (hx : ∀ l k : Fin 512, x (ix3 0 l k) = if l.val / 64 = k.val / 64 then
      wm (ix4 0 ⟨l.val / 64, by omega⟩ ⟨l.val % 64, by omega⟩ ⟨k.val % 64, by omega⟩) else (0 : EReal))
    (u : Fin 512 → EReal) (k : Fin 512) :
    logistic ((∑ l, u l * x (ix3 0 l k)) + bm (ix2 0 k)) = gate wm bm u k := by
  unfold gate
  refine congrArg (fun z => logistic (z + (bm (ix2 0 k) : EReal))) (block_sum u (fun l => x (ix3 0 l k)) ⟨k.val / 64, by omega⟩
    (fun l => wm (ix4 0 ⟨k.val / 64, by omega⟩ l ⟨k.val % 64, by omega⟩)) fun l => ?_)
  show x (ix3 0 l k) = _
  rw [hx]
  by_cases h : l.val / 64 = k.val / 64
  · rw [if_pos h, if_pos h]
    have e : (⟨l.val / 64, by omega⟩ : Fin 8) = ⟨k.val / 64, by omega⟩ := Fin.ext h
    rw [e]
  · rw [if_neg h, if_neg h]

/-- What the recurrence's weight blocks hold. -/
structure Wts (A : Args) (w0 w1 w2 w3 x7 x9 x11 x12 : Vec Ideal S1x1x512 .f32) (x8 x10 : Vec Ideal S1x512x512 .bf16) : Prop where
  h0 : ∀ k, w0 (ix3 0 0 k) = A.wc (ix3 0 0 k)
  h1 : ∀ k, w1 (ix3 0 0 k) = A.wc (ix3 0 1 k)
  h2 : ∀ k, w2 (ix3 0 0 k) = A.wc (ix3 0 2 k)
  h3 : ∀ k, w3 (ix3 0 0 k) = A.wc (ix3 0 3 k)
  h7 : ∀ k, x7 (ix3 0 0 k) = A.bc (ix2 0 k)
  h8 : ∀ l k : Fin 512, x8 (ix3 0 l k) = if l.val / 64 = k.val / 64 then
      A.wa (ix4 0 ⟨l.val / 64, by omega⟩ ⟨l.val % 64, by omega⟩ ⟨k.val % 64, by omega⟩) else (0 : EReal)
  h9 : ∀ k, x9 (ix3 0 0 k) = A.ba (ix2 0 k)
  h10 : ∀ l k : Fin 512, x10 (ix3 0 l k) = if l.val / 64 = k.val / 64 then
      A.wx (ix4 0 ⟨l.val / 64, by omega⟩ ⟨l.val % 64, by omega⟩ ⟨k.val % 64, by omega⟩) else (0 : EReal)
  h11 : ∀ k, x11 (ix3 0 0 k) = A.bx (ix2 0 k)
  h12 : ∀ k, x12 (ix3 0 0 k) = A.lam (ix2 0 k)

/-- What the convolution's four loads hold. -/
structure Taps (A : Args) (b : Fin 2) (n : ℕ) (u0 u1 u2 u3 : Vec Ideal S256x512 .f32) : Prop where
  h0 : ∀ i k, u0 (ix2 i k) = ux A b (n + i.val) k
  h1 : ∀ i k, u1 (ix2 i k) = ux A b (1 + (n + i.val)) k
  h2 : ∀ i k, u2 (ix2 i k) = ux A b (2 + (n + i.val)) k
  h3 : ∀ i k, u3 (ix2 i k) = ux A b (3 + (n + i.val)) k

/-- The states of a half tile are those of the recurrence. -/
theorem half_states (A : Args) (b : Fin 2) (n : ℕ) (a s g x : FVec Ideal S256x512 .f32) (c : FVec Ideal S1x512 .f32)
    (ha : ∀ i k, a (ix2 i k) = aa A b (n + i.val) k)
    (hs : ∀ i k, s (ix2 i k) = Ideal.sqrt (1 - aa A b (n + i.val) k * aa A b (n + i.val) k))
    (hg : ∀ i k, g (ix2 i k) = gate A.wx A.bx (xr A b (n + i.val)) k) (hx : ∀ i k, x (ix2 i k) = xr A b (n + i.val) k)
    (hc : ∀ k, c (ix2 0 k) = hh A b k n) (i : Fin 256) (k : Fin 512) :
    states a (mulf s (mulf g x)) c (ix2 i k) = hh A b k (n + i.val + 1) := by
  refine states_at a _ c (fun j k => hh A b k (n + j)) (fun l => (hc l).symm) (fun i l => ?_) (fun i l => ?_) i k
  · show hh A b l (n + i.val + 1) = a (ix2 i l) * hh A b l (n + i.val) + (s (ix2 i l) * (g (ix2 i l) * x (ix2 i l)))
    rw [ha, hs, hg, hx]
    rfl
  · rw [ha]; exact aa_bounds A b _ l

/-- The four products and the bias, in the two orders. -/
theorem five (x a b c d : EReal) : x + a + b + c + d = a + b + c + d + x := by
  rw [add_comm (a + b + c + d) x]; simp only [add_assoc]

/-- The bits of one. -/
theorem one_bits : (Ideal.ofBits .f32 0x3F800000#32 : EReal) = 1 := by
  simp [Ideal.ofBits, Ideal.ieee]
  try norm_num [zpow_neg]
  try rw [← EReal.coe_mul]
  try norm_num

section halves

variable {A : Args} {b : Fin 2} {n : ℕ} {w0 w1 w2 w3 x7 x9 x11 x12 : Vec Ideal S1x1x512 .f32} {x8 x10 : Vec Ideal S1x512x512 .bf16}
  {u0 u1 u2 u3 : Vec Ideal S256x512 .f32} {c : Vec Ideal S1x512 .f32}
  (hW : Wts A w0 w1 w2 w3 x7 x9 x11 x12 x8 x10) (hU : Taps A b n u0 u1 u2 u3)
include hW hU

/-- The first half's convolved rows. -/
theorem conv1 (i : Fin 256) (k : Fin 512) :
    k0_pay13 (F := Ideal) (k0_pay12 x7) w0 u0 w1 u1 w2 u2 w3 u3 (ix2 i k) = xr A b (n + i.val) k := by
  rw [pay13_at, hW.h0, hW.h1, hW.h2, hW.h3, hW.h7, hU.h0, hU.h1, hU.h2, hU.h3]
  exact five _ _ _ _ _

/-- The second half's convolved rows. -/
theorem conv2 (i : Fin 256) (k : Fin 512) :
    k0_pay41 (F := Ideal) (k0_pay40 x7 w0 u0) w1 u1 w2 u2 w3 u3 (ix2 i k) = xr A b (n + i.val) k := by
  rw [pay41_at, hW.h0, hW.h1, hW.h2, hW.h3, hW.h7, hU.h0, hU.h1, hU.h2, hU.h3]
  exact five _ _ _ _ _

/-- The first half's decays. -/
theorem dec1 (i : Fin 256) (k : Fin 512) :
    k0_pay22 (F := Ideal) (k0_pay17 (k0_pay16 (k0_pay12 x7) w0 u0 w1 u1 w2 u2 w3 u3 x8) x9) (k0_pay20 x12) (k0_pay21 x12) (ix2 i k)
      = aa A b (n + i.val) k := by
  rw [pay22_at, pay17_at, hW.h9, hW.h12]
  simp only [conv1 hW hU]
  rw [gate_of A.wa A.ba x8 hW.h8]
  rfl

/-- The second half's decays. -/
theorem dec2 (i : Fin 256) (k : Fin 512) :
    k0_pay47 (F := Ideal) (k0_pay44 (k0_pay40 x7 w0 u0) w1 u1 w2 u2 w3 u3 x8 x9) k0_pay45 x12 (ix2 i k) = aa A b (n + i.val) k := by
  rw [pay47_at, hW.h9, hW.h12]
  simp only [conv2 hW hU]
  rw [gate_of A.wa A.ba x8 hW.h8]
  rfl

/-- The first half's input gates. -/
theorem gat1 (i : Fin 256) (k : Fin 512) :
    k0_pay18 (F := Ideal) (k0_pay15 (k0_pay12 x7) w0 u0 w1 u1 w2 u2 w3 u3) x10 x11 (ix2 i k) = gate A.wx A.bx (xr A b (n + i.val)) k := by
  have h : ∀ l, k0_pay15 (F := Ideal) (k0_pay12 x7) w0 u0 w1 u1 w2 u2 w3 u3 (ix2 i l) = xr A b (n + i.val) l := fun l =>
    conv1 hW hU i l
  rw [pay18_at, hW.h11]
  simp only [h]
  exact gate_of A.wx A.bx x10 hW.h10 _ _

/-- The second half's input gates. -/
theorem gat2 (i : Fin 256) (k : Fin 512) :
    k0_pay46 (F := Ideal) (k0_pay43 (k0_pay40 x7 w0 u0) w1 u1 w2 u2 w3 u3) x10 x11 (ix2 i k) = gate A.wx A.bx (xr A b (n + i.val)) k := by
  have h : ∀ l, k0_pay43 (F := Ideal) (k0_pay40 x7 w0 u0) w1 u1 w2 u2 w3 u3 (ix2 i l) = xr A b (n + i.val) l := fun l =>
    conv2 hW hU i l
  rw [pay46_at, hW.h11]
  simp only [h]
  exact gate_of A.wx A.bx x10 hW.h10 _ _

/-- The first half's states. -/
theorem half1 (hc : ∀ k, c (ix2 0 k) = hh A b k n) (i : Fin 256) (k : Fin 512) :
    k0_pay33 (F := Ideal) iot
      (k0_pay28 (k0_pay13 (k0_pay12 x7) w0 u0 w1 u1 w2 u2 w3 u3) (k0_pay17 (k0_pay16 (k0_pay12 x7) w0 u0 w1 u1 w2 u2 w3 u3 x8) x9)
        (k0_pay18 (k0_pay15 (k0_pay12 x7) w0 u0 w1 u1 w2 u2 w3 u3) x10 x11) (k0_pay20 x12) (k0_pay21 x12))
      (k0_pay29 (k0_pay17 (k0_pay16 (k0_pay12 x7) w0 u0 w1 u1 w2 u2 w3 u3 x8) x9) (k0_pay20 x12) (k0_pay21 x12))
      (k0_pay30 (k0_pay17 (k0_pay16 (k0_pay12 x7) w0 u0 w1 u1 w2 u2 w3 u3 x8) x9) (k0_pay20 x12) (k0_pay21 x12)) k0_pay31
      (k0_pay32 (k0_pay13 (k0_pay12 x7) w0 u0 w1 u1 w2 u2 w3 u3) (k0_pay17 (k0_pay16 (k0_pay12 x7) w0 u0 w1 u1 w2 u2 w3 u3 x8) x9)
        (k0_pay18 (k0_pay15 (k0_pay12 x7) w0 u0 w1 u1 w2 u2 w3 u3) x10 x11) (k0_pay20 x12) (k0_pay21 x12)) c (ix2 i k)
      = hh A b k (n + i.val + 1) := by
  rw [pay33_eq]
  refine half_states A b n _ _ _ _ c (dec1 hW hU) (fun i k => ?_) (gat1 hW hU) (conv1 hW hU) hc i k
  rw [← dec1 hW hU, ← one_bits]
  rfl

/-- The second half's states. -/
theorem half2 (hc : ∀ k, c (ix2 0 k) = hh A b k n) (i : Fin 256) (k : Fin 512) :
    k0_pay61 (F := Ideal) iot
      (k0_pay56 (k0_pay41 (k0_pay40 x7 w0 u0) w1 u1 w2 u2 w3 u3) (k0_pay46 (k0_pay43 (k0_pay40 x7 w0 u0) w1 u1 w2 u2 w3 u3) x10 x11)
        (k0_pay47 (k0_pay44 (k0_pay40 x7 w0 u0) w1 u1 w2 u2 w3 u3 x8 x9) k0_pay45 x12)
        (k0_pay48 (k0_pay44 (k0_pay40 x7 w0 u0) w1 u1 w2 u2 w3 u3 x8 x9) k0_pay45 x12))
      (k0_pay57 (k0_pay47 (k0_pay44 (k0_pay40 x7 w0 u0) w1 u1 w2 u2 w3 u3 x8 x9) k0_pay45 x12))
      (k0_pay58 (k0_pay47 (k0_pay44 (k0_pay40 x7 w0 u0) w1 u1 w2 u2 w3 u3 x8 x9) k0_pay45 x12)) k0_pay59
      (k0_pay60 (k0_pay41 (k0_pay40 x7 w0 u0) w1 u1 w2 u2 w3 u3) (k0_pay46 (k0_pay43 (k0_pay40 x7 w0 u0) w1 u1 w2 u2 w3 u3) x10 x11)
        (k0_pay47 (k0_pay44 (k0_pay40 x7 w0 u0) w1 u1 w2 u2 w3 u3 x8 x9) k0_pay45 x12)
        (k0_pay48 (k0_pay44 (k0_pay40 x7 w0 u0) w1 u1 w2 u2 w3 u3 x8 x9) k0_pay45 x12)) c (ix2 i k)
      = hh A b k (n + i.val + 1) := by
  rw [pay61_eq]
  refine half_states A b n _ _ _ _ c (dec2 hW hU) (fun i k => ?_) (gat2 hW hU) (conv2 hW hU) hc i k
  rw [← dec2 hW hU, ← one_bits]
  rfl

end halves

/-- The state the first half leaves: its last row. -/
theorem pay34_at (v153 : IVec S256x512 32) (v178 v180 v181 : FVec Ideal S256x512 .f32) (v184 : IVec S256x512 1) (v185 : FVec Ideal S256x512 .f32)
    (c : Vec Ideal S1x512 .f32) (k : Fin 512) :
    k0_pay34 (F := Ideal) v153 v178 v180 v181 v184 v185 c (ix2 0 k) = k0_pay33 (F := Ideal) v153 v178 v180 v181 v184 v185 c (ix2 255 k) := by
  unfold k0_pay34
  generalize k0_pay33 (F := Ideal) v153 v178 v180 v181 v184 v185 c = h
  pointwise []

/-- The state the second half leaves: its last row, in every row. -/
theorem pay62_at (v153 : IVec S256x512 32) (v178 v180 v181 : FVec Ideal S256x512 .f32) (v184 : IVec S256x512 1) (v185 : FVec Ideal S256x512 .f32)
    (c : Vec Ideal S1x512 .f32) (r : Fin 8) (k : Fin 512) :
    k0_pay62 (F := Ideal) v153 v178 v180 v181 v184 v185 c (ix2 r k) = k0_pay61 (F := Ideal) v153 v178 v180 v181 v184 v185 c (ix2 255 k) := by
  unfold k0_pay62
  generalize k0_pay61 (F := Ideal) v153 v178 v180 v181 v184 v185 c = h
  pointwise []

/-- The second half's store. -/
theorem pay64_at (g : FVec Ideal S256x512 .f32) (v153 : IVec S256x512 32) (v178 v180 v181 : FVec Ideal S256x512 .f32) (v184 : IVec S256x512 1) (v185 : FVec Ideal S256x512 .f32)
    (c : Vec Ideal S1x512 .f32) (i : Fin 256) (k : Fin 512) :
    k0_pay64 (F := Ideal) (k0_pay63 g v153 v178 v180 v181 v184 v185 c) (ix3 0 i k)
      = k0_pay61 (F := Ideal) v153 v178 v180 v181 v184 v185 c (ix2 i k) * g (ix2 i k) := by
  unfold k0_pay64 k0_pay63
  generalize k0_pay61 (F := Ideal) v153 v178 v180 v181 v184 v185 c = h
  pointwise []

/-- What the rows' blocks hold. -/
structure Rows (A : Args) (b : Fin 2) (n : ℕ) (x0 : Vec Ideal S1x512x1024 .f32) (x1 : Vec Ideal S1x1x1024 .f32)
    (x2 x3 : Vec Ideal S1x1x1x1x1024 .f32) : Prop where
  h0 : ∀ r l, x0 (ix3 0 r l) = A.x (ix3 b (rowOf (n + r.val)) l)
  h1 : ∀ l, x1 (ix3 0 0 l) = A.nm (ix2 0 l)
  h2 : ∀ l, x2 (ix5 0 0 0 0 l) = A.mod (ix5 0 b 1 0 l)
  h3 : ∀ l, x3 (ix5 0 0 0 0 l) = A.mod (ix5 0 b 0 0 l)

/-- The recurrence's projection, row by row. -/
theorem proj_at {A : Args} {b : Fin 2} {n : ℕ} {x0 : Vec Ideal S1x512x1024 .f32} {x1 : Vec Ideal S1x1x1024 .f32}
    {x2 x3 : Vec Ideal S1x1x1x1x1024 .f32} (hR : Rows A b n x0 x1 x2 x3) (w : Vec Ideal S1x1024x1024 .bf16)
    (hw : ∀ l (k : Fin 1024), w (ix3 0 l k) = A.w (ix3 0 l ⟨2328 + k.val, by omega⟩)) (r : Fin 512) (k : Fin 1024) :
    k0_pay8 (F := Ideal) (k0_pay5 x0 x1 x2 x3) w (ix2 r k) = proj A b (rowOf (n + r.val)) ⟨2328 + k.val, by omega⟩ := by
  rw [pay8_at]
  unfold proj
  refine Finset.sum_congr rfl fun l _ => ?_
  rw [pay5_at, hw]
  simp only [hR.h0, hR.h1, hR.h2, hR.h3]

/-- The gated linear unit, row by row. -/
theorem glu_at {A : Args} {b : Fin 2} {n : ℕ} {x0 : Vec Ideal S1x512x1024 .f32} {x1 : Vec Ideal S1x1x1024 .f32}
    {x2 x3 : Vec Ideal S1x1x1x1x1024 .f32} (hR : Rows A b n x0 x1 x2 x3) (w : Vec Ideal S1x1024x1024 .bf16)
    (hw : ∀ l (k : Fin 1024), w (ix3 0 l k) = A.w (ix3 0 l ⟨k.val, by omega⟩)) (r : Fin 512) (k : Fin 512) :
    k0_pay7 (F := Ideal) (k0_pay5 x0 x1 x2 x3) (k0_pay6 w) (ix3 0 r k) = vv A b (rowOf (n + r.val)) k := by
  rw [pay7_at]
  unfold vv proj
  simp only [pay5_at, hw, hR.h0, hR.h1, hR.h2, hR.h3]

end Cert.PremixTile
end
-- ==== Proof.PremixBlocks.lean ====
/- The blocks the input-projection call reads at a grid point, as entries of its arguments, and the four loads of the
   convolution as rows of the sequence. -/
module

public import proofs.«01_k».proof.Proof.PremixHost
public import proofs.«01_k».proof.Proof.PremixTile

@[expose] public section
set_option maxRecDepth 16384

noncomputable section

namespace Cert.PremixBlocks
open Idealize.ShloMosaic Idealize.ShloMosaic.TcCoe Idealize.SL.Sem
open Cert.PremixIdeal Cert.PremixIdeal.Gen Cert.PremixMath Cert.PremixTile Cert.PremixBody Cert.PremixScratch

variable (m : (ℓ : Loc nD τ sig) → Buf (Elt Ideal) ℓ) (c : Dev nD) (t : Fin cfg0.N)

set_option maxHeartbeats 1000000

/-- The call's arguments. -/
abbrev args : Args where
  x := m ((c : Thread nD τ).loc main_arg0)
  mod := m ((c : Thread nD τ).loc main_arg1)
  nm := m ((c : Thread nD τ).loc main_arg3)
  w := m ((c : Thread nD τ).loc main_arg4)
  wc := m ((c : Thread nD τ).loc main_arg5)
  bc := m ((c : Thread nD τ).loc main_arg6)
  wa := m ((c : Thread nD τ).loc main_arg7)
  ba := m ((c : Thread nD τ).loc main_arg8)
  wx := m ((c : Thread nD τ).loc main_arg9)
  bx := m ((c : Thread nD τ).loc main_arg10)
  lam := m ((c : Thread nD τ).loc main_arg11)

/-- The number of grid points. -/
theorem lt_points : t.val < 64 := lt_of_lt_of_eq t.isLt (by decide +kernel : grid0.N = 64)

/-- The sequence of a grid point. -/
abbrev sq : Fin 2 := ⟨t.val / 32, by have := lt_points t; omega⟩

/-- The first row of a grid point. -/
abbrev st : ℕ := 512 * (t.val % 32)

/-- The block each window reads or writes at a point. -/
theorem idx : ∀ t : Fin cfg0.N, win0_0.index t = ![t.val / 32, t.val % 32, 0] ∧ win0_1.index t = ![0, 0, 0]
    ∧ win0_2.index t = ![0, t.val / 32, 1, 0, 0] ∧ win0_3.index t = ![0, t.val / 32, 0, 0, 0]
    ∧ win0_4.index t = ![0, 0, 0] ∧ win0_6.index t = ![0, 0, 0] ∧ win0_7.index t = ![0, 0, 0]
    ∧ win0_8.index t = ![0, 0, 0] ∧ win0_9.index t = ![0, 0, 0] ∧ win0_10.index t = ![0, 0, 0] ∧ win0_11.index t = ![0, 0, 0]
    ∧ win0_12.index t = ![0, 0, 0] ∧ win0_13.index t = ![t.val / 32, t.val % 32, 0] ∧ win0_14.index t = ![t.val / 32, t.val % 32, 0] :=
  (by decide +kernel : ∀ t : Fin grid0.N, _)

/-- A row of a tile, in the sequence. -/
theorem rowOf_tile (r : Fin 512) : rowOf (st t + r.val) = ⟨512 * (t.val % 32) + r.val, by have := lt_points t; omega⟩ :=
  Fin.ext (Nat.mod_eq_of_lt (by have := lt_points t; have := r.isLt; show 512 * (t.val % 32) + r.val < 16384; omega))

/-- The norm's weights. -/
theorem nm_blk (k : Fin 1024) : iblk (F := Ideal) m c 1 t (ix3 0 0 k) = (m ((c : Thread nD τ).loc main_arg3) : FVec Ideal S2x1024 .f32) (ix2 0 k) := by
  have e : (V (F := Ideal) m c main_v36 : FVec Ideal S2x1x1024 .f32) (ix3 0 0 k) = (m ((c : Thread nD τ).loc main_arg3) : FVec Ideal S2x1024 .f32) (ix2 0 k) := by
    unfold V
    simp only [hostOps0, hostOps0_1, hostOps0_2, hostOps0_3, hostOps0_4, List.flatten_cons, List.flatten_nil, List.append_nil, List.cons_append, List.nil_append]
    after_results_simp
    pointwise []
  refine Eq.trans ?_ e
  generalize hv : (V (F := Ideal) m c main_v36 : FVec Ideal S2x1x1024 .f32) = v
  unfold iblk
  show ((cfg0.win 1).blk t).view.read (Elt Ideal) (V (F := Ideal) m c main_v36) (ix3 0 0 k) = _
  rw [hv]
  blk_point [idx t]

/-- The convolution's bias. -/
theorem bc_blk (k : Fin 512) : iblk (F := Ideal) m c 7 t (ix3 0 0 k) = (m ((c : Thread nD τ).loc main_arg6) : FVec Ideal S2x512 .f32) (ix2 0 k) := by
  have e : (V (F := Ideal) m c main_v37 : FVec Ideal S2x1x512 .f32) (ix3 0 0 k) = (m ((c : Thread nD τ).loc main_arg6) : FVec Ideal S2x512 .f32) (ix2 0 k) := by
    unfold V
    simp only [hostOps0, hostOps0_1, hostOps0_2, hostOps0_3, hostOps0_4, List.flatten_cons, List.flatten_nil, List.append_nil, List.cons_append, List.nil_append]
    after_results_simp
    pointwise []
  refine Eq.trans ?_ e
  generalize hv : (V (F := Ideal) m c main_v37 : FVec Ideal S2x1x512 .f32) = v
  unfold iblk
  show ((cfg0.win 7).blk t).view.read (Elt Ideal) (V (F := Ideal) m c main_v37) (ix3 0 0 k) = _
  rw [hv]
  blk_point [idx t]

/-- The decay gate's bias. -/
theorem ba_blk (k : Fin 512) : iblk (F := Ideal) m c 9 t (ix3 0 0 k) = (m ((c : Thread nD τ).loc main_arg8) : FVec Ideal S2x512 .f32) (ix2 0 k) := by
  have e : (V (F := Ideal) m c main_v45 : FVec Ideal S2x1x512 .f32) (ix3 0 0 k) = (m ((c : Thread nD τ).loc main_arg8) : FVec Ideal S2x512 .f32) (ix2 0 k) := by
    unfold V
    simp only [hostOps0, hostOps0_1, hostOps0_2, hostOps0_3, hostOps0_4, List.flatten_cons, List.flatten_nil, List.append_nil, List.cons_append, List.nil_append]
    after_results_simp
    pointwise []
  refine Eq.trans ?_ e
  generalize hv : (V (F := Ideal) m c main_v45 : FVec Ideal S2x1x512 .f32) = v
  unfold iblk
  show ((cfg0.win 9).blk t).view.read (Elt Ideal) (V (F := Ideal) m c main_v45) (ix3 0 0 k) = _
  rw [hv]
  blk_point [idx t]

/-- The input gate's bias. -/
theorem bx_blk (k : Fin 512) : iblk (F := Ideal) m c 11 t (ix3 0 0 k) = (m ((c : Thread nD τ).loc main_arg10) : FVec Ideal S2x512 .f32) (ix2 0 k) := by
  have e : (V (F := Ideal) m c main_v53 : FVec Ideal S2x1x512 .f32) (ix3 0 0 k) = (m ((c : Thread nD τ).loc main_arg10) : FVec Ideal S2x512 .f32) (ix2 0 k) := by
    unfold V
    simp only [hostOps0, hostOps0_1, hostOps0_2, hostOps0_3, hostOps0_4, List.flatten_cons, List.flatten_nil, List.append_nil, List.cons_append, List.nil_append]
    after_results_simp
    pointwise []
  refine Eq.trans ?_ e
  generalize hv : (V (F := Ideal) m c main_v53 : FVec Ideal S2x1x512 .f32) = v
  unfold iblk
  show ((cfg0.win 11).blk t).view.read (Elt Ideal) (V (F := Ideal) m c main_v53) (ix3 0 0 k) = _
  rw [hv]
  blk_point [idx t]

/-- The decay's parameter. -/
theorem lam_blk (k : Fin 512) : iblk (F := Ideal) m c 12 t (ix3 0 0 k) = (m ((c : Thread nD τ).loc main_arg11) : FVec Ideal S2x512 .f32) (ix2 0 k) := by
  have e : (V (F := Ideal) m c main_v54 : FVec Ideal S2x1x512 .f32) (ix3 0 0 k) = (m ((c : Thread nD τ).loc main_arg11) : FVec Ideal S2x512 .f32) (ix2 0 k) := by
    unfold V
    simp only [hostOps0, hostOps0_1, hostOps0_2, hostOps0_3, hostOps0_4, List.flatten_cons, List.flatten_nil, List.append_nil, List.cons_append, List.nil_append]
    after_results_simp
    pointwise []
  refine Eq.trans ?_ e
  generalize hv : (V (F := Ideal) m c main_v54 : FVec Ideal S2x1x512 .f32) = v
  unfold iblk
  show ((cfg0.win 12).blk t).view.read (Elt Ideal) (V (F := Ideal) m c main_v54) (ix3 0 0 k) = _
  rw [hv]
  blk_point [idx t]

/-- The rows' blocks. -/
theorem rows_of : Rows (args m c) (sq t) (st t) (iblk m c 0 t) (iblk m c 1 t) (iblk m c 2 t) (iblk m c 3 t) where
  h0 r l := by
    rw [rowOf_tile]
    blk_point [iblk, V, idx t]
  h1 l := nm_blk m c t l
  h2 l := by blk_point [iblk, V, idx t]
  h3 l := by blk_point [iblk, V, idx t]

/-- The packed weights' block is the whole array. -/
theorem pack_at (l : Fin 1024) (k : Fin 3712) :
    iblk (F := Ideal) m c 4 t (ix3 0 l k) = (V (F := Ideal) m c main_v35 : FVec Ideal S2x1024x3712 .bf16) (ix3 0 l k) := by
  generalize hv : (V (F := Ideal) m c main_v35 : FVec Ideal S2x1024x3712 .bf16) = v
  unfold iblk
  show ((cfg0.win 4).blk t).view.read (Elt Ideal) (V (F := Ideal) m c main_v35) (ix3 0 l k) = _
  rw [hv]
  blk_point [idx t]

/-- The weights of the gated linear unit. -/
theorem lo_of (inb) (l k : Fin 1024) :
    View.ld (iblk (F := Ideal) m c 4 t) (Rect.unit (s := S1x1024x3712) ![0, 0, 0] ![1, 1024, 1024] inb) (ix3 0 l k)
      = (args m c).w (ix3 0 l ⟨k.val, by omega⟩) := by
  refine (ld_pack (iblk (F := Ideal) m c 4 t) 0 inb l k).trans ?_
  refine (pack_at m c t l _).trans ?_
  refine Eq.trans ?_ (PremixHost.pack_lo m c l k)
  congr 2
  exact Fin.ext (Nat.zero_add _)

/-- The weights of the recurrence's projection. -/
theorem hi_of (inb) (l k : Fin 1024) :
    View.ld (iblk (F := Ideal) m c 4 t) (Rect.unit (s := S1x1024x3712) ![0, 0, 2688] ![1, 1024, 1024] inb) (ix3 0 l k)
      = (args m c).w (ix3 0 l ⟨2328 + k.val, by omega⟩) :=
  (ld_pack (iblk (F := Ideal) m c 4 t) 2688 inb l k).trans ((pack_at m c t l _).trans (PremixHost.pack_hi m c l k))

/-- The convolution's weights' block. -/
theorem wc_at (j : Fin 4) (k : Fin 512) : iblk (F := Ideal) m c 6 t (ix3 0 j k) = (args m c).wc (ix3 0 j k) := by
  blk_point [iblk, V, idx t]

/-- A gate matrix's block is the whole array. -/
theorem wa_blk (l k : Fin 512) :
    iblk (F := Ideal) m c 8 t (ix3 0 l k) = (V (F := Ideal) m c main_v44 : FVec Ideal S2x512x512 .bf16) (ix3 0 l k) := by
  generalize hv : (V (F := Ideal) m c main_v44 : FVec Ideal S2x512x512 .bf16) = v
  unfold iblk
  show ((cfg0.win 8).blk t).view.read (Elt Ideal) (V (F := Ideal) m c main_v44) (ix3 0 l k) = _
  rw [hv]
  blk_point [idx t]

/-- A gate matrix's block is the whole array. -/
theorem wx_blk (l k : Fin 512) :
    iblk (F := Ideal) m c 10 t (ix3 0 l k) = (V (F := Ideal) m c main_v52 : FVec Ideal S2x512x512 .bf16) (ix3 0 l k) := by
  generalize hv : (V (F := Ideal) m c main_v52 : FVec Ideal S2x512x512 .bf16) = v
  unfold iblk
  show ((cfg0.win 10).blk t).view.read (Elt Ideal) (V (F := Ideal) m c main_v52) (ix3 0 l k) = _
  rw [hv]
  blk_point [idx t]

/-- The recurrence's weight blocks. -/
theorem wts_of (i0 i1 i2 i3) : Wts (args m c)
    (View.ld (iblk (F := Ideal) m c 6 t) (Rect.unit (s := S1x4x512) ![0, 0, 0] ![1, 1, 512] i0))
    (View.ld (iblk (F := Ideal) m c 6 t) (Rect.unit (s := S1x4x512) ![0, 1, 0] ![1, 1, 512] i1))
    (View.ld (iblk (F := Ideal) m c 6 t) (Rect.unit (s := S1x4x512) ![0, 2, 0] ![1, 1, 512] i2))
    (View.ld (iblk (F := Ideal) m c 6 t) (Rect.unit (s := S1x4x512) ![0, 3, 0] ![1, 1, 512] i3))
    (iblk m c 7 t) (iblk m c 9 t) (iblk m c 11 t) (iblk m c 12 t) (iblk m c 8 t) (iblk m c 10 t) where
  h0 k := (ld_tap (iblk (F := Ideal) m c 6 t) 0 i0 k).trans (wc_at m c t 0 k)
  h1 k := (ld_tap (iblk (F := Ideal) m c 6 t) 1 i1 k).trans (wc_at m c t 1 k)
  h2 k := (ld_tap (iblk (F := Ideal) m c 6 t) 2 i2 k).trans (wc_at m c t 2 k)
  h3 k := (ld_tap (iblk (F := Ideal) m c 6 t) 3 i3 k).trans (wc_at m c t 3 k)
  h7 k := bc_blk m c t k
  h8 l k := (wa_blk m c t l k).trans (PremixHost.wa_at m c l k)
  h9 k := ba_blk m c t k
  h10 l k := (wx_blk m c t l k).trans (PremixHost.wx_at m c l k)
  h11 k := bx_blk m c t k
  h12 k := lam_blk m c t k

/-- The convolution's rows from the fourth on are the projection's. -/
theorem ux_shift (A : Args) (b : Fin 2) (n : ℕ) (k : Fin 512) (n' : ℕ) (hn : n' = n + 3) :
    ux A b n' k = proj A b (rowOf n) ⟨2328 + k.val, by omega⟩ := by
  unfold ux
  rw [hn, if_pos (show 3 ≤ n + 3 by omega), Nat.add_sub_cancel]

/-- A load of the convolution, from the eight rows ahead of a half tile and the half tile's own. -/
theorem tap_of (A : Args) (b : Fin 2) (n j : ℕ) (hj : j ≤ 3) (halo : Fin 8 → Fin 512 → EReal) (w : Fin 256 → Fin 512 → EReal)
    (hh' : ∀ (p : Fin 8) k, 5 ≤ p.val → halo p k = ux A b (n + (p.val - 5)) k) (hw : ∀ (i : Fin 256) k, w i k = ux A b (n + 3 + i.val) k)
    (i : Fin 256) (k : Fin 512) (z : EReal)
    (hz : z = if h : (5 + j) + i.val < 8 then halo ⟨(5 + j) + i.val, h⟩ k else w ⟨(5 + j) + i.val - 8, by omega⟩ k)
    (n' : ℕ) (hn : n' = j + (n + i.val)) : z = ux A b n' k := by
  rw [hz]
  split
  · rename_i h
    rw [hh' _ _ (show 5 ≤ (5 + j) + i.val by omega)]
    exact congrArg (fun q => ux A b q k) (by show n + ((5 + j) + i.val - 5) = n'; omega)
  · rename_i h
    rw [hw]
    exact congrArg (fun q => ux A b q k) (by show n + 3 + ((5 + j) + i.val - 8) = n'; omega)

end Cert.PremixBlocks
end
-- ==== Proof.PremixTaps.lean ====
/- The rows the convolution of the input-projection call reads at a grid point, in each half of its tile. -/
module

public import proofs.«01_k».proof.Proof.PremixBlocks

@[expose] public section
set_option maxRecDepth 16384

noncomputable section

namespace Cert.PremixTaps
open Idealize.ShloMosaic Idealize.ShloMosaic.TcCoe Idealize.SL.Sem Idealize.ShloMosaic.Tactic
open Cert.PremixIdeal Cert.PremixIdeal.Gen Cert.PremixRun Cert.PremixMath Cert.PremixTile Cert.PremixBody Cert.PremixScratch Cert.PremixBlocks

variable (m : (ℓ : Loc nD τ sig) → Buf (Elt Ideal) ℓ) (c : Dev nD) (t : Fin cfg0.N)

set_option maxHeartbeats 2000000

/-- The rows the recurrence reads at a point: its block of the projection. -/
abbrev lx (inb : ∀ a : Fin 3, ![0, 0, 2688] a + ![1, 1024, 1024] a ≤ S1x1024x3712.size a) : Vec Ideal S1x1024x1024 .bf16 :=
  View.ld (iblk (F := Ideal) m c 4 t) (Rect.unit (s := S1x1024x3712) ![0, 0, 2688] ![1, 1024, 1024] inb)

/-- The point's normalised rows. -/
abbrev nx : FVec Ideal S512x1024 .bf16 := k0_pay5 (F := Ideal) (iblk m c 0 t) (iblk m c 1 t) (iblk m c 2 t) (iblk m c 3 t)

/-- The store of the first half's own rows. -/
abbrev piece1 (inb : ∀ a : Fin 3, ![0, 0, 2688] a + ![1, 1024, 1024] a ≤ S1x1024x3712.size a) (j0 : ∀ a : Fin 2, ![8, 0] a + ![256, 512] a ≤ S264x512.size a) : View.Piece (Elt Ideal) S264x512 .f32 :=
  ⟨Rect.unit (s := S264x512) ![8, 0] ![256, 512] j0, k0_pay11 (F := Ideal) (nx m c t) (lx m c t inb)⟩

/-- The stores the first half of a sequence's first tile reads back. -/
abbrev pair1 (inb : ∀ a : Fin 3, ![0, 0, 2688] a + ![1, 1024, 1024] a ≤ S1x1024x3712.size a) (j0 : ∀ a : Fin 2, ![8, 0] a + ![256, 512] a ≤ S264x512.size a) (j1 : ∀ a : Fin 2, ![0, 0] a + ![8, 512] a ≤ S264x512.size a) (L : List (View.Piece (Elt Ideal) S264x512 .f32)) :
    List (View.Piece (Elt Ideal) S264x512 .f32) :=
  piece1 m c t inb j0 :: ⟨Rect.unit (s := S264x512) ![0, 0] ![8, 512] j1, k0_pay3 (F := Ideal)⟩ :: L

/-- The stores the second half reads back. -/
abbrev pair2 (inb : ∀ a : Fin 3, ![0, 0, 2688] a + ![1, 1024, 1024] a ≤ S1x1024x3712.size a) (j0 : ∀ a : Fin 2, ![8, 0] a + ![256, 512] a ≤ S264x512.size a) (j1 : ∀ a : Fin 2, ![0, 0] a + ![8, 512] a ≤ S264x512.size a)
    (L : List (View.Piece (Elt Ideal) S264x512 .f32)) : List (View.Piece (Elt Ideal) S264x512 .f32) :=
  ⟨Rect.unit (s := S264x512) ![8, 0] ![256, 512] j0, k0_pay39 (F := Ideal) (k0_pay8 (nx m c t) (lx m c t inb))⟩
    :: ⟨Rect.unit (s := S264x512) ![0, 0] ![8, 512] j1, k0_pay14 (F := Ideal) (k0_pay9 (nx m c t) (lx m c t inb))⟩ :: L

/-- The rows ahead of a sequence are zero. -/
theorem zeros (h : t.val % 32 = 0) (p : Fin 8) (k : Fin 512) (hp : 5 ≤ p.val) :
    k0_pay3 (F := Ideal) (ix2 p k) = ux (args m c) (sq t) (st t + (p.val - 5)) k := by
  unfold ux
  rw [if_neg (show ¬ 3 ≤ 512 * (t.val % 32) + (p.val - 5) by omega)]
  pointwise [k0_pay3]

/-- The half tile's own rows, first half. -/
theorem own1 (inb) (i : Fin 256) (k : Fin 512) :
    k0_pay11 (F := Ideal) (k0_pay5 (iblk m c 0 t) (iblk m c 1 t) (iblk m c 2 t) (iblk m c 3 t))
      (View.ld (iblk (F := Ideal) m c 4 t) (Rect.unit (s := S1x1024x3712) ![0, 0, 2688] ![1, 1024, 1024] inb)) (ix2 i k)
      = ux (args m c) (sq t) (st t + 3 + i.val) k := by
  rw [pay11_at, proj_at (rows_of m c t) _ (hi_of m c t inb)]
  exact (ux_shift _ _ (st t + i.val) k _ (by omega)).symm

/-- The half tile's own rows, second half. -/
theorem own2 (inb) (i : Fin 256) (k : Fin 512) :
    k0_pay39 (F := Ideal) (k0_pay8 (k0_pay5 (iblk m c 0 t) (iblk m c 1 t) (iblk m c 2 t) (iblk m c 3 t))
      (View.ld (iblk (F := Ideal) m c 4 t) (Rect.unit (s := S1x1024x3712) ![0, 0, 2688] ![1, 1024, 1024] inb))) (ix2 i k)
      = ux (args m c) (sq t) (st t + 256 + 3 + i.val) k := by
  rw [pay39_at, proj_at (rows_of m c t) _ (hi_of m c t inb)]
  exact (ux_shift _ _ (st t + (256 + i.val)) k _ (by omega)).symm

/-- The rows the first half hands to the second. -/
theorem mid (inb) (p : Fin 8) (k : Fin 512) (hp : 5 ≤ p.val) :
    k0_pay14 (F := Ideal) (k0_pay9 (k0_pay5 (iblk m c 0 t) (iblk m c 1 t) (iblk m c 2 t) (iblk m c 3 t))
      (View.ld (iblk (F := Ideal) m c 4 t) (Rect.unit (s := S1x1024x3712) ![0, 0, 2688] ![1, 1024, 1024] inb))) (ix2 p k)
      = ux (args m c) (sq t) (st t + 256 + (p.val - 5)) k := by
  rw [pay14_at, proj_at (rows_of m c t) _ (hi_of m c t inb)]
  exact (ux_shift _ _ (st t + (248 + p.val)) k _ (by omega)).symm

/-- The rows the tile hands to the next one. -/
theorem last (inb) (p : Fin 8) (k : Fin 512) (hp : 5 ≤ p.val) :
    k0_pay42 (F := Ideal) (k0_pay37 (k0_pay8 (k0_pay5 (iblk m c 0 t) (iblk m c 1 t) (iblk m c 2 t) (iblk m c 3 t))
      (View.ld (iblk (F := Ideal) m c 4 t) (Rect.unit (s := S1x1024x3712) ![0, 0, 2688] ![1, 1024, 1024] inb)))) (ix2 p k)
      = ux (args m c) (sq t) (st t + 512 + (p.val - 5)) k := by
  rw [pay42_at, proj_at (rows_of m c t) _ (hi_of m c t inb)]
  exact (ux_shift _ _ (st t + (504 + p.val)) k _ (by omega)).symm

/-- The loads of the second half. -/
theorem taps2 {κ : Kind} {sp : Space} (v : View sig κ sp S264x512 .f32) (inb j0 j1 i0 i1 i2 i3) (L : List (View.Piece (Elt Ideal) S264x512 .f32)) :
    Taps (args m c) (sq t) (st t + 256)
      (v.readCov (Val := Elt Ideal) (pair2 m c t inb j0 j1 L) (Rect.unit (s := S264x512) ![5, 0] ![256, 512] i0).toLoadRect)
      (v.readCov (Val := Elt Ideal) (pair2 m c t inb j0 j1 L) (Rect.unit (s := S264x512) ![6, 0] ![256, 512] i1).toLoadRect)
      (v.readCov (Val := Elt Ideal) (pair2 m c t inb j0 j1 L) (Rect.unit (s := S264x512) ![7, 0] ![256, 512] i2).toLoadRect)
      (v.readCov (Val := Elt Ideal) (pair2 m c t inb j0 j1 L) (Rect.unit (s := S264x512) ![8, 0] ![256, 512] i3).toLoadRect) where
  h0 i k := tap_of (args m c) (sq t) (st t + 256) 0 (by omega) (fun p k => k0_pay14 (F := Ideal) _ (ix2 p k)) (fun i k => k0_pay39 (F := Ideal) _ (ix2 i k))
    (mid m c t inb) (own2 m c t inb) i k _ (load_pair v _ _ j0 j1 L 5 (by omega) i0 i k) _ (by omega)
  h1 i k := tap_of (args m c) (sq t) (st t + 256) 1 (by omega) (fun p k => k0_pay14 (F := Ideal) _ (ix2 p k)) (fun i k => k0_pay39 (F := Ideal) _ (ix2 i k))
    (mid m c t inb) (own2 m c t inb) i k _ (load_pair v _ _ j0 j1 L 6 (by omega) i1 i k) _ (by omega)
  h2 i k := tap_of (args m c) (sq t) (st t + 256) 2 (by omega) (fun p k => k0_pay14 (F := Ideal) _ (ix2 p k)) (fun i k => k0_pay39 (F := Ideal) _ (ix2 i k))
    (mid m c t inb) (own2 m c t inb) i k _ (load_pair v _ _ j0 j1 L 7 (by omega) i2 i k) _ (by omega)
  h3 i k := tap_of (args m c) (sq t) (st t + 256) 3 (by omega) (fun p k => k0_pay14 (F := Ideal) _ (ix2 p k)) (fun i k => k0_pay39 (F := Ideal) _ (ix2 i k))
    (mid m c t inb) (own2 m c t inb) i k _ (load_pair v _ _ j0 j1 L 8 (by omega) i3 i k) _ (by omega)

/-- The loads of the first half, when eight zero rows are laid ahead of it. -/
theorem taps1 (h : t.val % 32 = 0) {κ : Kind} {sp : Space} (v : View sig κ sp S264x512 .f32) (inb j0 j1 i0 i1 i2 i3) (L : List (View.Piece (Elt Ideal) S264x512 .f32)) :
    Taps (args m c) (sq t) (st t)
      (v.readCov (Val := Elt Ideal) (pair1 m c t inb j0 j1 L) (Rect.unit (s := S264x512) ![5, 0] ![256, 512] i0).toLoadRect)
      (v.readCov (Val := Elt Ideal) (pair1 m c t inb j0 j1 L) (Rect.unit (s := S264x512) ![6, 0] ![256, 512] i1).toLoadRect)
      (v.readCov (Val := Elt Ideal) (pair1 m c t inb j0 j1 L) (Rect.unit (s := S264x512) ![7, 0] ![256, 512] i2).toLoadRect)
      (v.readCov (Val := Elt Ideal) (pair1 m c t inb j0 j1 L) (Rect.unit (s := S264x512) ![8, 0] ![256, 512] i3).toLoadRect) where
  h0 i k := tap_of (args m c) (sq t) (st t) 0 (by omega) (fun p k => k0_pay3 (F := Ideal) (ix2 p k)) (fun i k => k0_pay11 (F := Ideal) _ _ (ix2 i k))
    (zeros m c t h) (own1 m c t inb) i k _ (load_pair v _ _ j0 j1 L 5 (by omega) i0 i k) _ (by omega)
  h1 i k := tap_of (args m c) (sq t) (st t) 1 (by omega) (fun p k => k0_pay3 (F := Ideal) (ix2 p k)) (fun i k => k0_pay11 (F := Ideal) _ _ (ix2 i k))
    (zeros m c t h) (own1 m c t inb) i k _ (load_pair v _ _ j0 j1 L 6 (by omega) i1 i k) _ (by omega)
  h2 i k := tap_of (args m c) (sq t) (st t) 2 (by omega) (fun p k => k0_pay3 (F := Ideal) (ix2 p k)) (fun i k => k0_pay11 (F := Ideal) _ _ (ix2 i k))
    (zeros m c t h) (own1 m c t inb) i k _ (load_pair v _ _ j0 j1 L 7 (by omega) i2 i k) _ (by omega)
  h3 i k := tap_of (args m c) (sq t) (st t) 3 (by omega) (fun p k => k0_pay3 (F := Ideal) (ix2 p k)) (fun i k => k0_pay11 (F := Ideal) _ _ (ix2 i k))
    (zeros m c t h) (own1 m c t inb) i k _ (load_pair v _ _ j0 j1 L 8 (by omega) i3 i k) _ (by omega)

/-- The loads of the first half, behind rows carried over. -/
theorem taps1' {κ : Kind} {sp : Space} (v : View sig κ sp S264x512 .f32) (old : v.ty.Contents (Elt Ideal))
    (hold : ∀ (p : Fin 8) (k : Fin 512), 5 ≤ p.val → View.read (Elt Ideal) v old (ix2 ⟨p.val, by omega⟩ k) = ux (args m c) (sq t) (st t + (p.val - 5)) k)
    (inb j0 i0 i1 i2 i3) (L : List (View.Piece (Elt Ideal) S264x512 .f32)) :
    Taps (args m c) (sq t) (st t)
      (View.ld (View.read (Elt Ideal) v (v.writes (Elt Ideal) old [piece1 m c t inb j0])) (Rect.unit (s := S264x512) ![5, 0] ![256, 512] i0))
      (View.ld (View.read (Elt Ideal) v (v.writes (Elt Ideal) old [piece1 m c t inb j0])) (Rect.unit (s := S264x512) ![6, 0] ![256, 512] i1))
      (View.ld (View.read (Elt Ideal) v (v.writes (Elt Ideal) old [piece1 m c t inb j0])) (Rect.unit (s := S264x512) ![7, 0] ![256, 512] i2))
      (v.readCov (Val := Elt Ideal) (piece1 m c t inb j0 :: L) (Rect.unit (s := S264x512) ![8, 0] ![256, 512] i3).toLoadRect) where
  h0 i k := tap_of (args m c) (sq t) (st t) 0 (by omega) (fun p k => View.read (Elt Ideal) v old (ix2 ⟨p.val, by omega⟩ k)) (fun i k => k0_pay11 (F := Ideal) _ _ (ix2 i k))
    hold (own1 m c t inb) i k _ (load_carried v old _ j0 5 (by omega) i0 i k) _ (by omega)
  h1 i k := tap_of (args m c) (sq t) (st t) 1 (by omega) (fun p k => View.read (Elt Ideal) v old (ix2 ⟨p.val, by omega⟩ k)) (fun i k => k0_pay11 (F := Ideal) _ _ (ix2 i k))
    hold (own1 m c t inb) i k _ (load_carried v old _ j0 6 (by omega) i1 i k) _ (by omega)
  h2 i k := tap_of (args m c) (sq t) (st t) 2 (by omega) (fun p k => View.read (Elt Ideal) v old (ix2 ⟨p.val, by omega⟩ k)) (fun i k => k0_pay11 (F := Ideal) _ _ (ix2 i k))
    hold (own1 m c t inb) i k _ (load_carried v old _ j0 7 (by omega) i2 i k) _ (by omega)
  h3 i k := (load_own v _ j0 L i3 i k).trans ((own1 m c t inb i k).trans (congrArg (fun q => ux (args m c) (sq t) q k) (by omega)))

end Cert.PremixTaps
end
-- ==== Proof.PremixFirst.lean ====
/- What the input-projection call leaves at the first tile of a sequence. -/
module

public import proofs.«01_k».proof.Proof.PremixTaps

@[expose] public section
set_option maxRecDepth 16384

noncomputable section

namespace Cert.PremixFirst
open Idealize.ShloMosaic Idealize.ShloMosaic.TcCoe Idealize.SL.Sem Idealize.ShloMosaic.Tactic
open Cert.PremixIdeal Cert.PremixIdeal.Gen Cert.PremixRun Cert.PremixMath Cert.PremixTile Cert.PremixBody Cert.PremixScratch Cert.PremixBlocks Cert.PremixTaps

variable (m : (ℓ : Loc nD τ sig) → Buf (Elt Ideal) ℓ) (c : Dev nD) (t : Fin cfg0.N)

set_option maxHeartbeats 2000000

/-- The state ahead of a sequence is zero. -/
theorem start (h : t.val % 32 = 0) {κ : Kind} {sp : Space} (v : View sig κ sp S8x512 .f32) (i0 i1) (L : List (View.Piece (Elt Ideal) S8x512 .f32)) (k : Fin 512) :
    v.readCov (Val := Elt Ideal) ((⟨Rect.unit (s := S8x512) ![0, 0] ![8, 512] i0, k0_pay4 (F := Ideal)⟩ : View.Piece (Elt Ideal) S8x512 .f32) :: L)
      (Rect.unit (s := S8x512) ![0, 0] ![1, 512] i1).toLoadRect (ix2 0 k) = hh (args m c) (sq t) k (st t) := by
  rw [load_state, show st t = 0 by show 512 * (t.val % 32) = 0; omega]
  unfold hh
  pointwise [k0_pay4]

/-- The gated linear unit's block. -/
theorem out13 (h : t.val % 32 = 0) (r k : Fin 512) : (leftA m c t h).1 (ix3 0 r k) = vv (args m c) (sq t) (rowOf (st t + r.val)) k := by
  dsimp only [leftA, runA]
  frame_out
  exact glu_at (rows_of m c t) _ (lo_of m c t _) r k

/-- The rows handed to the next tile. -/
theorem halo (h : t.val % 32 = 0) (p : Fin 8) (k : Fin 512) (hp : 5 ≤ p.val) :
    (leftA m c t h).2.2.2.2.2.2.2.2.2.1 (ix2 ⟨p.val, by omega⟩ k) = ux (args m c) (sq t) (st t + 512 + (p.val - 5)) k := by
  dsimp only [leftA, runA]
  frame_out
  exact (canon_head _ _ _ p k).trans (last m c t _ p k hp)

/-- The state handed to the next tile. -/
theorem state (h : t.val % 32 = 0) (k : Fin 512) :
    (leftA m c t h).2.2.2.2.2.2.2.2.2.2 (ix2 0 k) = hh (args m c) (sq t) k (st t + 512) := by
  dsimp only [leftA, runA]
  frame_out
  refine (pay62_at _ _ _ _ _ _ _ _ k).trans ?_
  refine (half2 (wts_of m c t _ _ _ _) (taps2 m c t _ _ _ _ _ _ _ _ _) (fun k => ?_) 255 k).trans ?_
  · refine (load_state _ _ _ _ _ k).trans ((pay35_at _ 0 k).trans ((pay34_at _ _ _ _ _ _ _ k).trans ?_))
    exact half1 (wts_of m c t _ _ _ _) (taps1 m c t h _ _ _ _ _ _ _ _ _) (start m c t h _ _ _ _) _ _
  · rfl

/-- The recurrence's block. -/
theorem out14 (h : t.val % 32 = 0) (r k : Fin 512) : (leftA m c t h).2.1 (ix3 0 r k) = yy (args m c) (sq t) (rowOf (st t + r.val)) k := by
  have hr : (rowOf (st t + r.val)).val = st t + r.val := congrArg Fin.val (rowOf_tile t r)
  unfold yy
  rw [hr]
  dsimp only [leftA, runA]
  frame_out
  refine (canon_halves _ _ _ _ _ r k).trans ?_
  split
  · rename_i hlt
    refine (pay36_at _ _ ⟨r.val, hlt⟩ k).trans (congrArg₂ (fun x y : EReal => x * y) ?_ ?_)
    · exact half1 (wts_of m c t _ _ _ _) (taps1 m c t h _ _ _ _ _ _ _ _ _) (start m c t h _ _ _ _) _ _
    · rw [pay10_at, proj_at (rows_of m c t) _ (hi_of m c t _)]
      exact congrArg (fun q => gelu (proj (args m c) (sq t) (rowOf (st t + r.val)) q)) (Fin.ext (show 2328 + (512 + k.val) = 2840 + k.val by omega))
  · rename_i hlt
    refine (pay64_at _ _ _ _ _ _ _ _ ⟨r.val - 256, by omega⟩ k).trans (congrArg₂ (fun x y : EReal => x * y) ?_ ?_)
    · refine (half2 (wts_of m c t _ _ _ _) (taps2 m c t _ _ _ _ _ _ _ _ _) (fun k => ?_) _ k).trans ?_
      · refine (load_state _ _ _ _ _ k).trans ((pay35_at _ 0 k).trans ((pay34_at _ _ _ _ _ _ _ k).trans ?_))
        exact half1 (wts_of m c t _ _ _ _) (taps1 m c t h _ _ _ _ _ _ _ _ _) (start m c t h _ _ _ _) _ _
      · exact congrArg (hh (args m c) (sq t) k) (show st t + 256 + (r.val - 256) + 1 = st t + r.val + 1 by omega)
    · rw [pay38_at, proj_at (rows_of m c t) _ (hi_of m c t _)]
      exact congrArg₂ (fun n q => gelu (proj (args m c) (sq t) (rowOf n) q)) (show st t + (256 + (r.val - 256)) = st t + r.val by omega)
        (Fin.ext (show 2328 + (512 + k.val) = 2840 + k.val by omega))

end Cert.PremixFirst
end
-- ==== Proof.PremixNext.lean ====
/- What the input-projection call leaves at a later tile of a sequence, from what the tile before it left. -/
module

public import proofs.«01_k».proof.Proof.PremixTaps

@[expose] public section
set_option maxRecDepth 16384

noncomputable section

namespace Cert.PremixNext
open Idealize.ShloMosaic Idealize.ShloMosaic.TcCoe Idealize.SL.Sem Idealize.ShloMosaic.Tactic
open Cert.PremixIdeal Cert.PremixIdeal.Gen Cert.PremixRun Cert.PremixMath Cert.PremixTile Cert.PremixBody Cert.PremixScratch Cert.PremixBlocks Cert.PremixTaps

variable (m : (ℓ : Loc nD τ sig) → Buf (Elt Ideal) ℓ) (c : Dev nD) (t : Fin cfg0.N)

set_option maxHeartbeats 2000000

/-- The gated linear unit's block. -/
theorem out13 (h : ¬t.val % 32 = 0) (x : Vec Ideal S264x512 .f32) (y : Vec Ideal S8x512 .f32)
    (hx : ∀ (p : Fin 8) (k : Fin 512), 5 ≤ p.val → x (ix2 ⟨p.val, by omega⟩ k) = ux (args m c) (sq t) (st t + (p.val - 5)) k)
    (hy : ∀ k : Fin 512, y (ix2 0 k) = hh (args m c) (sq t) k (st t)) (r k : Fin 512) : (leftB m c t h x y).1 (ix3 0 r k) = vv (args m c) (sq t) (rowOf (st t + r.val)) k := by
  dsimp only [leftB, runB]
  frame_out
  exact glu_at (rows_of m c t) _ (lo_of m c t _) r k

/-- The rows handed to the next tile. -/
theorem halo (h : ¬t.val % 32 = 0) (x : Vec Ideal S264x512 .f32) (y : Vec Ideal S8x512 .f32)
    (hx : ∀ (p : Fin 8) (k : Fin 512), 5 ≤ p.val → x (ix2 ⟨p.val, by omega⟩ k) = ux (args m c) (sq t) (st t + (p.val - 5)) k)
    (hy : ∀ k : Fin 512, y (ix2 0 k) = hh (args m c) (sq t) k (st t)) (p : Fin 8) (k : Fin 512) (hp : 5 ≤ p.val) :
    (leftB m c t h x y).2.2.2.2.2.2.2.2.2.1 (ix2 ⟨p.val, by omega⟩ k) = ux (args m c) (sq t) (st t + 512 + (p.val - 5)) k := by
  dsimp only [leftB, runB]
  frame_out
  exact (canon_head _ _ _ p k).trans (last m c t _ p k hp)

/-- The state handed to the next tile. -/
theorem state (h : ¬t.val % 32 = 0) (x : Vec Ideal S264x512 .f32) (y : Vec Ideal S8x512 .f32)
    (hx : ∀ (p : Fin 8) (k : Fin 512), 5 ≤ p.val → x (ix2 ⟨p.val, by omega⟩ k) = ux (args m c) (sq t) (st t + (p.val - 5)) k)
    (hy : ∀ k : Fin 512, y (ix2 0 k) = hh (args m c) (sq t) k (st t)) (k : Fin 512) :
    (leftB m c t h x y).2.2.2.2.2.2.2.2.2.2 (ix2 0 k) = hh (args m c) (sq t) k (st t + 512) := by
  dsimp only [leftB, runB]
  frame_out
  refine (pay62_at _ _ _ _ _ _ _ _ k).trans ?_
  refine (half2 (wts_of m c t _ _ _ _) (taps2 m c t _ _ _ _ _ _ _ _ _) (fun k => ?_) 255 k).trans ?_
  · refine (load_state _ _ _ _ _ k).trans ((pay35_at _ 0 k).trans ((pay34_at _ _ _ _ _ _ _ k).trans ?_))
    refine half1 (wts_of m c t _ _ _ _) (taps1' m c t _ _ ?_ _ _ _ _ _ _ _) (fun k => ?_) _ _
    · intro p k hp; rw [read_unread_whole]; exact hx p k hp
    · rw [read_unread_whole]; exact (ld_state y _ k).trans (hy k)
  · rfl

/-- The recurrence's block. -/
theorem out14 (h : ¬t.val % 32 = 0) (x : Vec Ideal S264x512 .f32) (y : Vec Ideal S8x512 .f32)
    (hx : ∀ (p : Fin 8) (k : Fin 512), 5 ≤ p.val → x (ix2 ⟨p.val, by omega⟩ k) = ux (args m c) (sq t) (st t + (p.val - 5)) k)
    (hy : ∀ k : Fin 512, y (ix2 0 k) = hh (args m c) (sq t) k (st t)) (r k : Fin 512) : (leftB m c t h x y).2.1 (ix3 0 r k) = yy (args m c) (sq t) (rowOf (st t + r.val)) k := by
  have hr : (rowOf (st t + r.val)).val = st t + r.val := congrArg Fin.val (rowOf_tile t r)
  unfold yy
  rw [hr]
  dsimp only [leftB, runB]
  frame_out
  refine (canon_halves _ _ _ _ _ r k).trans ?_
  split
  · rename_i hlt
    refine (pay36_at _ _ ⟨r.val, hlt⟩ k).trans (congrArg₂ (fun x y : EReal => x * y) ?_ ?_)
    · refine half1 (wts_of m c t _ _ _ _) (taps1' m c t _ _ ?_ _ _ _ _ _ _ _) (fun k => ?_) _ _
      · intro p k hp; rw [read_unread_whole]; exact hx p k hp
      · rw [read_unread_whole]; exact (ld_state y _ k).trans (hy k)
    · rw [pay10_at, proj_at (rows_of m c t) _ (hi_of m c t _)]
      exact congrArg (fun q => gelu (proj (args m c) (sq t) (rowOf (st t + r.val)) q)) (Fin.ext (show 2328 + (512 + k.val) = 2840 + k.val by omega))
  · rename_i hlt
    refine (pay64_at _ _ _ _ _ _ _ _ ⟨r.val - 256, by omega⟩ k).trans (congrArg₂ (fun x y : EReal => x * y) ?_ ?_)
    · refine (half2 (wts_of m c t _ _ _ _) (taps2 m c t _ _ _ _ _ _ _ _ _) (fun k => ?_) _ k).trans ?_
      · refine (load_state _ _ _ _ _ k).trans ((pay35_at _ 0 k).trans ((pay34_at _ _ _ _ _ _ _ k).trans ?_))
        refine half1 (wts_of m c t _ _ _ _) (taps1' m c t _ _ ?_ _ _ _ _ _ _ _) (fun k => ?_) _ _
        · intro p k hp; rw [read_unread_whole]; exact hx p k hp
        · rw [read_unread_whole]; exact (ld_state y _ k).trans (hy k)
      · exact congrArg (hh (args m c) (sq t) k) (show st t + 256 + (r.val - 256) + 1 = st t + r.val + 1 by omega)
    · rw [pay38_at, proj_at (rows_of m c t) _ (hi_of m c t _)]
      exact congrArg₂ (fun n q => gelu (proj (args m c) (sq t) (rowOf n) q)) (show st t + (256 + (r.val - 256)) = st t + r.val by omega)
        (Fin.ext (show 2328 + (512 + k.val) = 2840 + k.val by omega))

end Cert.PremixNext
end
-- ==== Proof.PremixValue.lean ====
/- The two arrays the input-projection call ends with: by induction over the grid points, the rows and the state a tile hands
   to the next are the sequence's, so every block is the closed form's. -/
module

public import proofs.«01_k».proof.Proof.PremixFirst
public import proofs.«01_k».proof.Proof.PremixNext

@[expose] public section
set_option maxRecDepth 16384

noncomputable section

namespace Cert.PremixValue
open Idealize.ShloMosaic Idealize.ShloMosaic.TcCoe Idealize.SL.Sem Idealize.ShloMosaic.Tactic
open Cert.PremixIdeal Cert.PremixIdeal.Gen Cert.PremixRun Cert.PremixMath Cert.PremixBlocks

variable (m : (ℓ : Loc nD τ sig) → Buf (Elt Ideal) ℓ) (ρ : Dev nD → PrngReg) (c : Dev nD)

set_option maxHeartbeats 2000000

/-- What a tile hands to the next one: the convolution's last rows and the recurrence's state. -/
theorem handed : ∀ (n : ℕ) (hn : n < cfg0.N),
    (∀ (p : Fin 8) (k : Fin 512), 5 ≤ p.val → (left m c n hn).2.2.2.2.2.2.2.2.2.1 (ix2 ⟨p.val, by omega⟩ k)
      = ux (args m c) (sq ⟨n, hn⟩) (st ⟨n, hn⟩ + 512 + (p.val - 5)) k)
    ∧ ∀ k : Fin 512, (left m c n hn).2.2.2.2.2.2.2.2.2.2 (ix2 0 k) = hh (args m c) (sq ⟨n, hn⟩) k (st ⟨n, hn⟩ + 512) := by
  intro n
  induction n with
  | zero =>
    intro hn
    have e := left_A m c ⟨0, hn⟩ (Nat.zero_mod _)
    dsimp only at e
    rw [e]
    exact ⟨PremixFirst.halo m c ⟨0, hn⟩ (Nat.zero_mod _), PremixFirst.state m c ⟨0, hn⟩ (Nat.zero_mod _)⟩
  | succ n ih =>
    intro hn
    by_cases h : (n + 1) % 32 = 0
    · have e := left_A m c ⟨n + 1, hn⟩ h
      dsimp only at e
      rw [e]
      exact ⟨PremixFirst.halo m c ⟨n + 1, hn⟩ h, PremixFirst.state m c ⟨n + 1, hn⟩ h⟩
    · have hn' : n < cfg0.N := Nat.lt_of_succ_lt hn
      have hs : (PremixBlocks.sq ⟨n, hn'⟩) = PremixBlocks.sq ⟨n + 1, hn⟩ := Fin.ext (show n / 32 = (n + 1) / 32 by omega)
      have ht : st ⟨n, hn'⟩ + 512 = st ⟨n + 1, hn⟩ := show 512 * (n % 32) + 512 = 512 * ((n + 1) % 32) by omega
      have i := ih hn'
      rw [hs, ht] at i
      have e := left_B m c ⟨n + 1, hn⟩ h
      dsimp only [Nat.add_sub_cancel] at e
      rw [e]
      exact ⟨PremixNext.halo m c ⟨n + 1, hn⟩ h _ _ i.1 i.2, PremixNext.state m c ⟨n + 1, hn⟩ h _ _ i.1 i.2⟩

/-- What a later tile finds of the tile before it. -/
theorem found (t : Fin cfg0.N) (h : ¬t.val % 32 = 0) :
    (∀ (p : Fin 8) (k : Fin 512), 5 ≤ p.val →
      (left m c (t.val - 1) (Nat.lt_of_le_of_lt (Nat.sub_le _ _) t.isLt)).2.2.2.2.2.2.2.2.2.1 (ix2 ⟨p.val, by omega⟩ k)
      = ux (args m c) (sq t) (st t + (p.val - 5)) k)
    ∧ ∀ k : Fin 512, (left m c (t.val - 1) (Nat.lt_of_le_of_lt (Nat.sub_le _ _) t.isLt)).2.2.2.2.2.2.2.2.2.2 (ix2 0 k)
      = hh (args m c) (sq t) k (st t) := by
  have hl : t.val - 1 < cfg0.N := Nat.lt_of_le_of_lt (Nat.sub_le _ _) t.isLt
  have hs : (PremixBlocks.sq ⟨t.val - 1, hl⟩) = PremixBlocks.sq t := Fin.ext (show (t.val - 1) / 32 = t.val / 32 by omega)
  have ht : st ⟨t.val - 1, hl⟩ + 512 = st t := show 512 * ((t.val - 1) % 32) + 512 = 512 * (t.val % 32) by omega
  have i := handed m c (t.val - 1) hl
  rw [hs, ht] at i
  exact i

/-- The gated linear unit's block at a point. -/
theorem blk13 (t : Fin cfg0.N) (r k : Fin 512) :
    (left m c t.val t.isLt).1 (ix3 0 r k) = vv (args m c) (sq t) (rowOf (st t + r.val)) k := by
  by_cases h : t.val % 32 = 0
  · rw [left_A m c t h]; exact PremixFirst.out13 m c t h r k
  · rw [left_B m c t h]; exact PremixNext.out13 m c t h _ _ (found m c t h).1 (found m c t h).2 r k

/-- The recurrence's block at a point. -/
theorem blk14 (t : Fin cfg0.N) (r k : Fin 512) :
    (left m c t.val t.isLt).2.1 (ix3 0 r k) = yy (args m c) (sq t) (rowOf (st t + r.val)) k := by
  by_cases h : t.val % 32 = 0
  · rw [left_A m c t h]; exact PremixFirst.out14 m c t h r k
  · rw [left_B m c t h]; exact PremixNext.out14 m c t h _ _ (found m c t h).1 (found m c t h).2 r k

/-- The gated linear unit's array after the run. -/
theorem final13 : (dats m 0 c).arrAt 13 (cfgs 0).N = (fun i : S2x16384x512.Idx => vv (args m c) (i 0) (i 1) (i 2)) := by
  refine (dats m 0 c).arrAt_eq_of_covers 13 _ (by decide +kernel) fun t _ y => ?_
  blk_simp
  rw [after_13]
  obtain ⟨r, k, rfl⟩ : ∃ r k, y = ix3 0 r k := ⟨y 1, y 2, by
    refine (eq_ix3 y).trans ?_
    exact congrArg (fun a => ix3 a (y 1) (y 2)) (Subsingleton.elim (α := Fin 1) _ _)⟩
  have he : ((cfg0.win 13).blk t).view.emb (ix3 0 r k) = (ix3 (sq t) (rowOf (st t + r.val)) k : S2x16384x512.Idx) := by
    rw [rowOf_tile]
    blk_point [idx t]
  refine (blk13 m c t r k).trans ?_
  exact (congrArg (fun i : S2x16384x512.Idx => vv (args m c) (i 0) (i 1) (i 2)) he).symm

/-- The recurrence's array after the run. -/
theorem final14 : (dats m 0 c).arrAt 14 (cfgs 0).N = (fun i : S2x16384x512.Idx => yy (args m c) (i 0) (i 1) (i 2)) := by
  refine (dats m 0 c).arrAt_eq_of_covers 14 _ (by decide +kernel) fun t _ y => ?_
  blk_simp
  rw [after_14]
  obtain ⟨r, k, rfl⟩ : ∃ r k, y = ix3 0 r k := ⟨y 1, y 2, by
    refine (eq_ix3 y).trans ?_
    exact congrArg (fun a => ix3 a (y 1) (y 2)) (Subsingleton.elim (α := Fin 1) _ _)⟩
  have he : ((cfg0.win 14).blk t).view.emb (ix3 0 r k) = (ix3 (sq t) (rowOf (st t + r.val)) k : S2x16384x512.Idx) := by
    rw [rowOf_tile]
    blk_point [idx t]
  refine (blk14 m c t r k).trans ?_
  exact (congrArg (fun i : S2x16384x512.Idx => yy (args m c) (i 0) (i 1) (i 2)) he).symm

/-- The call ends with the two arrays of the closed form and its arguments as they were. -/
theorem run : θ_run (defs (F := Ideal)) (onTc (τ := τ) (main (F := Ideal))) ⟨m, fun _ => 0, ρ⟩ fun r => ∀ c : Dev nD,
    r.2.mem ((c.tc : Thread nD τ).loc main_v55_0) = (fun i : S2x16384x512.Idx => vv (args m c) (i 0) (i 1) (i 2))
      ∧ r.2.mem ((c.tc : Thread nD τ).loc main_v55_1) = (fun i : S2x16384x512.Idx => yy (args m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).1 13).trans (final13 m c), ((h c).1 14).trans (final14 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.PremixValue
end
-- ==== Proof.PremixRef.lean ====
module

public import proofs.«01_k».proof.Proof.PremixMath
public import proofs.«01_k».proof.Proof.Gen.PremixRefIdeal.Run

@[expose] public section

/-! # What the reference of the input projection and the gated recurrence computes before its loop -/

set_option maxRecDepth 16384

noncomputable section

namespace Cert.PremixRef

open Idealize.ShloMosaic Idealize.ShloMosaic.TcCoe Idealize.ShloMosaic.StableHlo
open Cert.PremixRefIdeal Cert.PremixRefIdeal.Gen Cert.PremixRefIdeal.Value Cert.Scalar Cert.PremixMath
open Cert.PremixBody (gelu softplus decay)

/-- A buffer's entries as numbers. -/
abbrev rd (S : Shape) (v : FVec Ideal S .f32) : S.Idx → EReal := v

variable (V : Valuation τ sig (Elt Ideal))

/-- The arguments of a valuation. -/
def args : Args where
  x := V (Proc.devRef .tc main_arg0)
  mod := V (Proc.devRef .tc main_arg1)
  nm := V (Proc.devRef .tc main_arg3)
  w := V (Proc.devRef .tc main_arg4)
  wc := V (Proc.devRef .tc main_arg5)
  bc := V (Proc.devRef .tc main_arg6)
  wa := V (Proc.devRef .tc main_arg7)
  ba := V (Proc.devRef .tc main_arg8)
  wx := V (Proc.devRef .tc main_arg9)
  bx := V (Proc.devRef .tc main_arg10)
  lam := V (Proc.devRef .tc main_arg11)

/-- The rows the recurrence's convolution reads. -/
theorem lx_at (b : Fin 2) (n : Fin 16384) (k : Fin 512) :
    (after hostOps0 V (Proc.devRef .tc main_v32) : FVec Ideal S2x16384x512 .f32) (ix3 b n k) = proj (args V) b n ⟨2328 + k.val, by omega⟩ := by
  simp only [hostOps0]
  after_results_simp
  pointwise [proj, args, modNorm, rms]

/-- The rows the recurrence's gate reads. -/
theorem lg_at (b : Fin 2) (n : Fin 16384) (k : Fin 512) :
    (after hostOps0 V (Proc.devRef .tc main_v33) : FVec Ideal S2x16384x512 .f32) (ix3 b n k) = proj (args V) b n ⟨2840 + k.val, by omega⟩ := by
  simp only [hostOps0]
  after_results_simp
  pointwise [proj, args, modNorm, rms]

/-- The gated linear unit. -/
theorem glu_at (b : Fin 2) (n : Fin 16384) (k : Fin 512) :
    (after hostOps0 V (Proc.devRef .tc main_v42) : FVec Ideal S2x16384x512 .f32) (ix3 b n k)
      = proj (args V) b n ⟨k.val, by omega⟩ * PremixBody.logistic (proj (args V) b n ⟨512 + k.val, by omega⟩) := by
  simp only [hostOps0]
  after_results_simp
  pointwise [proj, args, modNorm, rms, PremixBody.logistic]

/-- The taps. -/
theorem wconv_at (j : Fin 4) (k : Fin 512) :
    (after hostOps0 V (Proc.devRef .tc main_v44) : FVec Ideal S4x512 .f32) (ix2 j k)
      = (V (Proc.devRef .tc main_arg5) : FVec Ideal S2x4x512 .f32) (ix3 0 j k) := by
  simp only [hostOps0]
  after_results_simp
  pointwise []

/-- The convolution's bias. -/
theorem bconv_at (k : Fin 512) :
    (after hostOps0 V (Proc.devRef .tc main_v46) : FVec Ideal S512 .f32) (ix1 k)
      = (V (Proc.devRef .tc main_arg6) : FVec Ideal S2x512 .f32) (ix2 0 k) := by
  simp only [hostOps0]
  after_results_simp
  pointwise []

/-- The recurrence gate's matrices. -/
theorem wa_at (h : Fin 8) (i j : Fin 64) :
    (after hostOps0 V (Proc.devRef .tc main_v48) : FVec Ideal S8x64x64 .f32) (ix3 h i j)
      = (V (Proc.devRef .tc main_arg7) : FVec Ideal S2x8x64x64 .f32) (ix4 0 h i j) := by
  simp only [hostOps0]
  after_results_simp
  pointwise []

/-- The recurrence gate's bias. -/
theorem ba_at (k : Fin 512) :
    (after hostOps0 V (Proc.devRef .tc main_v50) : FVec Ideal S512 .f32) (ix1 k)
      = (V (Proc.devRef .tc main_arg8) : FVec Ideal S2x512 .f32) (ix2 0 k) := by
  simp only [hostOps0]
  after_results_simp
  pointwise []

/-- The input gate's matrices. -/
theorem wx_at (h : Fin 8) (i j : Fin 64) :
    (after hostOps0 V (Proc.devRef .tc main_v52) : FVec Ideal S8x64x64 .f32) (ix3 h i j)
      = (V (Proc.devRef .tc main_arg9) : FVec Ideal S2x8x64x64 .f32) (ix4 0 h i j) := by
  simp only [hostOps0]
  after_results_simp
  pointwise []

/-- The input gate's bias. -/
theorem bx_at (k : Fin 512) :
    (after hostOps0 V (Proc.devRef .tc main_v54) : FVec Ideal S512 .f32) (ix1 k)
      = (V (Proc.devRef .tc main_arg10) : FVec Ideal S2x512 .f32) (ix2 0 k) := by
  simp only [hostOps0]
  after_results_simp
  pointwise []

/-- The recurrence's parameter. -/
theorem lam_at (k : Fin 512) :
    (after hostOps0 V (Proc.devRef .tc main_v56) : FVec Ideal S512 .f32) (ix1 k)
      = (V (Proc.devRef .tc main_arg11) : FVec Ideal S2x512 .f32) (ix2 0 k) := by
  simp only [hostOps0]
  after_results_simp
  pointwise []

/-- The padding's value. -/
theorem c_at (i : S_.Idx) : (after hostOps0 V (Proc.devRef .tc main_c) : IVec S_ 32) i = 0#32 := by
  simp only [hostOps0]
  after_results_simp
  rfl

/-- Three rows of the padding value in front of an array's rows. -/
theorem pad_rows (X : FVec Ideal S2x16384x512 .f32) (v : FVec Ideal S_ .f32) (hp : S2x16384x512.Pads ![0, 3, 0] ![0, 0, 0] ![0, 0, 0] S2x16387x512)
    (hu : 0 < S_.numel) (b : Fin 2) (n : Fin 16387) (k : Fin 512) :
    pad S2x16387x512 ![0, 3, 0] ![0, 0, 0] ![0, 0, 0] X v hp hu (ix3 b n k)
      = if h : 3 ≤ n.val then X (ix3 b ⟨n.val - 3, by omega⟩ k) else v (Shape.Idx.first hu) := by
  rw [pad_apply]
  by_cases h : 3 ≤ n.val
  · rw [dif_pos h, dif_pos]
    · show X _ = X _
      congr 1
      funext a
      fin_cases a
      · exact Fin.ext (by show (b.val - 0) / (0 + 1) = b.val; omega)
      · exact Fin.ext (by show (n.val - 3) / (0 + 1) = n.val - 3; omega)
      · exact Fin.ext (by show (k.val - 0) / (0 + 1) = k.val; omega)
    · intro a
      fin_cases a
      · show 0 ≤ b.val ∧ (b.val - 0) % (0 + 1) = 0 ∧ (b.val - 0) / (0 + 1) < 2; omega
      · show 3 ≤ n.val ∧ (n.val - 3) % (0 + 1) = 0 ∧ (n.val - 3) / (0 + 1) < 16384; omega
      · show 0 ≤ k.val ∧ (k.val - 0) % (0 + 1) = 0 ∧ (k.val - 0) / (0 + 1) < 512; omega
  · rw [dif_neg h, dif_neg]
    intro hin
    exact h (hin 1).1

/-- The padded rows. -/
theorem pad_at (hc : ∀ i, (V (Proc.devRef .tc main_c) : IVec S_ 32) i = 0#32) (b : Fin 2) (n : Fin 16387) (k : Fin 512) :
    rd S2x16387x512 (after hostOps0_1 V (Proc.devRef .tc main_v57)) (ix3 b n k)
      = if h : 3 ≤ n.val then rd S2x16384x512 (V (Proc.devRef .tc main_v32)) (ix3 b ⟨n.val - 3, by omega⟩ k) else 0 := by
  simp only [hostOps0_1]
  after_results_simp
  refine (pad_rows (V (Proc.devRef .tc main_v32)) (sitofp .f32 (V (Proc.devRef .tc main_c) : IVec S_ 32)) pads_S2x16384x512_S2x16387x512_000_300_000 h_S_ b n k).trans ?_
  split
  · rfl
  · show ((((V (Proc.devRef .tc main_c) : IVec S_ 32) _).toInt : ℝ) : EReal) = 0
    rw [hc]
    simp

/-- The convolved row, the recurrence's input. -/
theorem xr_at (b : Fin 2) (n : Fin 16384) (k : Fin 512) :
    rd S2x16384x512 (after hostOps0_2 V (Proc.devRef .tc main_v87)) (ix3 b n k)
      = rd S4x512 (V (Proc.devRef .tc main_v44)) (ix2 0 k)
            * rd S2x16387x512 (V (Proc.devRef .tc main_v57)) (ix3 b ⟨n.val, by omega⟩ k)
          + rd S4x512 (V (Proc.devRef .tc main_v44)) (ix2 1 k)
            * rd S2x16387x512 (V (Proc.devRef .tc main_v57)) (ix3 b ⟨1 + n.val, by omega⟩ k)
          + rd S4x512 (V (Proc.devRef .tc main_v44)) (ix2 2 k)
            * rd S2x16387x512 (V (Proc.devRef .tc main_v57)) (ix3 b ⟨2 + n.val, by omega⟩ k)
          + rd S4x512 (V (Proc.devRef .tc main_v44)) (ix2 3 k)
            * rd S2x16387x512 (V (Proc.devRef .tc main_v57)) (ix3 b ⟨3 + n.val, by omega⟩ k)
          + rd S512 (V (Proc.devRef .tc main_v46)) (ix1 k) := by
  simp only [hostOps0_2]
  after_results_simp
  pointwise []

/-- The input gate. -/
theorem ig_at (b : Fin 2) (n : Fin 16384) (k : Fin 512) :
    rd S2x16384x512 (after hostOps0_2 V (Proc.devRef .tc main_v112)) (ix3 b n k)
      = PremixBody.logistic ((∑ l : Fin 64, rd S8x64x64 (V (Proc.devRef .tc main_v52)) (ix3 ⟨k.val / 64, by omega⟩ l ⟨k.val % 64, by omega⟩)
          * rd S2x16384x512 (after hostOps0_2 V (Proc.devRef .tc main_v87)) (ix3 b n ⟨k.val / 64 * 64 + l.val, by omega⟩))
          + rd S512 (V (Proc.devRef .tc main_v54)) (ix1 k)) := by
  simp only [hostOps0_2]
  after_results_simp
  pointwise [PremixBody.logistic]

/-- The recurrence gate, scaled. -/
theorem rg_at (b : Fin 2) (n : Fin 16384) (k : Fin 512) :
    rd S2x16384x512 (after hostOps0_2 V (Proc.devRef .tc main_v114)) (ix3 b n k)
      = Ideal.ofBits .f32 0xC1000000#32 * PremixBody.logistic ((∑ l : Fin 64, rd S8x64x64 (V (Proc.devRef .tc main_v48)) (ix3 ⟨k.val / 64, by omega⟩ l ⟨k.val % 64, by omega⟩)
          * rd S2x16384x512 (after hostOps0_2 V (Proc.devRef .tc main_v87)) (ix3 b n ⟨k.val / 64 * 64 + l.val, by omega⟩))
          + rd S512 (V (Proc.devRef .tc main_v50)) (ix1 k)) := by
  simp only [hostOps0_2]
  after_results_simp
  pointwise [PremixBody.logistic]

/-- The negated parameter. -/
theorem nlam_at (k : Fin 512) :
    rd S512 (after hostOps0_2 V (Proc.devRef .tc main_v115)) (ix1 k)
      = -rd S512 (V (Proc.devRef .tc main_v56)) (ix1 k) := by
  simp only [hostOps0_2]
  after_results_simp
  pointwise []

/-- The softplus. -/
theorem sp_at (k : Fin 512) (l : EReal) (h : rd S512 (V (Proc.devRef .tc main_v115)) (ix1 k) = -l) :
    rd S512 (after hostOps0_3 V (Proc.devRef .tc main_v116)) (ix1 k) = softplus l := by
  simp only [hostOps0_3]
  after_results_simp
  generalize hX : V (Proc.devRef .tc main_v115) = X at h
  show (if BitVec.ofBool (decide ((rd S512 X (ix1 k) - Ideal.ofBits .f32 0x00000000#32) ≠ (rd S512 X (ix1 k) - Ideal.ofBits .f32 0x00000000#32))) = 1#1
      then rd S512 X (ix1 k) + Ideal.ofBits .f32 0x00000000#32
      else max (rd S512 X (ix1 k)) (Ideal.ofBits .f32 0x00000000#32)
        + Ideal.log1p (Ideal.exp (-(max (rd S512 X (ix1 k) - Ideal.ofBits .f32 0x00000000#32) (-(rd S512 X (ix1 k) - Ideal.ofBits .f32 0x00000000#32)))))) = _
  have z : Ideal.ofBits .f32 0x00000000#32 = 0 := by simp [Ideal.ofBits, Ideal.ieee]
  rw [h, z, if_neg (by simp), softplus_eq]

/-- The decays on entry to the loop. -/
theorem ent_a (n : Fin 16384) (b : Fin 2) (k : Fin 512) :
    rd S16384x2x512 (after hostOps0_4 V (Proc.devRef .tc main_v132_0)) (ix3 n b k)
      = Ideal.exp (rd S2x16384x512 (V (Proc.devRef .tc main_v114)) (ix3 b n k) * rd S512 (V (Proc.devRef .tc main_v116)) (ix1 k)) := by
  simp only [hostOps0_4]
  after_results_simp
  pointwise [id]

/-- The added terms on entry to the loop. -/
theorem ent_b (n : Fin 16384) (b : Fin 2) (k : Fin 512) :
    rd S16384x2x512 (after hostOps0_4 V (Proc.devRef .tc main_v132_1)) (ix3 n b k)
      = Ideal.sqrt (-(Ideal.expm1 (Ideal.ofBits .f32 0x40000000#32
          * (rd S2x16384x512 (V (Proc.devRef .tc main_v114)) (ix3 b n k) * rd S512 (V (Proc.devRef .tc main_v116)) (ix1 k)))))
        * (rd S2x16384x512 (V (Proc.devRef .tc main_v112)) (ix3 b n k) * rd S2x16384x512 (V (Proc.devRef .tc main_v87)) (ix3 b n k)) := by
  simp only [hostOps0_4]
  after_results_simp
  pointwise [id]
  rfl

/-- The state on entry to the loop. -/
theorem ent_h (b : Fin 2) (k : Fin 512) :
    rd S2x512 (after hostOps0_4 V (Proc.devRef .tc main_v132_3)) (ix2 b k) = 0 := by
  simp only [hostOps0_4]
  after_results_simp
  pointwise [id]

/-- The first result after the loop. -/
theorem post_v : after hostOps0_5 V (Proc.devRef .tc main_v42) = V (Proc.devRef .tc main_v42) := by
  simp only [hostOps0_5]
  after_results_simp

/-- The second result after the loop. -/
theorem post_y (b : Fin 2) (n : Fin 16384) (k : Fin 512) :
    (after hostOps0_5 V (Proc.devRef .tc main_v148) : FVec Ideal S2x16384x512 .bf16) (ix3 b n k)
      = rd S16384x2x512 (V (Proc.devRef .tc main_v132_4)) (ix3 n b k) * gelu (rd S2x16384x512 (V (Proc.devRef .tc main_v33)) (ix3 b n k)) := by
  simp only [hostOps0_5]
  after_results_simp
  pointwise [gelu]
  rw [← mul_assoc (rd S2x16384x512 (V (Proc.devRef .tc main_v33)) (ix3 b n k)), mul_comm (rd S2x16384x512 (V (Proc.devRef .tc main_v33)) (ix3 b n k)) (Ideal.ofBits .f32 0x3F000000#32)]

/-- A row of a stacked array, read at a counted place. -/
theorem slice_row (X : FVec Ideal S16384x2x512 .f32) (s : Fin 3 → Int) (kk : ℕ) (hk : kk < 16384) (h0 : s 0 = kk) (h1 : s 1 = 0) (h2 : s 2 = 0)
    (hs : S16384x2x512.Slices (fun _ => 0) S1x2x512) (sc : S1x2x512.ShapeCasts S2x512) (b : Fin 2) (k : Fin 512) :
    shapeCast S2x512 (Host.dynamicSlice S1x2x512 X s hs) sc (ix2 b k) = X (ix3 ⟨kk, hk⟩ b k) := by
  have c0 : Host.clampedStart S16384x2x512 S1x2x512 hs.1 s 0 = kk := Host.clampedStart_of_le hs.1 s 0 kk h0 (by show kk + 1 ≤ 16384; omega)
  have c1 : Host.clampedStart S16384x2x512 S1x2x512 hs.1 s 1 = 0 := Host.clampedStart_of_le hs.1 s 1 0 h1 (by show 0 + 2 ≤ 2; omega)
  have c2 : Host.clampedStart S16384x2x512 S1x2x512 hs.1 s 2 = 0 := Host.clampedStart_of_le hs.1 s 2 0 h2 (by show 0 + 512 ≤ 512; omega)
  pointwise []
  simp only [c0, c1, c2, Nat.zero_add]

/-- A stacked array with one row replaced at a counted place. -/
theorem update_row (X : FVec Ideal S16384x2x512 .f32) (u : FVec Ideal S2x512 .f32) (s : Fin 3 → Int) (kk : ℕ) (hk : kk < 16384)
    (h0 : s 0 = kk) (h1 : s 1 = 0) (h2 : s 2 = 0) (hs : S16384x2x512.Slices (fun _ => 0) S1x2x512)
    (n : Fin 16384) (b : Fin 2) (k : Fin 512) :
    Host.dynamicUpdateSlice X (broadcastInDim S1x2x512 ![1, 2] bcast_S2x512_S1x2x512_1_2 u) s hs (ix3 n b k)
      = if n.val = kk then u (ix2 b k) else X (ix3 n b k) := by
  have c0 : Host.clampedStart S16384x2x512 S1x2x512 hs.1 s 0 = kk := Host.clampedStart_of_le hs.1 s 0 kk h0 (by show kk + 1 ≤ 16384; omega)
  have c1 : Host.clampedStart S16384x2x512 S1x2x512 hs.1 s 1 = 0 := Host.clampedStart_of_le hs.1 s 1 0 h1 (by show 0 + 2 ≤ 2; omega)
  have c2 : Host.clampedStart S16384x2x512 S1x2x512 hs.1 s 2 = 0 := Host.clampedStart_of_le hs.1 s 2 0 h2 (by show 0 + 512 ≤ 512; omega)
  rw [Host.dynamicUpdateSlice_apply]
  by_cases h : n.val = kk
  · rw [if_pos h, dif_pos]
    · pointwise []
      simp only [c0, c1, c2, Nat.sub_zero]
    · intro a
      fin_cases a
      · show Host.clampedStart S16384x2x512 S1x2x512 hs.1 s 0 ≤ n.val ∧ n.val < Host.clampedStart S16384x2x512 S1x2x512 hs.1 s 0 + 1
        rw [c0]; omega
      · show Host.clampedStart S16384x2x512 S1x2x512 hs.1 s 1 ≤ b.val ∧ b.val < Host.clampedStart S16384x2x512 S1x2x512 hs.1 s 1 + 2
        rw [c1]; omega
      · show Host.clampedStart S16384x2x512 S1x2x512 hs.1 s 2 ≤ k.val ∧ k.val < Host.clampedStart S16384x2x512 S1x2x512 hs.1 s 2 + 512
        rw [c2]; omega
  · rw [if_neg h, dif_neg]
    intro hin
    have := hin 0
    have this : Host.clampedStart S16384x2x512 S1x2x512 hs.1 s 0 ≤ n.val ∧ n.val < Host.clampedStart S16384x2x512 S1x2x512 hs.1 s 0 + 1 := this
    rw [c0] at this
    omega

/-- The counter after some trips. -/
theorem iv_nat (kk : ℕ) : Scf.iv 0#32 1#32 kk = BitVec.ofNat 32 kk := by
  induction kk with
  | zero => exact Scf.iv_zero _ _
  | succ n ih =>
    rw [Scf.iv_succ, ih]
    apply BitVec.eq_of_toNat_eq
    simp [BitVec.toNat_add]

/-- The counter as a number. -/
theorem iv_int (kk : ℕ) (hk : kk < 16384) : (Scf.iv 0#32 1#32 kk).toInt = kk := by
  have h : (Scf.iv 0#32 1#32 kk).toNat = kk := by rw [iv_nat, BitVec.toNat_ofNat]; omega
  rw [BitVec.toInt_eq_toNat_of_lt (by rw [h]; omega), h]

/-- One trip's state. -/
theorem trip_h (kk : ℕ) (hk : kk < 16384) (hctr : V (Proc.devRef .tc main_v132_2) = fun _ => Scf.iv 0#32 1#32 kk) (b : Fin 2) (k : Fin 512) :
    rd S2x512 (res_main_while0b_v152 V) (ix2 b k)
      = rd S16384x2x512 (V (Proc.devRef .tc main_v132_0)) (ix3 ⟨kk, hk⟩ b k) * rd S2x512 (V (Proc.devRef .tc main_v132_3)) (ix2 b k)
        + rd S16384x2x512 (V (Proc.devRef .tc main_v132_1)) (ix3 ⟨kk, hk⟩ b k) := by
  unfold res_main_while0b_v152
  rw [hctr]
  refine congrArg₂ (fun p q : EReal => p * rd S2x512 (V (Proc.devRef .tc main_v132_3)) (ix2 b k) + q)
    (slice_row (V (Proc.devRef .tc main_v132_0)) _ kk hk (iv_int kk hk) rfl rfl _ _ b k)
    (slice_row (V (Proc.devRef .tc main_v132_1)) _ kk hk (iv_int kk hk) rfl rfl _ _ b k)

/-- One trip's rows. -/
theorem trip_y (kk : ℕ) (hk : kk < 16384) (hctr : V (Proc.devRef .tc main_v132_2) = fun _ => Scf.iv 0#32 1#32 kk) (n : Fin 16384) (b : Fin 2)
    (k : Fin 512) :
    rd S16384x2x512 (step_main_v132_4 V) (ix3 n b k)
      = if n.val = kk then rd S2x512 (res_main_while0b_v152 V) (ix2 b k) else rd S16384x2x512 (V (Proc.devRef .tc main_v132_4)) (ix3 n b k) := by
  unfold step_main_v132_4
  rw [hctr]
  exact update_row (V (Proc.devRef .tc main_v132_4)) (res_main_while0b_v152 V) _ kk hk (iv_int kk hk) rfl rfl _ n b k

/-- The contents after each stretch before the loop. -/
abbrev V1 := after hostOps0 V
abbrev V2 := after hostOps0_1 (V1 V)
abbrev V3 := after hostOps0_2 (V2 V)
abbrev V4 := after hostOps0_3 (V3 V)
abbrev V5 := after hostOps0_4 (V4 V)

/-- The padded rows, from the arguments. -/
theorem u_at (b : Fin 2) (n : Fin 16387) (k : Fin 512) :
    rd S2x16387x512 (V2 V (Proc.devRef .tc main_v57)) (ix3 b n k) = ux (args V) b n.val k := by
  refine (pad_at (V1 V) (c_at V) b n k).trans ?_
  unfold ux
  by_cases h : 3 ≤ n.val
  · rw [dif_pos h, if_pos h]
    refine (lx_at V b ⟨n.val - 3, by omega⟩ k).trans ?_
    rw [← rowOf_val ⟨n.val - 3, by omega⟩]
  · rw [dif_neg h, if_neg h]

/-- The convolved rows, from the arguments. -/
theorem x_at (b : Fin 2) (n : Fin 16384) (k : Fin 512) :
    rd S2x16384x512 (V3 V (Proc.devRef .tc main_v87)) (ix3 b n k) = xr (args V) b n.val k := by
  have e (j : Fin 4) : rd S4x512 (V2 V (Proc.devRef .tc main_v44)) (ix2 j k) = (args V).wc (ix3 0 j k) :=
    (congrFun (after_of_writes_sub hostOps0_1 (V1 V) hostOps0_1_writes (by decide)) _).trans (wconv_at V j k)
  have eb : rd S512 (V2 V (Proc.devRef .tc main_v46)) (ix1 k) = (args V).bc (ix2 0 k) :=
    (congrFun (after_of_writes_sub hostOps0_1 (V1 V) hostOps0_1_writes (by decide)) _).trans (bconv_at V k)
  refine (xr_at (V2 V) b n k).trans ?_
  rw [e, e, e, e, eb, u_at, u_at, u_at, u_at]
  rfl

/-- The input gate, from the arguments. -/
theorem i_at (b : Fin 2) (n : Fin 16384) (k : Fin 512) :
    rd S2x16384x512 (V3 V (Proc.devRef .tc main_v112)) (ix3 b n k) = gate (args V).wx (args V).bx (xr (args V) b n.val) k := by
  have e (h : Fin 8) (i j : Fin 64) : rd S8x64x64 (V2 V (Proc.devRef .tc main_v52)) (ix3 h i j) = (args V).wx (ix4 0 h i j) :=
    (congrFun (after_of_writes_sub hostOps0_1 (V1 V) hostOps0_1_writes (by decide)) _).trans (wx_at V h i j)
  have eb : rd S512 (V2 V (Proc.devRef .tc main_v54)) (ix1 k) = (args V).bx (ix2 0 k) :=
    (congrFun (after_of_writes_sub hostOps0_1 (V1 V) hostOps0_1_writes (by decide)) _).trans (bx_at V k)
  refine (ig_at (V2 V) b n k).trans ?_
  simp only [e, eb, x_at V]
  rfl

/-- The recurrence gate, from the arguments. -/
theorem r_at (b : Fin 2) (n : Fin 16384) (k : Fin 512) :
    rd S2x16384x512 (V3 V (Proc.devRef .tc main_v114)) (ix3 b n k)
      = Ideal.ofBits .f32 0xC1000000#32 * gate (args V).wa (args V).ba (xr (args V) b n.val) k := by
  have e (h : Fin 8) (i j : Fin 64) : rd S8x64x64 (V2 V (Proc.devRef .tc main_v48)) (ix3 h i j) = (args V).wa (ix4 0 h i j) :=
    (congrFun (after_of_writes_sub hostOps0_1 (V1 V) hostOps0_1_writes (by decide)) _).trans (wa_at V h i j)
  have eb : rd S512 (V2 V (Proc.devRef .tc main_v50)) (ix1 k) = (args V).ba (ix2 0 k) :=
    (congrFun (after_of_writes_sub hostOps0_1 (V1 V) hostOps0_1_writes (by decide)) _).trans (ba_at V k)
  refine (rg_at (V2 V) b n k).trans ?_
  simp only [e, eb, x_at V]
  rfl

/-- The softplus, from the arguments. -/
theorem s_at (k : Fin 512) : rd S512 (V4 V (Proc.devRef .tc main_v116)) (ix1 k) = softplus ((args V).lam (ix2 0 k)) := by
  refine sp_at (V3 V) k _ ((nlam_at (V2 V) k).trans ?_)
  exact congrArg Neg.neg ((congrFun (after_of_writes_sub hostOps0_1 (V1 V) hostOps0_1_writes (r := main_v56) (by decide)) _).trans (lam_at V k))

/-- The decays on entry to the loop, from the arguments. -/
theorem a_at (n : Fin 16384) (b : Fin 2) (k : Fin 512) :
    rd S16384x2x512 (V5 V (Proc.devRef .tc main_v132_0)) (ix3 n b k) = aa (args V) b n.val k := by
  have e : rd S2x16384x512 (V4 V (Proc.devRef .tc main_v114)) (ix3 b n k) = _ :=
    (congrFun (after_of_writes_sub hostOps0_3 (V3 V) hostOps0_3_writes (by decide)) _).trans (r_at V b n k)
  refine (ent_a (V4 V) n b k).trans ?_
  rw [e, s_at]
  rfl

/-- The added terms on entry to the loop, from the arguments. -/
theorem b_at (n : Fin 16384) (b : Fin 2) (k : Fin 512) :
    rd S16384x2x512 (V5 V (Proc.devRef .tc main_v132_1)) (ix3 n b k) = bb (args V) b n.val k := by
  have e : rd S2x16384x512 (V4 V (Proc.devRef .tc main_v114)) (ix3 b n k) = _ :=
    (congrFun (after_of_writes_sub hostOps0_3 (V3 V) hostOps0_3_writes (by decide)) _).trans (r_at V b n k)
  have ei : rd S2x16384x512 (V4 V (Proc.devRef .tc main_v112)) (ix3 b n k) = _ :=
    (congrFun (after_of_writes_sub hostOps0_3 (V3 V) hostOps0_3_writes (by decide)) _).trans (i_at V b n k)
  have ex : rd S2x16384x512 (V4 V (Proc.devRef .tc main_v87)) (ix3 b n k) = _ :=
    (congrFun (after_of_writes_sub hostOps0_3 (V3 V) hostOps0_3_writes (by decide)) _).trans (x_at V b n k)
  refine (ent_b (V4 V) n b k).trans ?_
  rw [e, ei, ex, s_at, scale_eq]
  rfl

variable (m : (ℓ : Loc nD τ sig) → Buf (Elt Ideal) ℓ) (ρ : Dev nD → PrngReg)

/-- The arguments at the launch. -/
abbrev ar (c : Dev nD) : Args := args (launchContents m c)

/-- The carried buffers after some trips: the decays and the added terms as on entry, the counter, the state, and the rows
    written so far. -/
theorem loop_at (c : Dev nD) (kk : ℕ) (hk : kk ≤ 16384) :
    (∀ n b k, rd S16384x2x512 (STEP^[kk] (entryContents preI m c) (Proc.devRef .tc main_v132_0)) (ix3 n b k) = aa (ar m c) b n.val k)
    ∧ (∀ n b k, rd S16384x2x512 (STEP^[kk] (entryContents preI m c) (Proc.devRef .tc main_v132_1)) (ix3 n b k) = bb (ar m c) b n.val k)
    ∧ (∀ b k, rd S2x512 (STEP^[kk] (entryContents preI m c) (Proc.devRef .tc main_v132_3)) (ix2 b k) = hh (ar m c) b k kk)
    ∧ (∀ n b k, n.val < kk →
        rd S16384x2x512 (STEP^[kk] (entryContents preI m c) (Proc.devRef .tc main_v132_4)) (ix3 n b k) = hh (ar m c) b k (n.val + 1)) := by
  induction kk with
  | zero => exact ⟨fun n b k => a_at _ n b k, fun n b k => b_at _ n b k, fun b k => ent_h (V4 (launchContents m c)) b k,
      fun n b k h => absurd h (Nat.not_lt_zero _)⟩
  | succ kk ih =>
    obtain ⟨ha, hb, hs, hy⟩ := ih (by omega)
    have hctr : STEP^[kk] (entryContents preI m c) (Proc.devRef .tc main_v132_2) = fun _ => Scf.iv 0#32 1#32 kk :=
      (atK_agree m c kk main_v132_2 (by decide)).symm.trans (atK_ctr m c kk)
    rw [Function.iterate_succ_apply']
    generalize STEP^[kk] (entryContents preI m c) = S at ha hb hs hy hctr
    have hstate (b k) : rd S2x512 (res_main_while0b_v152 S) (ix2 b k) = hh (ar m c) b k (kk + 1) := by
      rw [trip_h S kk (by omega) hctr, ha, hb, hs]
      rfl
    refine ⟨fun n b k => (congrFun (STEP_main_v132_0 S) _).trans (ha n b k), fun n b k => (congrFun (STEP_main_v132_1 S) _).trans (hb n b k),
      fun b k => (congrFun (STEP_main_v132_3 S) _).trans (hstate b k), fun n b k hn => (congrFun (STEP_main_v132_4 S) _).trans ?_⟩
    refine (trip_y S kk (by omega) hctr n b k).trans ?_
    split
    · rename_i e
      rw [hstate, e]
    · exact hy n b k (by omega)

/-- A buffer no stretch of the loop writes is as on entry after any number of trips. -/
theorem kept_loop (c : Dev nD) (r : Ref sig .tc) (h : r ∉ condOps_W ++ while0Ops0_W ++ while0Ops0_1_W ++ while0Ops0_2_W ++ while0Ops0_3_W ++ while0Ops0_4_W)
    (kk : ℕ) : atK m kk c (Proc.devRef .tc r) = entryContents preI m c (Proc.devRef .tc r) := by
  simp only [List.mem_append, not_or] at h
  induction kk with
  | zero => rfl
  | succ kk ih =>
    rw [show atK m (kk + 1) c = afterL bodyI (after condOps (atK m kk c)) from rfl]
    simp only [afterL_cons, afterL_nil]
    rw [after_of_writes_sub while0Ops0_4 _ while0Ops0_4_writes h.2, after_of_writes_sub while0Ops0_3 _ while0Ops0_3_writes h.1.2,
      after_of_writes_sub while0Ops0_2 _ while0Ops0_2_writes h.1.1.2, after_of_writes_sub while0Ops0_1 _ while0Ops0_1_writes h.1.1.1.2,
      after_of_writes_sub while0Ops0 _ while0Ops0_writes h.1.1.1.1.2, after_of_writes_sub condOps _ condOps_writes h.1.1.1.1.1]
    exact ih

/-- A buffer the stretches after the first do not write is, on entry to the loop, as the first left it. -/
theorem kept_entry (c : Dev nD) (r : Ref sig .tc) (h : r ∉ hostOps0_1_W ++ hostOps0_2_W ++ hostOps0_3_W ++ hostOps0_4_W) :
    entryContents preI m c (Proc.devRef .tc r) = V1 (launchContents m c) (Proc.devRef .tc r) := by
  simp only [List.mem_append, not_or] at h
  show after hostOps0_4 (after hostOps0_3 (after hostOps0_2 (after hostOps0_1 (V1 (launchContents m c))))) _ = _
  rw [after_of_writes_sub hostOps0_4 _ hostOps0_4_writes h.2, after_of_writes_sub hostOps0_3 _ hostOps0_3_writes h.1.2,
    after_of_writes_sub hostOps0_2 _ hostOps0_2_writes h.1.1.2, after_of_writes_sub hostOps0_1 _ hostOps0_1_writes h.1.1.1]

/-- The contents when the loop has ended. -/
abbrev fin (c : Dev nD) : Valuation τ sig (Elt Ideal) := after condOps (atK m 16384 c)

theorem fin_kept (c : Dev nD) (r : Ref sig .tc) (h : r ∉ condOps_W ++ while0Ops0_W ++ while0Ops0_1_W ++ while0Ops0_2_W ++ while0Ops0_3_W ++ while0Ops0_4_W)
    (h' : r ∉ hostOps0_1_W ++ hostOps0_2_W ++ hostOps0_3_W ++ hostOps0_4_W) :
    fin m c (Proc.devRef .tc r) = V1 (launchContents m c) (Proc.devRef .tc r) := by
  have h0 : r ∉ condOps_W := fun e => h (by simp only [List.mem_append]; tauto)
  rw [fin, after_of_writes_sub condOps _ condOps_writes h0, kept_loop m c r h, kept_entry m c r h']

/-- The first result. -/
theorem final_v (c : Dev nD) (b : Fin 2) (n : Fin 16384) (k : Fin 512) :
    rd S2x16384x512 (finalContents condOps preI bodyI postI 16384 m c (Proc.devRef .tc main_v42)) (ix3 b n k) = vv (ar m c) b n k := by
  refine (congrFun (post_v (fin m c)) _).trans ?_
  rw [fin_kept m c main_v42 (by decide) (by decide)]
  exact glu_at _ b n k

/-- The second result. -/
theorem final_y (c : Dev nD) (b : Fin 2) (n : Fin 16384) (k : Fin 512) :
    (finalContents condOps preI bodyI postI 16384 m c (Proc.devRef .tc main_v148) : FVec Ideal S2x16384x512 .bf16) (ix3 b n k) = yy (ar m c) b n k := by
  refine (post_y (fin m c) b n k).trans ?_
  have e : rd S2x16384x512 (fin m c (Proc.devRef .tc main_v33)) (ix3 b n k) = _ :=
    (congrFun (fin_kept m c main_v33 (by decide) (by decide)) _).trans (lg_at _ b n k)
  have ey : rd S16384x2x512 (fin m c (Proc.devRef .tc main_v132_4)) (ix3 n b k) = _ :=
    (congrFun ((cond_keeps (atK m 16384 c) main_v132_4 (by decide)).trans (atK_agree m c 16384 main_v132_4 (by decide))) _).trans
      ((loop_at m c 16384 (le_refl _)).2.2.2 n b k n.isLt)
  rw [e, ey]
  rfl

/-- An argument at the program's end is as at the launch. -/
theorem kept_arg (c : Dev nD) (r : Ref sig .tc) (h : r ∉ condOps_W ++ while0Ops0_W ++ while0Ops0_1_W ++ while0Ops0_2_W ++ while0Ops0_3_W ++ while0Ops0_4_W)
    (h' : r ∉ hostOps0_W ++ hostOps0_1_W ++ hostOps0_2_W ++ hostOps0_3_W ++ hostOps0_4_W)
    (h5 : after hostOps0_5 (fin m c) (Proc.devRef .tc r) = fin m c (Proc.devRef .tc r)) :
    finalContents condOps preI bodyI postI 16384 m c (Proc.devRef .tc r) = m ((c.tc : Thread nD τ).loc r) := by
  refine h5.trans ?_
  have h0 : r ∉ hostOps0_W := fun e => h' (by simp only [List.mem_append]; tauto)
  have h1 : r ∉ hostOps0_1_W ++ hostOps0_2_W ++ hostOps0_3_W ++ hostOps0_4_W := fun e => h' (by simp only [List.mem_append] at e ⊢; tauto)
  rw [fin_kept m c r h h1, V1, after_of_writes_sub hostOps0 _ hostOps0_writes h0]

/-- The reference runs, ends with the two closed forms, and leaves its arguments as they were. -/
theorem run : θ_run (defs (F := Ideal)) (onTc (τ := τ) (main (F := Ideal))) ⟨m, fun _ => 0, ρ⟩ fun r => ∀ c : Dev nD,
    r.2.mem ((c.tc : Thread nD τ).loc main_v42) = (fun i : S2x16384x512.Idx => vv (ar m c) (i 0) (i 1) (i 2))
      ∧ r.2.mem ((c.tc : Thread nD τ).loc main_v148) = (fun i : S2x16384x512.Idx => yy (ar m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨
    (h c main_v42 rfl).trans (by
      funext i
      obtain ⟨b, n, k, rfl⟩ : ∃ (b : Fin 2) (n : Fin 16384) (k : Fin 512), i = ix3 b n k := ⟨i 0, i 1, i 2, by funext a; fin_cases a <;> rfl⟩
      exact final_v m c b n k),
    (h c main_v148 rfl).trans (by
      funext i
      obtain ⟨b, n, k, rfl⟩ : ∃ (b : Fin 2) (n : Fin 16384) (k : Fin 512), i = ix3 b n k := ⟨i 0, i 1, i 2, by funext a; fin_cases a <;> rfl⟩
      exact final_y m c b n k),
    (h c main_arg0 rfl).trans (kept_arg m c main_arg0 (by decide) (by decide) (by simp only [hostOps0_5]; after_results_simp)),
    (h c main_arg1 rfl).trans (kept_arg m c main_arg1 (by decide) (by decide) (by simp only [hostOps0_5]; after_results_simp)),
    (h c main_arg2 rfl).trans (kept_arg m c main_arg2 (by decide) (by decide) (by simp only [hostOps0_5]; after_results_simp)),
    (h c main_arg3 rfl).trans (kept_arg m c main_arg3 (by decide) (by decide) (by simp only [hostOps0_5]; after_results_simp)),
    (h c main_arg4 rfl).trans (kept_arg m c main_arg4 (by decide) (by decide) (by simp only [hostOps0_5]; after_results_simp)),
    (h c main_arg5 rfl).trans (kept_arg m c main_arg5 (by decide) (by decide) (by simp only [hostOps0_5]; after_results_simp)),
    (h c main_arg6 rfl).trans (kept_arg m c main_arg6 (by decide) (by decide) (by simp only [hostOps0_5]; after_results_simp)),
    (h c main_arg7 rfl).trans (kept_arg m c main_arg7 (by decide) (by decide) (by simp only [hostOps0_5]; after_results_simp)),
    (h c main_arg8 rfl).trans (kept_arg m c main_arg8 (by decide) (by decide) (by simp only [hostOps0_5]; after_results_simp)),
    (h c main_arg9 rfl).trans (kept_arg m c main_arg9 (by decide) (by decide) (by simp only [hostOps0_5]; after_results_simp)),
    (h c main_arg10 rfl).trans (kept_arg m c main_arg10 (by decide) (by decide) (by simp only [hostOps0_5]; after_results_simp)),
    (h c main_arg11 rfl).trans (kept_arg m c main_arg11 (by decide) (by decide) (by simp only [hostOps0_5]; after_results_simp))⟩)
    (run_fold m ρ)

end Cert.PremixRef

end
-- ==== Proof.PremixPair.lean ====
/- The input-projection call and its reference end with the same two arrays. -/
module

public import proofs.«01_k».proof.Defs
public import proofs.«01_k».proof.Proof.PremixValue
public import proofs.«01_k».proof.Proof.PremixRef

@[expose] public section
set_option maxRecDepth 16384

noncomputable section

namespace Cert.PremixPair
open Idealize.ShloMosaic Idealize.SL.Sem

set_option maxHeartbeats 2000000

/-- The call and its reference end with the same arrays: both are the closed form of the same arguments. -/
theorem algebraic : Cert.algebraic_PremixIdeal_PremixRefIdeal := by
  pair_intro
  · run_from Cert.PremixValue.run m g
  · run_from Cert.PremixRef.run m' g'
    all_goals
      obtain ⟨h0, h1, h2, h3, h4, h5, h6, h7, h8, h9, h10, h11⟩ := hagree c
      have e : PremixRef.ar m' c = PremixBlocks.args m c := by
        show PremixMath.Args.mk _ _ _ _ _ _ _ _ _ _ _ = PremixMath.Args.mk _ _ _ _ _ _ _ _ _ _ _
        exact PremixMath.Args.mk.injEq .. |>.mpr ⟨h0, h1, h3, h4, h5, h6, h7, h8, h9, h10, h11⟩
      rw [e]

end Cert.PremixPair
end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.FfnFirst.Frame
public import proofs.«01_k».proof.Proof.Gen.FfnFirstIdeal.Value
public import proofs.«01_k».proof.Proof.Gen.FfnFirstRefIdeal.Run
public import proofs.«01_k».proof.Proof.FfnValue
public import proofs.«01_k».proof.Proof.FfnRef
public import proofs.«01_k».proof.Proof.FfnFirst
public import proofs.«01_k».proof.Proof.MergeValue
public import proofs.«01_k».proof.Proof.MergeRef
public import proofs.«01_k».proof.Proof.Gen.Premix.Frame.RunB
public import proofs.«01_k».proof.Proof.Gen.PremixIdeal.Frame.RunB
public import proofs.«01_k».proof.Proof.Gen.PremixRefIdeal.Run
public import proofs.«01_k».proof.Proof.PremixPair
public import proofs.«01_k».proof.Proof.PremixRef
public import proofs.«01_k».proof.Proof.PremixBits
public import Idealize.ShloMosaic.Lib.Claim
public import Idealize.ShloMosaic.Adequacy
public import Idealize.ShloMosaic.Init

@[expose] public section

noncomputable section

namespace Cert.Proof

open Idealize.ShloMosaic Idealize.SL.Sem

/-- The feed-forward call and its reference end with the same array. -/
theorem ffn_algebraic : Cert.algebraic_FfnIdeal_FfnRefIdeal := by
  pair_intro
  · run_from Cert.FfnIdeal.Gen.run_main m g
  · run_from Cert.FfnRefIdeal.Value.run m' g'
    rw [Cert.FfnValue.final m c, Cert.FfnRefValue.ref_eq m' c]
    obtain ⟨h0, h1, h2, h3, h4, h5⟩ := hagree c
    rw [h0, h1, h2, h3, h4, h5]

/-- The reference of the feed-forward call runs and leaves its arguments unchanged. -/
theorem ffn_ref_frame : Cert.quiescent_FfnRefIdeal := by
  intro m ρ _
  exact (θ_run Cert.FfnRefIdeal.defs _ _).mono
    (fun r h => ⟨fun c => (h c).2, Idealize.ShloMosaic.sem_eq_zero_of_no_sems (by decide) r.2⟩)
    (Cert.FfnRefIdeal.Value.run m ρ)

set_option maxHeartbeats 2000000 in
/-- The merge call and its reference end with the same array. -/
theorem merge_algebraic : Cert.algebraic_MergeIdeal_MergeRefIdeal := by
  pair_intro
  · run_from Cert.MergeIdeal.Value.run_blocks m g
  · run_from Cert.MergeRefValue.run m' g'
    rw [Cert.MergeValue.final m c]

/-- The reference of the merge call runs and leaves its arguments unchanged. -/
theorem merge_ref_frame : Cert.quiescent_MergeRefIdeal := by
  intro m ρ _
  exact (θ_run Cert.MergeRefIdeal.defs _ _).mono
    (fun r h => ⟨fun c => (h c).2, Idealize.ShloMosaic.sem_eq_zero_of_no_sems (by decide) r.2⟩)
    (Cert.MergeRefIdeal.Value.run m ρ)

/-- The first layer's feed-forward call and its reference end with the same array. -/
theorem first_algebraic : Cert.algebraic_FfnFirstIdeal_FfnFirstRefIdeal := by
  pair_intro
  · run_from Cert.FfnFirstIdeal.Gen.run_main m g
  · run_from Cert.FfnFirstRefIdeal.Value.run m' g'
    rw [Cert.FfnFirst.final m c, Cert.FfnFirst.ref_eq m' c]
    obtain ⟨h0, h1, h2, h3, h4, _⟩ := hagree c
    rw [h0, h1, h2, h3, h4]

/-- The reference of the first layer's feed-forward call runs and leaves its arguments unchanged. -/
theorem first_ref_frame : Cert.quiescent_FfnFirstRefIdeal := by
  intro m ρ _
  exact (θ_run Cert.FfnFirstRefIdeal.defs _ _).mono
    (fun r h => ⟨fun c => (h c).2, Idealize.ShloMosaic.sem_eq_zero_of_no_sems (by decide) r.2⟩)
    (Cert.FfnFirstRefIdeal.Value.run m ρ)

/-- The reference of the input-projection call runs and leaves its arguments unchanged. -/
theorem premix_ref_frame : Cert.quiescent_PremixRefIdeal := by
  intro m ρ _
  exact (θ_run Cert.PremixRefIdeal.defs _ _).mono
    (fun r h => ⟨fun c => (h c).2.2, Idealize.ShloMosaic.sem_eq_zero_of_no_sems (by decide) r.2⟩)
    (Cert.PremixRef.run m ρ)

/-- Every claim of the certificate. -/
theorem claim : Cert.Claim := ⟨Cert.Ffn.Gen.facts, Cert.FfnIdeal.Gen.facts, Cert.FfnRefIdeal.Gen.facts,
  Cert.Merge.Gen.facts, Cert.MergeIdeal.Gen.facts, Cert.MergeRefIdeal.Gen.facts,
  Cert.FfnFirst.Gen.facts, Cert.FfnFirstIdeal.Gen.facts, Cert.FfnFirstRefIdeal.Gen.facts,
  Cert.Premix.Gen.facts, Cert.PremixIdeal.Gen.facts, Cert.PremixRefIdeal.Gen.facts,
  fun m ρ _ => Cert.Ffn.Gen.frame m ρ, fun m ρ _ => Cert.FfnIdeal.Gen.frame m ρ, ffn_ref_frame,
  fun m ρ _ => Cert.Merge.Gen.frame m ρ, fun m ρ _ => Cert.MergeIdeal.Gen.frame m ρ, merge_ref_frame,
  fun m ρ _ => Cert.FfnFirst.Gen.frame m ρ, fun m ρ _ => Cert.FfnFirstIdeal.Gen.frame m ρ, first_ref_frame,
  fun m ρ _ => Cert.PremixBits.frame m ρ, fun m ρ _ => Cert.PremixRun.frame m ρ, premix_ref_frame,
  trivial, ffn_algebraic, trivial, merge_algebraic, trivial, first_algebraic, trivial, Cert.PremixPair.algebraic⟩

end Cert.Proof

end
